-- ==== Defs.lean ====
def Pre_Kernel [hPre_idx_in_table : Cert.Pre_idx_in_table.Facts] (m : (ℓ : Loc Cert.Kernel.nD Cert.Kernel.τ Cert.Kernel.sig) → Buf (Elt Bits) ℓ) : Prop :=
  ∀ c : Dev Cert.Kernel.nD,
    (Cert.Pre_idx_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_table : Cert.Pre_idx_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_table [hPre_idx_in_table : Cert.Pre_idx_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_table : Cert.Pre_idx_in_table.Facts] (m : (ℓ : Loc Cert.Reference.nD Cert.Reference.τ Cert.Reference.sig) → Buf (Elt Bits) ℓ) : Prop :=
  ∀ c : Dev Cert.Reference.nD,
    (Cert.Pre_idx_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_table [hReferenceIdeal : Cert.ReferenceIdeal.Facts] [hPre_idx_in_table : Cert.Pre_idx_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_table : Cert.Pre_idx_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.bf16_pair.Statement Cert.Kernel3Ideal.S1x1024x256 Cert.Kernel3Ideal.S1x512x256
  ∧ IdealRules.bf16_pair.SelectZeroStatement Cert.Kernel3Ideal.S512x256
  ∧ IdealRules.bf16_pair.Statement Cert.Kernel3Ideal.S1024x256 Cert.Kernel3Ideal.S512x256
  ∧ IdealRules.named_const.Statement Cert.Kernel3Ideal.κ "neg_log2_e" .f32 0xBFB8AA3B#32 ((-((Real.log 2)⁻¹) : ℝ) : EReal)
  ∧ IdealRules.bf16_pair.PackStatement Cert.Kernel3Ideal.S512x512

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v42)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v108) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_idx_in_table : Cert.Pre_idx_in_table.Facts) (hPre_routed : Cert.Pre_routed.Facts),
    quiescent_Kernel (hKernel := hKernel) (hPre_idx_in_table := hPre_idx_in_table)
    ∧ quiescent_KernelIdeal (hKernelIdeal := hKernelIdeal) (hPre_idx_in_table := hPre_idx_in_table)
    ∧ quiescent_ReferenceIdeal (hReferenceIdeal := hReferenceIdeal)
    ∧ quiescent_ReferenceIdeal_pre_idx_in_table (hReferenceIdeal := hReferenceIdeal) (hPre_idx_in_table := hPre_idx_in_table)
    ∧ quiescent_Reference (hReference := hReference) (hPre_idx_in_table := hPre_idx_in_table)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_idx_in_table := hPre_idx_in_table)
    ∧ bitexact_Kernel_Reference (hKernel := hKernel) (hReference := hReference) (hPre_idx_in_table := hPre_idx_in_table)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_routed := hPre_routed)
    ∧ preserves_Kernel4_Kernel4Ideal
    ∧ algebraic_Kernel4Ideal_Reference4Ideal (hKernel4Ideal := hKernel4Ideal) (hReference4Ideal := hReference4Ideal)
-- ==== Pre_idx_in_table.lean ====
abbrev S294912x256 : Shape := ⟨2, ![294912, 256]⟩
abbrev S1x262144 : Shape := ⟨2, ![1, 262144]⟩
abbrev S_ : Shape := ⟨0, ![]⟩

class Facts : Prop where
  bcast_S_S1x262144 : S_.BroadcastsInDim S1x262144 (![] : Fin 0 → Fin S1x262144.rank)

variable [Facts]

def fn {F : FTy → Type} [FloatOps F] (main_arg0 : IVec S294912x256 32) (main_arg1 : IVec S1x262144 32) : IVec S1x262144 1 :=
  let main_c : IVec S_ 32 := constantI S_ 32 0#32
  let main_v0 : IVec S1x262144 32 := broadcastInDim S1x262144 ![] bcast_S_S1x262144 main_c
  let main_v1 : IVec S1x262144 1 := cmpi .sge main_arg1 main_v0
  let main_c_0 : IVec S_ 32 := constantI S_ 32 294912#32
  let main_v2 : IVec S1x262144 32 := broadcastInDim S1x262144 ![] bcast_S_S1x262144 main_c_0
  let main_v3 : IVec S1x262144 1 := cmpi .slt main_arg1 main_v2
  let main_v4 : IVec S1x262144 1 := andi main_v1 main_v3
  main_v4
-- ==== Pre_routed.lean ====
abbrev S2x294912x256 : Shape := ⟨3, ![2, 294912, 256]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S2x294912x256 .bf16) (main_arg1 : IVec S32 32) (main_arg2 : FVec F S32x1024x2048 .f32) (main_arg3 : FVec F S32x2048 .f32) (main_arg4 : FVec F S32x1024x1024 .f32) (main_arg5 : FVec F S32x1024 .f32) : IVec S32 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 131072#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg1 main_c_1
  let main_c_2 : IVec S_ 32 := constantI S_ 32 131072#32
  let main_v6 : IVec S_ 1 := cmpi .eq main_v5 main_c_2
  let main_v7 : IVec S32 1 := broadcastInDim S32 ![] bcast_S_S32 main_v6
  let main_v8 : IVec S32 1 := andi main_v4 main_v7
  main_v8
-- ==== Kernel.lean ====
abbrev S294912x256 : Shape := ⟨2, ![294912, 256]⟩
abbrev S1x262144 : Shape := ⟨2, ![1, 262144]⟩
abbrev S262144x256 : Shape := ⟨2, ![262144, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x2x128 : Shape := ⟨3, ![128, 2, 128]⟩
abbrev S128 : Shape := ⟨1, ![128]⟩
abbrev S294912x2x128 : Shape := ⟨3, ![294912, 2, 128]⟩

abbrev nBuf : Table → Nat
  | .hbm => 3
  | .local .scVector .vmem => 2
  | _ => 0

abbrev bufTy : (tb : Table) → Fin (nBuf tb) → BufTy
  | .hbm, ⟨0, _⟩ => ⟨S294912x256, .i32⟩
  | .hbm, ⟨1, _⟩ => ⟨S1x262144, .i32⟩
  | .hbm, ⟨2, _⟩ => ⟨S262144x256, .i32⟩
  | .local .scVector .vmem, ⟨0, _⟩ => ⟨S2x1x128, .i32⟩
  | .local .scVector .vmem, ⟨1, _⟩ => ⟨S2x128x256, .i32⟩
  | _, _ => ⟨S294912x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c64_i32_27_r0 : BitVec 32 := 64#32
  let v32_r0 : BitVec 32 := Scalar.addi c0_i32_26_r0 c64_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_68_r0 : BitVec 32 := 63#32
  let v83_r0 : BitVec 1 := Scalar.cmpi .sge arg5_r0 c63_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x256.size a ≤ S2x128x256.size a) ∧
  (∀ (hinb : ∀ a, (k0_off10 arg8_r0) a + S1x128x256.size a ≤ S2x128x256.size a), (Rect.unit (s := S2x128x256) (k0_off10 arg8_r0) S1x128x256.size hinb).LeadingBlock)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2.1
theorem k0_off10_leadingi32 : ∀ (arg8_r0 : BitVec 32) (k0_hw2 : k0_chk2 arg8_r0), (Rect.unit (s := S2x128x256) (k0_off10 arg8_r0) S1x128x256.size (k0_off10_inb arg8_r0 k0_hw2)).LeadingBlock := fun arg8_r0 k0_hw2 => k0_hw2.2 (k0_off10_inb arg8_r0 k0_hw2)

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_55_r0 : BitVec 32 := 63#32
  let v65_r0 : BitVec 1 := Scalar.cmpi .eq arg5_r0 c63_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x262144.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x262144.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S262144x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S262144x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x262144.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x262144.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S262144x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S262144x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c63_i32_33_r0 : BitVec 32 := 63#32
  let v37_r0 : BitVec 32 := Scalar.select v36_r0 c63_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S262144x256.size a)
theorem k0_off19_inb : ∀ (i : grid0.Coords) (v33_4_r0 : BitVec 32) (k0_hw5 : k0_chk5 i v33_4_r0), ∀ a, (k0_off19 i v33_4_r0) a + S128x256.size a ≤ S262144x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S294912x256 : Shape := ⟨2, ![294912, 256]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩

abbrev nBuf : Space → Nat
  | .hbm => 12
  | .vmem => 0
  | .smem => 0
  | _ => 0

abbrev bufTy : (tb : Table) → Fin (tcTables nBuf tb) → BufTy
  | .hbm, ⟨0, _⟩ => ⟨S294912x256, .i32⟩
  | .hbm, ⟨1, _⟩ => ⟨S1x262144, .i32⟩
  | .hbm, ⟨2, _⟩ => ⟨S262144, .i32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x256, .i32⟩
  | _, _ => ⟨S294912x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024 : Shape := ⟨1, ![1024]⟩
abbrev S1024x10336 : Shape := ⟨2, ![1024, 10336]⟩
abbrev S65536x1024 : Shape := ⟨2, ![65536, 1024]⟩
abbrev S1024x512 : Shape := ⟨2, ![1024, 512]⟩
abbrev S1024x1024 : Shape := ⟨2, ![1024, 1024]⟩
abbrev S1024x16 : Shape := ⟨2, ![1024, 16]⟩
abbrev S1024x2048 : Shape := ⟨2, ![1024, 2048]⟩
abbrev S1024x64 : Shape := ⟨2, ![1024, 64]⟩
abbrev S1024x10240 : Shape := ⟨2, ![1024, 10240]⟩
abbrev S_ : Shape := ⟨0, ![]⟩
abbrev S1024x32 : Shape := ⟨2, ![1024, 32]⟩
abbrev S1024x128 : Shape := ⟨2, ![1024, 128]⟩
abbrev S1x1024 : Shape := ⟨2, ![1, 1024]⟩
abbrev S65536x10240 : Shape := ⟨2, ![65536, 10240]⟩
abbrev S65536x128 : Shape := ⟨2, ![65536, 128]⟩
abbrev S2048x1024 : Shape := ⟨2, ![2048, 1024]⟩
abbrev S1024x1280 : Shape := ⟨2, ![1024, 1280]⟩
abbrev S2048x1280 : Shape := ⟨2, ![2048, 1280]⟩
abbrev S2048x128 : Shape := ⟨2, ![2048, 128]⟩
abbrev S2048 : Shape := ⟨1, ![2048]⟩
abbrev S2048x1 : Shape := ⟨2, ![2048, 1]⟩

abbrev nBuf : Space → Nat
  | .hbm => 26
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x10336, .f32⟩
  | .hbm, ⟨3, _⟩ => ⟨S65536x1024, .f32⟩
  | .hbm, ⟨4, _⟩ => ⟨S1024x512, .f32⟩
  | .hbm, ⟨5, _⟩ => ⟨S1024x512, .f32⟩
  | .hbm, ⟨6, _⟩ => ⟨S1024x1024, .f32⟩
  | .hbm, ⟨7, _⟩ => ⟨S1024x1024, .f32⟩
  | .hbm, ⟨8, _⟩ => ⟨S1024x16, .f32⟩
  | .hbm, ⟨9, _⟩ => ⟨S1024x16, .f32⟩
  | .hbm, ⟨10, _⟩ => ⟨S1024x2048, .f32⟩
  | .hbm, ⟨11, _⟩ => ⟨S1024x2048, .f32⟩
  | .hbm, ⟨12, _⟩ => ⟨S1024x512, .f32⟩
  | .hbm, ⟨13, _⟩ => ⟨S1024x512, .f32⟩
  | .hbm, ⟨14, _⟩ => ⟨S1024x64, .f32⟩
  | .hbm, ⟨15, _⟩ => ⟨S1024x1024, .f32⟩
  | .hbm, ⟨16, _⟩ => ⟨S1024x1024, .f32⟩
  | .hbm, ⟨17, _⟩ => ⟨S1024x10240, .f32⟩
  | .hbm, ⟨18, _⟩ => ⟨S1024x10240, .bf16⟩
  | .hbm, ⟨19, _⟩ => ⟨S_, .f32⟩
  | .hbm, ⟨20, _⟩ => ⟨S1024x32, .f32⟩
  | .hbm, ⟨21, _⟩ => ⟨S1024x128, .f32⟩
  | .hbm, ⟨22, _⟩ => ⟨S1024x128, .bf16⟩
  | .hbm, ⟨23, _⟩ => ⟨S1x1024, .f32⟩
  | .hbm, ⟨24, _⟩ => ⟨S65536x10240, .bf16⟩
  | .hbm, ⟨25, _⟩ => ⟨S65536x128, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x128, .bf16⟩
  | .local _ .vmem, ⟨6, _⟩ => ⟨S2048x1280, .bf16⟩
  | .local _ .vmem, ⟨7, _⟩ => ⟨S2048x1280, .bf16⟩
  | .local _ .vmem, ⟨8, _⟩ => ⟨S2048x128, .f32⟩
  | .local _ .vmem, ⟨9, _⟩ => ⟨S2048x128, .f32⟩
  | .local _ .vmem, ⟨10, _⟩ => ⟨S2048x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x8192x1024 : Shape := ⟨3, ![8, 8192, 1024]⟩
abbrev S1024 : Shape := ⟨1, ![1024]⟩
abbrev S1024x10336 : Shape := ⟨2, ![1024, 10336]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x10336 : Shape := ⟨3, ![8, 8192, 10336]⟩
abbrev S65536x10336 : Shape := ⟨2, ![65536, 10336]⟩
abbrev S65536x512 : Shape := ⟨2, ![65536, 512]⟩
abbrev S65536x1024 : Shape := ⟨2, ![65536, 1024]⟩
abbrev S65536x16 : Shape := ⟨2, ![65536, 16]⟩
abbrev S65536x2048 : Shape := ⟨2, ![65536, 2048]⟩
abbrev S65536x64 : Shape := ⟨2, ![65536, 64]⟩
abbrev S65536x10240 : Shape := ⟨2, ![65536, 10240]⟩
abbrev S65536x32 : Shape := ⟨2, ![65536, 32]⟩
abbrev S65536x128 : Shape := ⟨2, ![65536, 128]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x10336, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x10336, .f32⟩
  | .hbm, ⟨20, _⟩ => ⟨S65536x10336, .f32⟩
  | .hbm, ⟨21, _⟩ => ⟨S65536x512, .f32⟩
  | .hbm, ⟨22, _⟩ => ⟨S65536x512, .f32⟩
  | .hbm, ⟨23, _⟩ => ⟨S65536x1024, .f32⟩
  | .hbm, ⟨24, _⟩ => ⟨S65536x1024, .f32⟩
  | .hbm, ⟨25, _⟩ => ⟨S65536x16, .f32⟩
  | .hbm, ⟨26, _⟩ => ⟨S65536x16, .f32⟩
  | .hbm, ⟨27, _⟩ => ⟨S65536x2048, .f32⟩
  | .hbm, ⟨28, _⟩ => ⟨S65536x2048, .f32⟩
  | .hbm, ⟨29, _⟩ => ⟨S65536x512, .f32⟩
  | .hbm, ⟨30, _⟩ => ⟨S65536x512, .f32⟩
  | .hbm, ⟨31, _⟩ => ⟨S65536x64, .f32⟩
  | .hbm, ⟨32, _⟩ => ⟨S65536x1024, .f32⟩
  | .hbm, ⟨33, _⟩ => ⟨S65536x1024, .f32⟩
  | .hbm, ⟨34, _⟩ => ⟨S65536x10240, .f32⟩
  | .hbm, ⟨35, _⟩ => ⟨S_, .f32⟩
  | .hbm, ⟨36, _⟩ => ⟨S65536x32, .f32⟩
  | .hbm, ⟨37, _⟩ => ⟨S65536x128, .f32⟩
  | .hbm, ⟨38, _⟩ => ⟨S65536x10240, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel3.lean ====
abbrev S2x294912x256 : Shape := ⟨3, ![2, 294912, 256]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S32x1x2048 : Shape := ⟨3, ![32, 1, 2048]⟩
abbrev S32x1x1024 : Shape := ⟨3, ![32, 1, 1024]⟩
abbrev S2x1024x256 : Shape := ⟨3, ![2, 1024, 256]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x256 : Shape := ⟨2, ![512, 256]⟩
abbrev S2x512x256 : Shape := ⟨3, ![2, 512, 256]⟩
abbrev S1x512x256 : Shape := ⟨3, ![1, 512, 256]⟩
abbrev S1x1024x256 : Shape := ⟨3, ![1, 1024, 256]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩
abbrev S512x512 : Shape := ⟨2, ![512, 512]⟩

abbrev nBuf : Space → Nat
  | .hbm => 99
  | .vmem => 14
  | .smem => 3
  | _ => 0

abbrev bufTy : (tb : Table) → Fin (tcTables nBuf tb) → BufTy
  | .hbm, ⟨0, _⟩ => ⟨S2x294912x256, .bf16⟩
  | .hbm, ⟨1, _⟩ => ⟨S32, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S288, .i32⟩
  | .hbm, ⟨38, _⟩ => ⟨S_, .i32⟩
  | .hbm, ⟨39, _⟩ => ⟨S288, .i32⟩
  | .hbm, ⟨40, _⟩ => ⟨S288, .i32⟩
  | .hbm, ⟨41, _⟩ => ⟨S1x32, .i32⟩
  | .hbm, ⟨42, _⟩ => ⟨S288x1, .i32⟩
  | .hbm, ⟨43, _⟩ => ⟨S288x32, .i32⟩
  | .hbm, ⟨44, _⟩ => ⟨S288x32, .i32⟩
  | .hbm, ⟨45, _⟩ => ⟨S288x32, .i1⟩
  | .hbm, ⟨46, _⟩ => ⟨S288x32, .i32⟩
  | .hbm, ⟨47, _⟩ => ⟨S_, .i32⟩
  | .hbm, ⟨48, _⟩ => ⟨S288, .i32⟩
  | .hbm, ⟨49, _⟩ => ⟨S_, .i32⟩
  | .hbm, ⟨50, _⟩ => ⟨S288, .i32⟩
  | .hbm, ⟨51, _⟩ => ⟨S_, .i32⟩
  | .hbm, ⟨52, _⟩ => ⟨S288, .i32⟩
  | .hbm, ⟨53, _⟩ => ⟨S288, .i1⟩
  | .hbm, ⟨54, _⟩ => ⟨S_, .i32⟩
  | .hbm, ⟨55, _⟩ => ⟨S288, .i32⟩
  | .hbm, ⟨56, _⟩ => ⟨S288, .i32⟩
  | .hbm, ⟨57, _⟩ => ⟨S288, .i32⟩
  | .hbm, ⟨58, _⟩ => ⟨S288x1, .i32⟩
  | .hbm, ⟨59, _⟩ => ⟨S288, .i32⟩
  | .hbm, ⟨60, _⟩ => ⟨S_, .i32⟩
  | .hbm, ⟨61, _⟩ => ⟨S288, .i32⟩
  | .hbm, ⟨62, _⟩ => ⟨S288, .i1⟩
  | .hbm, ⟨63, _⟩ => ⟨S_, .i32⟩
  | .hbm, ⟨64, _⟩ => ⟨S288, .i32⟩
  | .hbm, ⟨65, _⟩ => ⟨S288, .i32⟩
  | .hbm, ⟨66, _⟩ => ⟨S288, .i32⟩
  | .hbm, ⟨67, _⟩ => ⟨S288x1, .i32⟩
  | .hbm, ⟨68, _⟩ => ⟨S288, .i32⟩
  | .hbm, ⟨69, _⟩ => ⟨S288, .i32⟩
  | .hbm, ⟨70, _⟩ => ⟨S288, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S288, .i32⟩
  | .hbm, ⟨75, _⟩ => ⟨S288, .i32⟩
  | .hbm, ⟨76, _⟩ => ⟨S_, .i32⟩
  | .hbm, ⟨77, _⟩ => ⟨S288, .i32⟩
  | .hbm, ⟨78, _⟩ => ⟨S1, .i32⟩
  | .hbm, ⟨79, _⟩ => ⟨S_, .i32⟩
  | .hbm, ⟨80, _⟩ => ⟨S_, .i32⟩
  | .hbm, ⟨81, _⟩ => ⟨S1, .i32⟩
  | .hbm, ⟨82, _⟩ => ⟨S1, .i32⟩
  | .hbm, ⟨83, _⟩ => ⟨S1, .i32⟩
  | .hbm, ⟨84, _⟩ => ⟨S_, .i32⟩
  | .hbm, ⟨85, _⟩ => ⟨S1, .i32⟩
  | .hbm, ⟨86, _⟩ => ⟨S1, .i1⟩
  | .hbm, ⟨87, _⟩ => ⟨S1, .i32⟩
  | .hbm, ⟨88, _⟩ => ⟨S1, .i32⟩
  | .hbm, ⟨89, _⟩ => ⟨S_, .i32⟩
  | .hbm, ⟨90, _⟩ => ⟨S1, .i32⟩
  | .hbm, ⟨91, _⟩ => ⟨S1, .i1⟩
  | .hbm, ⟨92, _⟩ => ⟨S1, .i1⟩
  | .hbm, ⟨93, _⟩ => ⟨S_, .i32⟩
  | .hbm, ⟨94, _⟩ => ⟨S1, .i32⟩
  | .hbm, ⟨95, _⟩ => ⟨S1, .i32⟩
  | .hbm, ⟨96, _⟩ => ⟨S32x1x2048, .f32⟩
  | .hbm, ⟨97, _⟩ => ⟨S32x1x1024, .f32⟩
  | .hbm, ⟨98, _⟩ => ⟨S2x294912x256, .bf16⟩
  | .local _ .vmem, ⟨0, _⟩ => ⟨S2x1024x256, .bf16⟩
  | .local _ .vmem, ⟨1, _⟩ => ⟨S2x1024x256, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S2x1024x256, .bf16⟩
  | .local _ .vmem, ⟨11, _⟩ => ⟨S2x1024x256, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S1, .i32⟩
  | _, _ => ⟨S2x294912x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_c_6 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_8 : Ref sig .tc := ⟨.hbm, 60, rfl⟩
abbrev main_v28 : Ref sig .tc := ⟨.hbm, 61, rfl⟩
abbrev main_v29 : Ref sig .tc := ⟨.hbm, 62, rfl⟩
abbrev main_c_9 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_10 : Ref sig .tc := ⟨.hbm, 71, rfl⟩
abbrev main_c_11 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v38 : Ref sig .tc := ⟨.hbm, 78, rfl⟩
abbrev main_c_12 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_c : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_0 : Ref sig .tc := ⟨.hbm, 93, rfl⟩
abbrev main_call3_v12 : Ref sig .tc := ⟨.hbm, 94, rfl⟩
abbrev main_call3_v13 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v20 : Ref sig .tc := ⟨.smem, 0, rfl⟩
abbrev main_v37 : Ref sig .tc := ⟨.smem, 1, rfl⟩
abbrev main_v39 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![288], ![false]⟩

abbrev pre0 : Pipeline.Prefetch sig := ⟨3, ![main_v20.idx, main_v37.idx, main_v39.idx], fun | 0 => main_v20.names | 1 => main_v37.names | 2 => main_v39.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32_3 : BitVec 32 := 0#32
  let v15 : BitVec 1 := Scalar.cmpi .sgt v1 c0_i32_3
  let v16 : BitVec 32 := Scalar.extui v15
  let c0_i32_4 : BitVec 32 := 0#32
  let v17 : BitVec 1 := Scalar.cmpi .ne v16 c0_i32_4
  v17

def k0_cond3 (v1 : BitVec 32) : BitVec 1 :=
  let c0_i32_5 : BitVec 32 := 0#32
  let v18 : BitVec 1 := Scalar.cmpi .eq v1 c0_i32_5
  let v19 : BitVec 32 := Scalar.extui v18
  let c0_i32_6 : BitVec 32 := 0#32
  let v20 : BitVec 1 := Scalar.cmpi .ne v19 c0_i32_6
  v20

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel3Ideal.lean ====
abbrev S1024x256 : Shape := ⟨2, ![1024, 256]⟩
variable {F : FTy → Type} [FloatOps F] [Named F]
def κ : String → Option EReal := fun
  | "neg_log2_e" => some ((-((Real.log 2)⁻¹) : ℝ) : EReal)
  | _ => none
-- ==== Reference3Ideal.lean ====
abbrev S2x294912x256 : Shape := ⟨3, ![2, 294912, 256]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S2x288x512x2x256 : Shape := ⟨5, ![2, 288, 512, 2, 256]⟩
abbrev S288x512x2x2x256 : Shape := ⟨5, ![288, 512, 2, 2, 256]⟩
abbrev S288x512x1024 : Shape := ⟨3, ![288, 512, 1024]⟩
abbrev S512 : Shape := ⟨1, ![512]⟩
abbrev S1x512 : Shape := ⟨2, ![1, 512]⟩
abbrev S288x512 : Shape := ⟨2, ![288, 512]⟩
abbrev S288x512x1 : Shape := ⟨3, ![288, 512, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 179
  | .vmem => 0
  | .smem => 0
  | _ => 0

abbrev hbmTy0_0 (i : Nat) : BufTy := match i % 128 with
  | 0 => ⟨S2x294912x256, .bf16⟩
  | 1 => ⟨S32, .i32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S_, .i32⟩
  | 11 => ⟨S32, .i32⟩
  | 12 => ⟨S32, .i32⟩
  | 13 => ⟨S32, .i32⟩
  | 14 => ⟨S_, .i32⟩
  | 15 => ⟨S32, .i32⟩
  | 16 => ⟨S32, .i1⟩
  | 17 => ⟨S32, .i32⟩
  | 18 => ⟨S32, .i32⟩
  | 19 => ⟨S_, .i32⟩
  | 20 => ⟨S32, .i32⟩
  | 21 => ⟨S32, .i1⟩
  | 22 => ⟨S32, .i1⟩
  | 23 => ⟨S_, .i32⟩
  | 24 => ⟨S32, .i32⟩
  | 25 => ⟨S32, .i32⟩
  | 26 => ⟨S32, .i32⟩
  | 27 => ⟨S_, .i32⟩
  | 28 => ⟨S32, .i32⟩
  | 29 => ⟨S32, .i32⟩
  | 30 => ⟨S_, .i32⟩
  | 31 => ⟨S_, .i32⟩
  | 32 => ⟨S32, .i32⟩
  | 33 => ⟨S32, .i32⟩
  | 34 => ⟨S288, .i32⟩
  | 35 => ⟨S_, .i32⟩
  | 36 => ⟨S288, .i32⟩
  | 37 => ⟨S288, .i32⟩
  | 38 => ⟨S1x32, .i32⟩
  | 39 => ⟨S288x1, .i32⟩
  | 40 => ⟨S288x32, .i32⟩
  | 41 => ⟨S288x32, .i32⟩
  | 42 => ⟨S288x32, .i1⟩
  | 43 => ⟨S288x32, .i32⟩
  | 44 => ⟨S_, .i32⟩
  | 45 => ⟨S288, .i32⟩
  | 46 => ⟨S_, .i32⟩
  | 47 => ⟨S288, .i32⟩
  | 48 => ⟨S288, .i32⟩
  | 49 => ⟨S_, .i32⟩
  | 50 => ⟨S288, .i32⟩
  | 51 => ⟨S288, .i1⟩
  | 52 => ⟨S_, .i32⟩
  | 53 => ⟨S288, .i32⟩
  | 54 => ⟨S288, .i32⟩
  | 55 => ⟨S288, .i32⟩
  | 56 => ⟨S288x1, .i32⟩
  | 57 => ⟨S288, .i32⟩
  | 58 => ⟨S_, .i32⟩
  | 59 => ⟨S288, .i32⟩
  | 60 => ⟨S288, .i1⟩
  | 61 => ⟨S_, .i32⟩
  | 62 => ⟨S288, .i32⟩
  | 63 => ⟨S288, .i32⟩
  | 64 => ⟨S288, .i32⟩
  | 65 => ⟨S288x1, .i32⟩
  | 66 => ⟨S288, .i32⟩
  | 67 => ⟨S288, .i32⟩
  | 68 => ⟨S288, .i32⟩
  | 69 => ⟨S_, .i32⟩
  | 70 => ⟨S_, .i32⟩
  | 71 => ⟨S_, .i32⟩
  | 72 => ⟨S288, .i32⟩
  | 73 => ⟨S288, .i32⟩
  | 74 => ⟨S_, .i32⟩
  | 75 => ⟨S288, .i32⟩
  | 76 => ⟨S288, .i32⟩
  | 77 => ⟨S2x288x512x2x256, .bf16⟩
  | 78 => ⟨S288x512x2x2x256, .bf16⟩
  | 79 => ⟨S288x512x1024, .bf16⟩
  | 80 => ⟨S288x512x1024, .f32⟩
  | 81 => ⟨S512, .i32⟩
  | 82 => ⟨S1x512, .i32⟩
  | 83 => ⟨S288x1, .i32⟩
  | 84 => ⟨S288x512, .i32⟩
  | 85 => ⟨S288x512, .i32⟩
  | 86 => ⟨S288x512, .i1⟩
  | 87 => ⟨S288x512x1, .i1⟩
  | 88 => ⟨S_, .f32⟩
  | 89 => ⟨S_, .f32⟩
  | 90 => ⟨S288x512x1024, .i1⟩
  | 91 => ⟨S288x512x1024, .f32⟩
  | 92 => ⟨S288x512x1024, .f32⟩
  | 93 => ⟨S_, .i32⟩
  | 94 => ⟨S288, .i32⟩
  | 95 => ⟨S288, .i1⟩
  | 96 => ⟨S_, .i32⟩
  | 97 => ⟨S288, .i32⟩
  | 98 => ⟨S288, .i32⟩
  | 99 => ⟨S288, .i32⟩
  | 100 => ⟨S288x1, .i32⟩
  | 101 => ⟨S288x1024x2048, .f32⟩
  | 102 => ⟨S288x512x2048, .f32⟩
  | 103 => ⟨S_, .i32⟩
  | 104 => ⟨S288, .i32⟩
  | 105 => ⟨S288, .i1⟩
  | 106 => ⟨S_, .i32⟩
  | 107 => ⟨S288, .i32⟩
  | 108 => ⟨S288, .i32⟩
  | 109 => ⟨S288, .i32⟩
  | 110 => ⟨S288x1, .i32⟩
  | 111 => ⟨S288x2048, .f32⟩
  | 112 => ⟨S288x1x2048, .f32⟩
  | 113 => ⟨S288x512x2048, .f32⟩
  | 114 => ⟨S288x512x2048, .f32⟩
  | 115 => ⟨S288x512x1024, .f32⟩
  | 116 => ⟨S_, .f32⟩
  | 117 => ⟨S288x512x1024, .f32⟩
  | 118 => ⟨S288x512x1024, .f32⟩
  | 119 => ⟨S288x512x1024, .f32⟩
  | 120 => ⟨S_, .f32⟩
  | 121 => ⟨S_, .f32⟩
  | 122 => ⟨S_, .f32⟩
  | 123 => ⟨S288x512x1024, .f32⟩
  | 124 => ⟨S288x512x1024, .f32⟩
  | 125 => ⟨S_, .f32⟩
  | 126 => ⟨S288x512x1024, .f32⟩
  | 127 => ⟨S288x512x1024, .f32⟩
  | _ => ⟨S2x294912x256, .bf16⟩

abbrev hbmTy0_1 (i : Nat) : BufTy := match i % 128 with
  | 0 => ⟨S_, .f32⟩
  | 1 => ⟨S288x512x1024, .f32⟩
  | 2 => ⟨S288x512x1024, .f32⟩
  | 3 => ⟨S288x512x1024, .f32⟩
  | 4 => ⟨S288x512x1024, .f32⟩
  | 5 => ⟨S_, .f32⟩
  | 6 => ⟨S288x512x1024, .f32⟩
  | 7 => ⟨S288x512x1024, .f32⟩
  | 8 => ⟨S_, .f32⟩
  | 9 => ⟨S288x512x1024, .f32⟩
  | 10 => ⟨S288x512x1024, .f32⟩
  | 11 => ⟨S288x512x1024, .f32⟩
  | 12 => ⟨S_, .f32⟩
  | 13 => ⟨S288x512x1024, .f32⟩
  | 14 => ⟨S288x512x1024, .f32⟩
  | 15 => ⟨S288x512x1024, .f32⟩
  | 16 => ⟨S_, .i32⟩
  | 17 => ⟨S288, .i32⟩
  | 18 => ⟨S288, .i1⟩
  | 19 => ⟨S_, .i32⟩
  | 20 => ⟨S288, .i32⟩
  | 21 => ⟨S288, .i32⟩
  | 22 => ⟨S288, .i32⟩
  | 23 => ⟨S288x1, .i32⟩
  | 24 => ⟨S288x1024x1024, .f32⟩
  | 25 => ⟨S288x512x1024, .f32⟩
  | 26 => ⟨S_, .i32⟩
  | 27 => ⟨S288, .i32⟩
  | 28 => ⟨S288, .i1⟩
  | 29 => ⟨S_, .i32⟩
  | 30 => ⟨S288, .i32⟩
  | 31 => ⟨S288, .i32⟩
  | 32 => ⟨S288, .i32⟩
  | 33 => ⟨S288x1, .i32⟩
  | 34 => ⟨S288x1024, .f32⟩
  | 35 => ⟨S288x1x1024, .f32⟩
  | 36 => ⟨S288x512x1024, .f32⟩
  | 37 => ⟨S288x512x1024, .f32⟩
  | 38 => ⟨S_, .i32⟩
  | 39 => ⟨S288, .i32⟩
  | 40 => ⟨S288, .i1⟩
  | 41 => ⟨S288x1x1, .i1⟩
  | 42 => ⟨S_, .f32⟩
  | 43 => ⟨S_, .f32⟩
  | 44 => ⟨S288x512x1024, .i1⟩
  | 45 => ⟨S288x512x1024, .f32⟩
  | 46 => ⟨S288x512x1024, .f32⟩
  | 47 => ⟨S288x512x1024, .bf16⟩
  | 48 => ⟨S288x512x2x2x256, .bf16⟩
  | 49 => ⟨S2x288x512x2x256, .bf16⟩
  | 50 => ⟨S2x294912x256, .bf16⟩
  | _ => ⟨S2x294912x256, .bf16⟩

abbrev hbmTy (i : Nat) : BufTy := match i / 128 with
  | 0 => hbmTy0_0 i
  | 1 => hbmTy0_1 i
  | _ => ⟨S2x294912x256, .bf16⟩

abbrev bufTy : (tb : Table) → Fin (tcTables nBuf tb) → BufTy
  | .hbm, ⟨i, _⟩ => hbmTy i
  | _, _ => ⟨S2x294912x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_1 : Ref sig .tc := ⟨.hbm, 27, rfl⟩
abbrev main_v3 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_7 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_9 : Ref sig .tc := ⟨.hbm, 69, rfl⟩
abbrev main_c_10 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v47 : Ref sig .tc := ⟨.hbm, 92, rfl⟩
abbrev main_c_11 : Ref sig .tc := ⟨.hbm, 93, rfl⟩
abbrev main_v48 : Ref sig .tc := ⟨.hbm, 94, rfl⟩
abbrev main_v49 : Ref sig .tc := ⟨.hbm, 95, rfl⟩
abbrev main_c_12 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_13 : Ref sig .tc := ⟨.hbm, 103, rfl⟩
abbrev main_v56 : Ref sig .tc := ⟨.hbm, 104, rfl⟩
abbrev main_v57 : Ref sig .tc := ⟨.hbm, 105, rfl⟩
abbrev main_c_14 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_15 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_16 : Ref sig .tc := ⟨.hbm, 120, rfl⟩
abbrev main_cst_17 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v70 : Ref sig .tc := ⟨.hbm, 127, rfl⟩
abbrev main_cst_18 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_19 : Ref sig .tc := ⟨.hbm, 133, rfl⟩
abbrev main_v75 : Ref sig .tc := ⟨.hbm, 134, rfl⟩
abbrev main_v76 : Ref sig .tc := ⟨.hbm, 135, rfl⟩
abbrev main_cst_20 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_cst_21 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_c_22 : Ref sig .tc := ⟨.hbm, 144, rfl⟩
abbrev main_v83 : Ref sig .tc := ⟨.hbm, 145, rfl⟩
abbrev main_v84 : Ref sig .tc := ⟨.hbm, 146, rfl⟩
abbrev main_c_23 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_c_24 : Ref sig .tc := ⟨.hbm, 154, rfl⟩
abbrev main_v91 : Ref sig .tc := ⟨.hbm, 155, rfl⟩
abbrev main_v92 : Ref sig .tc := ⟨.hbm, 156, rfl⟩
abbrev main_c_25 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_c_26 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_cst_27 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩

abbrev nD : Nat := 1
abbrev τ : Topo := Topo.v7x

variable {F : FTy → Type} [FloatOps F]
-- ==== Kernel4.lean ====
abbrev S32768x1024 : Shape := ⟨2, ![32768, 1024]⟩
abbrev S32768x128 : Shape := ⟨2, ![32768, 128]⟩
abbrev S4x2x32768x256 : Shape := ⟨4, ![4, 2, 32768, 256]⟩
abbrev S1024 : Shape := ⟨1, ![1024]⟩
abbrev S65536x1024 : Shape := ⟨2, ![65536, 1024]⟩
abbrev S1x1024 : Shape := ⟨2, ![1, 1024]⟩
abbrev S1024x1024 : Shape := ⟨2, ![1024, 1024]⟩
abbrev S1024x128 : Shape := ⟨2, ![1024, 128]⟩
abbrev S4x2x1024x256 : Shape := ⟨4, ![4, 2, 1024, 256]⟩
abbrev S1x1x1024x256 : Shape := ⟨4, ![1, 1, 1024, 256]⟩
abbrev S1024x256 : Shape := ⟨2, ![1024, 256]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S4x2x32768x256, .i32⟩
  | .hbm, ⟨3, _⟩ => ⟨S1024, .f32⟩
  | .hbm, ⟨4, _⟩ => ⟨S65536x1024, .f32⟩
  | .hbm, ⟨5, _⟩ => ⟨S1x1024, .f32⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S4x2x1024x256, .i32⟩
  | .local _ .vmem, ⟨5, _⟩ => ⟨S4x2x1024x256, .i32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32768x1024 : Shape := ⟨2, ![32768, 1024]⟩
abbrev S32768x128 : Shape := ⟨2, ![32768, 128]⟩
abbrev S4x2x32768x256 : Shape := ⟨4, ![4, 2, 32768, 256]⟩
abbrev S1024 : Shape := ⟨1, ![1024]⟩
abbrev S65536x1024 : Shape := ⟨2, ![65536, 1024]⟩
abbrev S4x2x32768x256x2 : Shape := ⟨5, ![4, 2, 32768, 256, 2]⟩
abbrev S4x32768x2x2x256 : Shape := ⟨5, ![4, 32768, 2, 2, 256]⟩
abbrev S4x32768x1024 : Shape := ⟨3, ![4, 32768, 1024]⟩
abbrev S32768x4 : Shape := ⟨2, ![32768, 4]⟩
abbrev S4x32768 : Shape := ⟨2, ![4, 32768]⟩
abbrev S4x32768x1 : Shape := ⟨3, ![4, 32768, 1]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S4x2x32768x256, .i32⟩
  | .hbm, ⟨3, _⟩ => ⟨S1024, .f32⟩
  | .hbm, ⟨4, _⟩ => ⟨S65536x1024, .f32⟩
  | .hbm, ⟨5, _⟩ => ⟨S4x2x32768x256x2, .bf16⟩
  | .hbm, ⟨6, _⟩ => ⟨S4x32768x2x2x256, .bf16⟩
  | .hbm, ⟨7, _⟩ => ⟨S4x32768x1024, .bf16⟩
  | .hbm, ⟨8, _⟩ => ⟨S4x32768x1024, .f32⟩
  | .hbm, ⟨9, _⟩ => ⟨S32768x4, .f32⟩
  | .hbm, ⟨10, _⟩ => ⟨S4x32768, .f32⟩
  | .hbm, ⟨11, _⟩ => ⟨S4x32768x1, .f32⟩
  | .hbm, ⟨12, _⟩ => ⟨S4x32768x1024, .f32⟩
  | .hbm, ⟨13, _⟩ => ⟨S4x32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S65536x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Norm.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow

/-!
The projection kernel's body, run once for each of its two cases.

At the first column block of a block of rows the body normalises the rows into its scratch buffer and writes
the narrow product; at every point it multiplies the scratch rows with the column block in hand.
-/

@[expose] public section

set_option maxRecDepth 16384

noncomputable section

namespace Cert.Proof.Project

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch of the body is taken exactly at the first column block of a block of rows. -/
theorem first_iff (t : Fin cfg0.N) : k0_cond1 (grid0.coords t) = 1#1 ↔ t.val % 8 = 0 := by
  have ht : t.val < 256 := lt_of_lt_of_eq t.isLt N_0
  have e1 : (grid0.coords t 1).val = t.val / 1 % 8 := Pipeline.Grid.coords_val t 1 (by decide) rfl
  simp only [k0_cond1, e1]
  word_cmp

section Body

variable (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1280 .bf16) (harg4 : arg4.IsWhole) (arg5 : Memref sig .tc .vmem S1024x128 .bf16) (harg5 : arg5.IsWhole) (arg6 : Memref sig .tc .vmem S2048x1280 .bf16) (harg6 : arg6.IsWhole) (arg7 : Memref sig .tc .vmem S2048x128 .f32) (harg7 : arg7.IsWhole) (arg8 : Memref sig .tc .vmem S2048x1024 .bf16) (harg8 : arg8.IsWhole)

set_option maxHeartbeats 1000000 in
/-- At a first column block: the scratch ends at the normalised rows, the narrow output at their product with the narrow
    weights, the wide output at their product with the column block. -/
theorem body_first (hc : k0_cond1 i = 1#1)
    (x : Vec F S2048x1024 .f32) (g : Vec F S1x1024 .f32) (w : Vec F S1024x1280 .bf16) (ws : Vec F S1024x128 .bf16)
    (E : Set ℕ) (K : PUnit → sProp 𝕄) :
    iprop(owns (c : Thread nD τ) arg2 fullShare x ∗ owns (c : Thread nD τ) arg3 fullShare g
        ∗ owns (c : Thread nD τ) arg4 fullShare w ∗ owns (c : Thread nD τ) arg5 fullShare ws
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare g
            ∗ owns (c : Thread nD τ) arg4 fullShare w ∗ owns (c : Thread nD τ) arg5 fullShare ws
            ∗ owns (c : Thread nD τ) arg6 fullShare (k0_pay4 (k0_pay2 x g) w)
            ∗ owns (c : Thread nD τ) arg7 fullShare (k0_pay3 x g ws)
            ∗ owns (c : Thread nD τ) arg8 fullShare (k0_pay2 x g)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc)
  have pay : k0_pay2 (View.readAt (Elt F) arg2.view (Rect.unit ![0, 0] S2048x1024.size inb_S2048x1024_S2048x1024_0_0).toLoadRect (harg2.unread x))
      (View.readAt (Elt F) arg3.view (Rect.unit ![0, 0] S1x1024.size inb_S1x1024_S1x1024_0_0).toLoadRect (harg3.unread g)) = k0_pay2 x g := by
    rw [View.readAt_full, View.readAt_full, harg2.read_unread, harg3.read_unread]
  have rd : body_first.sl.v3 c arg2 harg2 arg3 harg3 arg8 x g = k0_pay2 x g := (View.readCov_full _ _ _ _ _).trans pay
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; refine (View.read_writes_full _ _ _ _ _).trans ?_
    rw [View.readAt_full, harg4.read_unread]; exact congrArg (fun v => k0_pay4 v w) rd
  isplitl [H5]
  · iexists _; isplitr
    swap; · iexact H5
    ipureintro; refine (View.read_writes_full _ _ _ _ _).trans ?_
    rw [View.readAt_full, View.readAt_full, View.readAt_full, harg2.read_unread, harg3.read_unread, harg5.read_unread]
  iexists _; isplitr
  swap; · iexact HS0
  ipureintro; exact (View.read_writes_full _ _ _ _ _).trans pay

set_option maxHeartbeats 1000000 in
/-- At a later column block: the scratch rows are multiplied with the column block; the scratch stays as it was. The narrow
    output's buffer is not touched. -/
theorem body_later (hc : ¬k0_cond1 i = 1#1)
    (w : Vec F S1024x1280 .bf16) (xn : Vec F S2048x1024 .bf16)
    (E : Set ℕ) (K : PUnit → sProp 𝕄) :
    iprop(owns (c : Thread nD τ) arg4 fullShare w
        ∗ (∃ d, owns (c : Thread nD τ) arg6 fullShare d) ∗ owns (c : Thread nD τ) arg8 fullShare xn
        ∗ (iprop(owns (c : Thread nD τ) arg4 fullShare w
            ∗ owns (c : Thread nD τ) arg6 fullShare (k0_pay4 xn w)
            ∗ owns (c : Thread nD τ) arg8 fullShare xn) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f2, %hf2, H2⟩, ⟨%d4, %f4, -, H4⟩, ⟨%fs0, %hfs0, HS0⟩, Hk⟩
  obtain rfl := harg4.eq_unread hf2; obtain rfl := harg8.eq_unread hfs0
  sl_exec (disch := first | sl_exact hc)
  sl_step
  iapply Hk
  isplitl [H2]
  · iexists _; isplitr; · ipureintro; exact harg4.read_unread _
    iexact H2
  isplitl [H4]
  · iexists _; isplitr
    swap; · iexact H4
    ipureintro; refine (View.read_writes_full _ _ _ _ _).trans ?_
    rw [View.readAt_full, View.readAt_full, harg4.read_unread, harg8.read_unread]
  iexists _; isplitr
  swap; · iexact HS0
  ipureintro; exact harg8.read_unread _

end Body

end Cert.Proof.Project

end
-- ==== Proof.Project.lean ====
/-
  The projection call point by point: what each buffer holds before and after every point of the grid, the body's obligation
  from its two cases, and the run of the whole call. The scratch carries the normalised rows through the eight column blocks
  of a block of rows; the narrow output is written at the first of them and carried to the last, where it is written back.
-/
module

public import proofs.«01_k».proof.Proof.Norm
public import Idealize.ShloMosaic.Lib.Pipeline.TableIdle

@[expose] public section

set_option maxRecDepth 16384

noncomputable section

namespace Cert.Proof.Project

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents, point by point -/

/-- The first point of the block of rows point `t` works on. -/
def head (t : Fin cfg0.N) : Fin cfg0.N := ⟨t.val / 8 * 8, lt_of_le_of_lt (Nat.div_mul_le_self _ _) t.isLt⟩

theorem head_first {t : Fin cfg0.N} (h : t.val % 8 = 0) : head t = t := Fin.ext (by show t.val / 8 * 8 = t.val; omega)

theorem head_later {t : Fin cfg0.N} (h : ¬t.val % 8 = 0) :
    head ⟨t.val - 1, lt_of_le_of_lt (Nat.sub_le _ _) t.isLt⟩ = head t :=
  Fin.ext (by show (t.val - 1) / 8 * 8 = t.val / 8 * 8; omega)

/-- The normalised rows of the block of rows at point `t`. -/
def rowsAt (c : Dev nD) (t : Fin cfg0.N) : FVec F S2048x1024 .bf16 := k0_pay2 (iblk m c 0 (head t)) (iblk m c 1 (head t))
/-- Their product with the narrow weights. -/
def narrowAt (c : Dev nD) (t : Fin cfg0.N) : FVec F S2048x128 .f32 :=
  k0_pay3 (iblk m c 0 (head t)) (iblk m c 1 (head t)) (iblk m c 3 (head t))
/-- Their product with the column block of point `t`. -/
def wideAt (c : Dev nD) (t : Fin cfg0.N) : FVec F S2048x1280 .bf16 := k0_pay4 (rowsAt m c t) (iblk m c 2 t)

/-- The scratch buffer. -/
abbrev scr : Memref sig .tc .vmem S2048x1024 .bf16 := Memref.whole cc0_scratch0

/-- Before the first point the scratch holds anything; before a later one, the rows of the point before. -/
def inv (c : Dev nD) : (n : ℕ) → n ≤ cfg0.N → sProp 𝕄
  | 0, _ => Pipeline.ΦA spec0 c
  | n + 1, hn => iprop(owns (c : Thread nD τ) scr fullShare (rowsAt m c ⟨n, hn⟩) ∗ (∃ r, prngReg c r))

theorem any_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem inv_pos (c : Dev nD) (n : ℕ) (h : n ≤ cfg0.N) (hz : n ≠ 0) :
    inv m c n h = iprop(owns (c : Thread nD τ) scr fullShare (rowsAt m c ⟨n - 1, by omega⟩) ∗ (∃ r, prngReg c r)) := by
  cases n with
  | zero => exact absurd rfl hz
  | succ n => rfl

/-- Whatever the point, the scratch holds something. -/
theorem inv_any (c : Dev nD) (n : ℕ) (h : n ≤ cfg0.N) :
    inv m c n h ⊢ iprop((∃ d, owns (c : Thread nD τ) scr fullShare d) ∗ (∃ r, prngReg c r)) := by
  cases n with
  | zero => rw [← any_eq]; exact Idealize.SL.BI.Entails.refl _
  | succ n =>
    show (iprop(owns (c : Thread nD τ) scr fullShare (rowsAt m c ⟨n, h⟩) ∗ (∃ r, prngReg c r)) : sProp 𝕄) ⊢ _
    iintro ⟨HS, Hg⟩
    isplitl [HS]
    · iexists _; iexact HS
    iexact Hg

/-- The proof data of the call on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideAt m c t
    | ⟨5, _⟩ => narrowAt m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = wideAt m c t := by dsimp only [dats]
theorem after_5 (c : Dev nD) (t : Fin cfg0.N) : (dats m 0 c).after 5 t = narrowAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The narrow output between its write and its write-back -/

theorem idle_iff (t : Fin cfg0.N) : cfg0.idle 5 (cfg0.grid.coords t) = true ↔ ¬t.val % 8 = 0 := by
  rw [← first_iff t]
  show (!(k0_cond1 (grid0.coords t) == 1#1)) = true ↔ _
  rw [Bool.not_eq_true', beq_eq_false_iff_ne]

/-- The narrow output's buffer carries nothing worth keeping exactly before the first point of a block of rows. -/
theorem fresh_iff (n : ℕ) (h : n ≤ cfg0.N) : cfg0.fresh 5 n = decide (n % 8 = 0) := by
  refine cfg0.fresh_tab 5 (fun n => decide (n % 8 = 0)) rfl (fun t => ?_) n h
  rw [Bool.eq_iff_iff, Bool.or_eq_true, Bool.and_eq_true, idle_iff, flush0_5, decide_eq_true_eq, decide_eq_true_eq]
  omega

theorem before_5 (c : Dev nD) (t : Fin cfg0.N) (h : ¬t.val % 8 = 0) (d) : (dats m 0 c).before 5 t d = narrowAt m c t := by
  have carry : ∀ (t : Fin cfg0.N), ¬t.val % 8 = 0 →
      (dats m 0 c).after 5 t = (dats m 0 c).after 5 ⟨t.val - 1, lt_of_le_of_lt (Nat.sub_le _ _) t.isLt⟩ := fun t h => by
    rw [after_5, after_5]; unfold narrowAt; rw [head_later h]
  rw [(dats m 0 c).before_out_traj 5 rfl (fun _ _ => rfl) (fun t _ hi _ => carry t ((idle_iff t).mp hi)) t.val t rfl d,
    fresh_iff t.val (le_of_lt t.isLt), decide_eq_false h, if_neg Bool.false_ne_true, ← carry t h, after_5]

/-! ## The body's obligation -/

/-- What the body leaves of the narrow output's buffer: what it wrote, or at a point where it writes nothing what was there. -/
def leaves5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ leaves5 m c t)

set_option maxHeartbeats 3200000 in
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, after_4,
    show (dats m 0 c).Φ t.succ = iprop(owns (c : Thread nD τ) scr fullShare (rowsAt m c t) ∗ (∃ r, prngReg c r)) from rfl,
    inv_castSucc m c t]
  by_cases h0 : t.val % 8 = 0
  · have hleaves : leaves5 m c t = owns (c : Thread nD τ) (st0_5 t) fullShare (narrowAt m c t) := by
      unfold leaves5
      rw [Bool.eq_false_iff.mpr fun h => (idle_iff t).mp h h0, after_5]
    have er : rowsAt m c t = k0_pay2 (iblk m c 0 t) (iblk m c 1 t) := by unfold rowsAt; rw [head_first h0]
    have en : narrowAt m c t = k0_pay3 (iblk m c 0 t) (iblk m c 1 t) (iblk m c 3 t) := by unfold narrowAt; rw [head_first h0]
    rw [hleaves]; unfold wideAt; rw [er, en]
    iintro ⟨HI, Ho, ⟨%d0, H0⟩, ⟨%d1, H1⟩, ⟨%d2, H2⟩, ⟨%d3, H3⟩, ⟨%d4, H4⟩, ⟨%d5, H5⟩⟩
    ihave HI' := (inv_any m c t.val (Nat.le_of_lt t.isLt)) $$ HI
    icases HI' with ⟨HS, Hg⟩
    iapply (body_first c (grid0.coords t) _ _ _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hleaves : owns (c : Thread nD τ) (st0_5 t) fullShare (narrowAt m c t) ⊢ leaves5 m c t := by
      unfold leaves5
      rw [(idle_iff t).mpr h0]
      cases hf : (cfg0.win 5).flush t
      · simp only [before_5 m c t h0]
        iintro H; iexists (narrowAt m c t); iexact H
      · rw [after_5]
    have er : rowsAt m c ⟨t.val - 1, lt_of_le_of_lt (Nat.sub_le _ _) t.isLt⟩ = rowsAt m c t := by unfold rowsAt; rw [head_later h0]
    rw [inv_pos m c _ _ (fun h => h0 (by rw [h])), er]; unfold wideAt
    simp only [before_5 m c t h0]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (fun h => h0 ((first_iff t).mp h)) (iblk m c 2 t) (rowsAt m c t) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply hleaves; iexact H5

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem inv_in (c : Dev nD) : Pipeline.ΦA spec0 c ⊢ (dats m 0 c).Φ 0 := by
  rw [show (dats m 0 c).Φ 0 = inv m c 0 (Nat.zero_le _) from rfl]
  exact Idealize.SL.BI.Entails.refl _

theorem inv_out (c : Dev nD) : (dats m 0 c).Φ (Fin.last cfg0.N) ⊢ Pipeline.ΦA spec0 c := by
  rw [any_eq]; exact inv_any m c cfg0.N le_rfl

/-! ## The run -/

set_option backward.isDefEq.respectTransparency.types false in
/-- Every execution ends, with the call's arrays at what the proof data computes and every counter at zero. -/
theorem run_call : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- Every execution ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_call m ρ)))
    ((θ_run defs _ _).mono (fun _ h => h.2) (run_call m ρ))

end Cert.Proof.Project

end
-- ==== Proof.Same.lean ====
/-
  The projection printed twice, as it is and for the reading over the extended reals, is one program: the two tables of
  bodies agree row by row.
-/
module

public import proofs.«01_k».proof.Proof.Gen.Kernel2
public import proofs.«01_k».proof.Proof.Gen.Kernel2Ideal
public import proofs.«01_k».proof.Defs

@[expose] public section

noncomputable section

namespace Cert.Proof

open Idealize.ShloMosaic Idealize.SL.Sem

/-- The two tables of bodies have the same rows. -/
theorem bodies_same : Cert.Kernel2Ideal.defs₀ (F := Bits) = Cert.Kernel2.defs₀ (F := Bits) := by
  unfold Cert.Kernel2.defs₀ Cert.Kernel2Ideal.defs₀
  refine congrArg Defs.onTc ?_
  funext l a
  match l, a with
  | 0, (t, s) => rfl
  | ⟨_ + 1, h⟩, _ => exact absurd h (Nat.not_lt.2 (Nat.le_add_left _ _))

theorem defs_same : Cert.Kernel2Ideal.defs (F := Bits) = Cert.Kernel2.defs (F := Bits) :=
  congrArg (Pipeline.defs Cert.Kernel2.pcfgs) bodies_same

end Cert.Proof

end
-- ==== Proof.Arrays.lean ====
/-
  The two arrays the projection call leaves: the element of the wide output at a row and a column is the one the point of
  that block of rows and that column block wrote, and the narrow output's is the one its block of rows wrote.
-/
module

public import proofs.«01_k».proof.Proof.Project
public import Idealize.ShloMosaic.Lib.Pipeline.Value

@[expose] public section

set_option maxRecDepth 16384

noncomputable section

namespace Cert.Proof.Project

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where each window's block lies at a point -/

theorem index_0 : ∀ t : Fin cfg0.N, win0_0.index t (0 : Fin 2) = t.val / 8 ∧ win0_0.index t (1 : Fin 2) = 0 :=
  (by decide +kernel : ∀ t : Fin grid0.N, _)
theorem index_2 : ∀ t : Fin cfg0.N, win0_2.index t (0 : Fin 2) = 0 ∧ win0_2.index t (1 : Fin 2) = t.val % 8 :=
  (by decide +kernel : ∀ t : Fin grid0.N, _)
theorem index_4 : ∀ t : Fin cfg0.N, win0_4.index t (0 : Fin 2) = t.val / 8 ∧ win0_4.index t (1 : Fin 2) = t.val % 8 :=
  (by decide +kernel : ∀ t : Fin grid0.N, _)
theorem index_5 : ∀ t : Fin cfg0.N, win0_5.index t (0 : Fin 2) = t.val / 8 ∧ win0_5.index t (1 : Fin 2) = 0 :=
  (by decide +kernel : ∀ t : Fin grid0.N, _)

/-! ## The wide output -/

/-- The point that writes the wide output at an index. -/
def wpt (i : S65536x10240.Idx) : Fin cfg0.N :=
  ⟨(i 0).val / 2048 * 8 + (i 1).val / 1280, by
    have h0 : (i 0).val < 65536 := (i 0).isLt
    have h1 : (i 1).val < 10240 := (i 1).isLt
    rw [show cfg0.N = 256 from N_0]; omega⟩
/-- The index's place in that point's block. -/
def wloc (i : S65536x10240.Idx) : S2048x1280.Idx := fun a => match a with
  | ⟨0, _⟩ => ⟨(i 0).val % 2048, Nat.mod_lt _ (by decide)⟩
  | ⟨1, _⟩ => ⟨(i 1).val % 1280, Nat.mod_lt _ (by decide)⟩

def wideOut (c : Dev nD) : Buf (Elt F) ((c : Thread nD τ).loc main_v20_0) := fun i => wideAt m c (wpt i) (wloc i)

theorem wide_flushed (c : Dev nD) (t : Fin cfg0.N) :
    (dats m 0 c).flushed 4 t = ((cfg0.win 4).blk t).view.read (Elt F) (wideOut m c) := by
  show (cfg0.win 4).cut (grid0.coords t) ((dats m 0 c).after 4 t) = _
  rw [after_4]
  obtain ⟨e0, e1⟩ := index_4 t
  have ht : t.val < 256 := lt_of_lt_of_eq t.isLt N_0
  funext y
  have hy0 : (y 0).val < 2048 := (y 0).isLt
  have hy1 : (y 1).val < 1280 := (y 1).isLt
  have hb0 : (((cfg0.win 4).blk t).view.emb y 0).val = win0_4.index t (0 : Fin 2) * 2048 + 1 * (y 0).val := rfl
  have hb1 : (((cfg0.win 4).blk t).view.emb y 1).val = win0_4.index t (1 : Fin 2) * 1280 + 1 * (y 1).val := rfl
  have hp : wpt (((cfg0.win 4).blk t).view.emb y) = t := Fin.ext (by
    show (((cfg0.win 4).blk t).view.emb y 0).val / 2048 * 8 + (((cfg0.win 4).blk t).view.emb y 1).val / 1280 = t.val
    rw [hb0, hb1, e0, e1]; omega)
  have hl : wloc (((cfg0.win 4).blk t).view.emb y) = (cfg0.win 4).xinj (grid0.coords t) y := by
    funext a; apply Fin.ext
    match a with
    | ⟨0, _⟩ => show (((cfg0.win 4).blk t).view.emb y 0).val % 2048 = (y 0).val; rw [hb0]; omega
    | ⟨1, _⟩ => show (((cfg0.win 4).blk t).view.emb y 1).val % 1280 = (y 1).val; rw [hb1]; omega
  show wideAt m c t ((cfg0.win 4).xinj (grid0.coords t) y) = wideAt m c (wpt (((cfg0.win 4).blk t).view.emb y)) (wloc (((cfg0.win 4).blk t).view.emb y))
  rw [hp, hl]

theorem wide_final (c : Dev nD) : (dats m 0 c).arrAt 4 cfg0.N = wideOut m c :=
  (dats m 0 c).arrAt_eq_of_cover 4 _ (fun t _ => wide_flushed m c t) (fun i => by
    have hi0 : (i 0).val < 65536 := (i 0).isLt
    have hi1 : (i 1).val < 10240 := (i 1).isLt
    obtain ⟨q0, q1⟩ := index_4 (wpt i)
    have hv : (wpt i).val = (i 0).val / 2048 * 8 + (i 1).val / 1280 := rfl
    refine ⟨wpt i, flush0_4 _, ?_⟩
    show i ∈ ((View.whole main_v20_0).slice (win0_4.rect (wpt i))).set
    rw [View.set_slice_whole, Rect.mem_set_unit]
    intro a
    match a with
    | ⟨0, _⟩ => show win0_4.index (wpt i) (0 : Fin 2) * 2048 ≤ (i 0).val ∧ (i 0).val < win0_4.index (wpt i) (0 : Fin 2) * 2048 + 2048; omega
    | ⟨1, _⟩ => show win0_4.index (wpt i) (1 : Fin 2) * 1280 ≤ (i 1).val ∧ (i 1).val < win0_4.index (wpt i) (1 : Fin 2) * 1280 + 1280; omega)

/-! ## The narrow output -/

/-- The point that writes the narrow output at an index back. -/
def npt (i : S65536x128.Idx) : Fin cfg0.N :=
  ⟨(i 0).val / 2048 * 8 + 7, by
    have h0 : (i 0).val < 65536 := (i 0).isLt
    rw [show cfg0.N = 256 from N_0]; omega⟩
/-- The index's place in that point's block. -/
def nloc (i : S65536x128.Idx) : S2048x128.Idx := fun a => match a with
  | ⟨0, _⟩ => ⟨(i 0).val % 2048, Nat.mod_lt _ (by decide)⟩
  | ⟨1, _⟩ => i 1

def narrowOut (c : Dev nD) : Buf (Elt F) ((c : Thread nD τ).loc main_v20_1) := fun i => narrowAt m c (npt i) (nloc i)

theorem narrow_flushed (c : Dev nD) (t : Fin cfg0.N) (hf : (cfg0.win 5).flush t = true) :
    (dats m 0 c).flushed 5 t = ((cfg0.win 5).blk t).view.read (Elt F) (narrowOut m c) := by
  show (cfg0.win 5).cut (grid0.coords t) ((dats m 0 c).after 5 t) = _
  rw [after_5]
  obtain ⟨e0, e1⟩ := index_5 t
  have ht : t.val < 256 := lt_of_lt_of_eq t.isLt N_0
  have h7 := (flush0_5 t).mp hf
  funext y
  have hy0 : (y 0).val < 2048 := (y 0).isLt
  have hy1 : (y 1).val < 128 := (y 1).isLt
  have hb0 : (((cfg0.win 5).blk t).view.emb y 0).val = win0_5.index t (0 : Fin 2) * 2048 + 1 * (y 0).val := rfl
  have hb1 : (((cfg0.win 5).blk t).view.emb y 1).val = win0_5.index t (1 : Fin 2) * 128 + 1 * (y 1).val := rfl
  have hp : npt (((cfg0.win 5).blk t).view.emb y) = t := Fin.ext (by
    show (((cfg0.win 5).blk t).view.emb y 0).val / 2048 * 8 + 7 = t.val
    rw [hb0, e0]; omega)
  have hl : nloc (((cfg0.win 5).blk t).view.emb y) = (cfg0.win 5).xinj (grid0.coords t) y := by
    funext a; apply Fin.ext
    match a with
    | ⟨0, _⟩ => show (((cfg0.win 5).blk t).view.emb y 0).val % 2048 = (y 0).val; rw [hb0]; omega
    | ⟨1, _⟩ => show (((cfg0.win 5).blk t).view.emb y 1).val = (y 1).val; rw [hb1, e1]; omega
  show narrowAt m c t ((cfg0.win 5).xinj (grid0.coords t) y) = narrowAt m c (npt (((cfg0.win 5).blk t).view.emb y)) (nloc (((cfg0.win 5).blk t).view.emb y))
  rw [hp, hl]

theorem narrow_final (c : Dev nD) : (dats m 0 c).arrAt 5 cfg0.N = narrowOut m c :=
  (dats m 0 c).arrAt_eq_of_cover 5 _ (fun t hf => narrow_flushed m c t hf) (fun i => by
    have hi0 : (i 0).val < 65536 := (i 0).isLt
    have hi1 : (i 1).val < 128 := (i 1).isLt
    obtain ⟨q0, q1⟩ := index_5 (npt i)
    have hv : (npt i).val = (i 0).val / 2048 * 8 + 7 := rfl
    refine ⟨npt i, (flush0_5 _).mpr (by omega), ?_⟩
    show i ∈ ((View.whole main_v20_1).slice (win0_5.rect (npt i))).set
    rw [View.set_slice_whole, Rect.mem_set_unit]
    intro a
    match a with
    | ⟨0, _⟩ => show win0_5.index (npt i) (0 : Fin 2) * 2048 ≤ (i 0).val ∧ (i 0).val < win0_5.index (npt i) (0 : Fin 2) * 2048 + 2048; omega
    | ⟨1, _⟩ => show win0_5.index (npt i) (1 : Fin 2) * 128 ≤ (i 1).val ∧ (i 1).val < win0_5.index (npt i) (1 : Fin 2) * 128 + 128; omega)

/-! ## The run, read at the results -/

theorem run_arrays : θ_run defs (onTc (τ := τ) (main (F := F))) ⟨m, fun _ => 0, ρ⟩ fun r => ∀ c : Dev nD,
      r.2.mem ((c.tc : Thread nD τ).loc main_v20_0) = wideOut m c
      ∧ r.2.mem ((c.tc : Thread nD τ).loc main_v20_1) = narrowOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 4).trans (wide_final m c), ((h.1 c).1 5).trans (narrow_final m c), h.2.1 c⟩)
    (θ_run_and ((θ_run defs _ _).mono (fun _ h => h.1) (run_call m ρ)) (run_frame m ρ))

end Cert.Proof.Project

end
-- ==== Proof.Prep.lean ====
/-
  The arrays the projection call is given, as terms of the arguments: the rows of the activations, the scale as one row,
  and the two arrangements of the weights' columns.
-/
module

public import proofs.«01_k».proof.Proof.Arrays
public import Idealize.ShloMosaic.Lib.Pointwise

@[expose] public section

set_option maxRecDepth 16384

noncomputable section

namespace Cert.Proof.Project

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The arrays the call is given, as terms of the arguments -/

theorem V_h (c : Dev nD) : V m c main_v0 =
    shapeCast _ (m ((c : Thread nD τ).loc main_arg0)) shapeCasts_S8x8192x1024_S65536x1024 := by
  unfold V
  after_results_simp <;> (try dsimp only [Matrix.cons_val]) <;> (try after_results_simp) <;> rfl

theorem V_g (c : Dev nD) : V m c main_v19 =
    broadcastInDim S1x1024 ![1] bcast_S1024_S1x1024_1 (m ((c : Thread nD τ).loc main_arg1)) := by
  unfold V
  after_results_simp <;> (try dsimp only [Matrix.cons_val]) <;> (try after_results_simp) <;> rfl

/-- Ten blocks of columns, one after another. -/
abbrev tenCols (u0 : Vec Ideal S1024x2048 .f32) (u1 : Vec Ideal S1024x2048 .f32) (u2 : Vec Ideal S1024x512 .f32) (u3 : Vec Ideal S1024x512 .f32) (u4 : Vec Ideal S1024x1024 .f32) (u5 : Vec Ideal S1024x1024 .f32) (u6 : Vec Ideal S1024x1024 .f32) (u7 : Vec Ideal S1024x1024 .f32) (u8 : Vec Ideal S1024x512 .f32) (u9 : Vec Ideal S1024x512 .f32) : Vec Ideal S1024x10240 .f32 :=
  concatenate S1024x10240 1 [⟨S1024x2048, u0⟩, ⟨S1024x2048, u1⟩, ⟨S1024x512, u2⟩, ⟨S1024x512, u3⟩, ⟨S1024x1024, u4⟩, ⟨S1024x1024, u5⟩, ⟨S1024x1024, u6⟩, ⟨S1024x1024, u7⟩, ⟨S1024x512, u8⟩, ⟨S1024x512, u9⟩]
    concatenates_S1024x2048_S1024x2048_S1024x512_S1024x512_S1024x1024_S1024x1024_S1024x1024_S1024x1024_S1024x512_S1024x512_S1024x10240_d1

theorem tenCols_congr {u0 v0 : Vec Ideal S1024x2048 .f32} {u1 v1 : Vec Ideal S1024x2048 .f32} {u2 v2 : Vec Ideal S1024x512 .f32} {u3 v3 : Vec Ideal S1024x512 .f32} {u4 v4 : Vec Ideal S1024x1024 .f32} {u5 v5 : Vec Ideal S1024x1024 .f32} {u6 v6 : Vec Ideal S1024x1024 .f32} {u7 v7 : Vec Ideal S1024x1024 .f32} {u8 v8 : Vec Ideal S1024x512 .f32} {u9 v9 : Vec Ideal S1024x512 .f32}
    (h0 : u0 = v0) (h1 : u1 = v1) (h2 : u2 = v2) (h3 : u3 = v3) (h4 : u4 = v4) (h5 : u5 = v5) (h6 : u6 = v6) (h7 : u7 = v7) (h8 : u8 = v8) (h9 : u9 = v9) :
    tenCols u0 u1 u2 u3 u4 u5 u6 u7 u8 u9 = tenCols v0 v1 v2 v3 v4 v5 v6 v7 v8 v9 := by
  subst h0 h1 h2 h3 h4 h5 h6 h7 h8 h9; rfl

/-- Four blocks of columns, one after another. -/
abbrev fourCols (u0 : Vec Ideal S1024x16 .f32) (u1 : Vec Ideal S1024x16 .f32) (u2 : Vec Ideal S1024x64 .f32) (u3 : Vec Ideal S1024x32 .f32) : Vec Ideal S1024x128 .f32 :=
  concatenate S1024x128 1 [⟨S1024x16, u0⟩, ⟨S1024x16, u1⟩, ⟨S1024x64, u2⟩, ⟨S1024x32, u3⟩]
    concatenates_S1024x16_S1024x16_S1024x64_S1024x32_S1024x128_d1

theorem fourCols_congr {u0 v0 : Vec Ideal S1024x16 .f32} {u1 v1 : Vec Ideal S1024x16 .f32} {u2 v2 : Vec Ideal S1024x64 .f32} {u3 v3 : Vec Ideal S1024x32 .f32}
    (h0 : u0 = v0) (h1 : u1 = v1) (h2 : u2 = v2) (h3 : u3 = v3) :
    fourCols u0 u1 u2 u3 = fourCols v0 v1 v2 v3 := by
  subst h0 h1 h2 h3; rfl

/-- The columns of the weights the wide output is made of, in its order. -/
def wideCols (w : Vec Ideal S1024x10336 .f32) : Vec Ideal S1024x10240 .bf16 :=
  truncf (F := Ideal) .bf16 (tenCols (extractStridedSlice S1024x2048 ![0, 3104] w slices_S1024x10336_S1024x2048_0_3104)
      (extractStridedSlice S1024x2048 ![0, 5152] w slices_S1024x10336_S1024x2048_0_5152)
      (extractStridedSlice S1024x512 ![0, 0] w slices_S1024x10336_S1024x512_0_0)
      (extractStridedSlice S1024x512 ![0, 512] w slices_S1024x10336_S1024x512_0_512)
      (extractStridedSlice S1024x1024 ![0, 1024] w slices_S1024x10336_S1024x1024_0_1024)
      (extractStridedSlice S1024x1024 ![0, 2048] w slices_S1024x10336_S1024x1024_0_2048)
      (extractStridedSlice S1024x1024 ![0, 8288] w slices_S1024x10336_S1024x1024_0_8288)
      (extractStridedSlice S1024x1024 ![0, 9312] w slices_S1024x10336_S1024x1024_0_9312)
      (extractStridedSlice S1024x512 ![0, 7200] w slices_S1024x10336_S1024x512_0_7200)
      (extractStridedSlice S1024x512 ![0, 7712] w slices_S1024x10336_S1024x512_0_7712)) bitsLt_bf16_f32

/-- The columns of the weights the narrow output is made of, then thirty-two of zeros. -/
def narrowCols (w : Vec Ideal S1024x10336 .f32) : Vec Ideal S1024x128 .bf16 :=
  truncf (F := Ideal) .bf16 (fourCols (extractStridedSlice S1024x16 ![0, 3072] w slices_S1024x10336_S1024x16_0_3072)
      (extractStridedSlice S1024x16 ![0, 3088] w slices_S1024x10336_S1024x16_0_3088)
      (extractStridedSlice S1024x64 ![0, 8224] w slices_S1024x10336_S1024x64_0_8224)
      (broadcastInDim S1024x32 ![] bcast_S_S1024x32 (constant (F := Ideal) S_ .f32 0x00000000#32))) bitsLt_bf16_f32

set_option maxHeartbeats 2000000 in
theorem V_w (c : Dev nD) : V m c main_v15 = wideCols (m ((c : Thread nD τ).loc main_arg2)) := by
  unfold V wideCols
  after_results_simp
  refine congrArg (fun x => truncf (F := Ideal) .bf16 x bitsLt_bf16_f32) (tenCols_congr ?_ ?_ ?_ ?_ ?_ ?_ ?_ ?_ ?_ ?_ ) <;>
    (dsimp only [Matrix.cons_val]; after_results_simp) <;> rfl

set_option maxHeartbeats 2000000 in
theorem V_s (c : Dev nD) : V m c main_v18 = narrowCols (m ((c : Thread nD τ).loc main_arg2)) := by
  unfold V narrowCols
  after_results_simp
  refine congrArg (fun x => truncf (F := Ideal) .bf16 x bitsLt_bf16_f32) (fourCols_congr ?_ ?_ ?_ ?_ ) <;>
    (dsimp only [Matrix.cons_val]; after_results_simp) <;> rfl

end Cert.Proof.Project

end
-- ==== Proof.Sums.lean ====
/-
  The projection call over the reals. Each output, read at a row and a column, is the sum over the row's entries of the
  normalised row times one column of the weights, or zero in the narrow output's last thirty-two columns.
-/
module

public import proofs.«01_k».proof.Proof.Prep
public import Idealize.ShloMosaic.Lib.Pointwise

@[expose] public section

set_option maxRecDepth 16384

noncomputable section

namespace Cert.Proof.Project

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## Which column of the weights an output's column is -/

/-- The column of the weights that the wide output's column comes from. -/
def wideCol (j : Fin 10240) : Fin 10336 :=
  if _h : j.val < 2048 then ⟨3104 + (j.val), by omega⟩
  else if _h : j.val - 2048 < 2048 then ⟨5152 + (j.val - 2048), by omega⟩
  else if _h : j.val - 2048 - 2048 < 512 then ⟨j.val - 2048 - 2048, by omega⟩
  else if _h : j.val - 2048 - 2048 - 512 < 512 then ⟨512 + (j.val - 2048 - 2048 - 512), by omega⟩
  else if _h : j.val - 2048 - 2048 - 512 - 512 < 1024 then ⟨1024 + (j.val - 2048 - 2048 - 512 - 512), by omega⟩
  else if _h : j.val - 2048 - 2048 - 512 - 512 - 1024 < 1024 then ⟨2048 + (j.val - 2048 - 2048 - 512 - 512 - 1024), by omega⟩
  else if _h : j.val - 2048 - 2048 - 512 - 512 - 1024 - 1024 < 1024 then ⟨8288 + (j.val - 2048 - 2048 - 512 - 512 - 1024 - 1024), by omega⟩
  else if _h : j.val - 2048 - 2048 - 512 - 512 - 1024 - 1024 - 1024 < 1024 then ⟨9312 + (j.val - 2048 - 2048 - 512 - 512 - 1024 - 1024 - 1024), by omega⟩
  else if _h : j.val - 2048 - 2048 - 512 - 512 - 1024 - 1024 - 1024 - 1024 < 512 then ⟨7200 + (j.val - 2048 - 2048 - 512 - 512 - 1024 - 1024 - 1024 - 1024), by omega⟩
  else ⟨7712 + (j.val - 2048 - 2048 - 512 - 512 - 1024 - 1024 - 1024 - 1024 - 512), by omega⟩

/-- The column of the weights that one of the narrow output's first ninety-six columns comes from. -/
def narrowCol (j : Fin 96) : Fin 10336 :=
  if _h : j.val < 16 then ⟨3072 + (j.val), by omega⟩
  else if _h : j.val - 16 < 16 then ⟨3088 + (j.val - 16), by omega⟩
  else ⟨8224 + (j.val - 16 - 16), by omega⟩

theorem pick {α β : Type} {p : Prop} [Decidable p] (f : α → β) (a : p → β) (b : ¬p → β) (t : p → α) (e : ¬p → α)
    (h₁ : ∀ h, a h = f (t h)) (h₂ : ∀ h, b h = f (e h)) : dite p a b = f (dite p t e) := by
  by_cases h : p
  · rw [dif_pos h, dif_pos h]; exact h₁ h
  · rw [dif_neg h, dif_neg h]; exact h₂ h

theorem wideCols_at (w : Vec Ideal S1024x10336 .f32) (k : Fin 1024) (j : Fin 10240) :
    wideCols w (ix2 k j) = w (ix2 k (wideCol j)) := by
  pointwise [wideCols]
  unfold wideCol
  iterate 9 (refine pick (fun q => w (ix2 k q)) _ _ _ _ (fun _ => rfl) (fun _ => ?_))
  rfl

theorem narrowCols_at (w : Vec Ideal S1024x10336 .f32) (k : Fin 1024) (j : Fin 128) (h : j.val < 96) :
    narrowCols w (ix2 k j) = w (ix2 k (narrowCol ⟨j.val, h⟩)) := by
  pointwise [narrowCols]
  unfold narrowCol
  split_ifs <;> first | rfl | omega

theorem narrowCols_rest (w : Vec Ideal S1024x10336 .f32) (k : Fin 1024) (j : Fin 128) (h : ¬j.val < 96) :
    narrowCols w (ix2 k j) = 0 := by
  pointwise [narrowCols]
  split_ifs <;> first | rfl | omega

/-! ## The normalised rows -/

/-- One entry of the activations, by its row among all rows. -/
def entry (h : Vec Ideal S8x8192x1024 .f32) (r : Fin 65536) (k : Fin 1024) : Ideal .f32 :=
  h (ix3 (⟨r.val / 8192, by omega⟩ : Fin 8) (⟨r.val % 8192, by omega⟩ : Fin 8192) k)
theorem rows_at (h : Vec Ideal S8x8192x1024 .f32) (r : Fin 65536) (k : Fin 1024) :
    (shapeCast _ h shapeCasts_S8x8192x1024_S65536x1024 : Vec Ideal S65536x1024 .f32) (ix2 r k) = entry h r k := by
  pointwise [entry]
/-- One entry of the normalised and scaled rows. -/
def normed (h : Vec Ideal S8x8192x1024 .f32) (g : Vec Ideal S1024 .f32) (r : Fin 65536) (k : Fin 1024) : Ideal .f32 :=
  entry h r k * Ideal.rsqrt (Ideal.div (∑ k' : Fin 1024, entry h r k' * entry h r k') (Ideal.ofBits .f32 1149239296#32)
    + Ideal.ofBits .f32 925353388#32) * g (ix1 k)

/-! ## The blocks, entry by entry -/

theorem index_1 : ∀ t : Fin cfg0.N, win0_1.index t (0 : Fin 2) = 0 ∧ win0_1.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)

/-- The activations' block of a point. -/
theorem block_h (c : Dev nD) (t : Fin cfg0.N) (a : Fin 2048) (k : Fin 1024) (r : Fin 65536) (hr : r.val = t.val / 8 * 2048 + a.val) :
    (iblk m c 0 t : Vec Ideal S2048x1024 .f32) (ix2 a k) = entry (m ((c : Thread nD τ).loc main_arg0)) r k := by
  have h1 : (iblk m c 0 t : Vec Ideal S2048x1024 .f32) (ix2 a k) = (V m c main_v0 : Vec Ideal S65536x1024 .f32) (ix2 r k) := by
    refine congrArg (V m c main_v0 : Vec Ideal S65536x1024 .f32) (?_ : ((cfg0.win 0).blk t).view.emb (ix2 a k) = ix2 r k)
    obtain ⟨e0, e1⟩ := index_0 t
    funext x; apply Fin.ext
    match x with
    | ⟨0, _⟩ => show win0_0.index t (0 : Fin 2) * 2048 + 1 * a.val = r.val; omega
    | ⟨1, _⟩ => show win0_0.index t (1 : Fin 2) * 1024 + 1 * k.val = k.val; omega
  rw [h1, V_h]
  exact rows_at _ r k

/-- The scale. -/
theorem block_g (c : Dev nD) (t : Fin cfg0.N) (k : Fin 1024) :
    (iblk m c 1 t : Vec Ideal S1x1024 .f32) (ix2 0 k) = (m ((c : Thread nD τ).loc main_arg1) : Vec Ideal S1024 .f32) (ix1 k) := by
  have h1 : (iblk m c 1 t : Vec Ideal S1x1024 .f32) (ix2 0 k) = (V m c main_v19 : Vec Ideal S1x1024 .f32) (ix2 0 k) := by
    refine congrArg (V m c main_v19 : Vec Ideal S1x1024 .f32) (?_ : ((cfg0.win 1).blk t).view.emb (ix2 0 k) = ix2 0 k)
    obtain ⟨e0, e1⟩ := index_1 t
    funext x; apply Fin.ext
    match x with
    | ⟨0, _⟩ => show win0_1.index t (0 : Fin 2) * 1 + 1 * 0 = 0; omega
    | ⟨1, _⟩ => show win0_1.index t (1 : Fin 2) * 1024 + 1 * k.val = k.val; omega
  rw [h1, V_g]
  pointwise []

/-- The wide weights' block of a point. -/
theorem block_w (c : Dev nD) (t : Fin cfg0.N) (k : Fin 1024) (b : Fin 1280) (j : Fin 10240) (hj : j.val = t.val % 8 * 1280 + b.val) :
    (iblk m c 2 t : Vec Ideal S1024x1280 .bf16) (ix2 k b)
      = (m ((c : Thread nD τ).loc main_arg2) : Vec Ideal S1024x10336 .f32) (ix2 k (wideCol j)) := by
  have h1 : (iblk m c 2 t : Vec Ideal S1024x1280 .bf16) (ix2 k b) = (V m c main_v15 : Vec Ideal S1024x10240 .bf16) (ix2 k j) := by
    refine congrArg (V m c main_v15 : Vec Ideal S1024x10240 .bf16) (?_ : ((cfg0.win 2).blk t).view.emb (ix2 k b) = ix2 k j)
    obtain ⟨e0, e1⟩ := index_2 t
    funext x; apply Fin.ext
    match x with
    | ⟨0, _⟩ => show win0_2.index t (0 : Fin 2) * 1024 + 1 * k.val = k.val; omega
    | ⟨1, _⟩ => show win0_2.index t (1 : Fin 2) * 1280 + 1 * b.val = j.val; omega
  rw [h1, V_w]
  exact wideCols_at _ k j

/-- The narrow weights. -/
theorem block_s (c : Dev nD) (t : Fin cfg0.N) (k : Fin 1024) (j : Fin 128) :
    (iblk m c 3 t : Vec Ideal S1024x128 .bf16) (ix2 k j) = narrowCols (m ((c : Thread nD τ).loc main_arg2)) (ix2 k j) := by
  have h1 : (iblk m c 3 t : Vec Ideal S1024x128 .bf16) (ix2 k j) = (V m c main_v18 : Vec Ideal S1024x128 .bf16) (ix2 k j) := by
    refine congrArg (V m c main_v18 : Vec Ideal S1024x128 .bf16) (?_ : ((cfg0.win 3).blk t).view.emb (ix2 k j) = ix2 k j)
    obtain ⟨e0, e1⟩ := index_3 t
    funext x; apply Fin.ext
    match x with
    | ⟨0, _⟩ => show win0_3.index t (0 : Fin 2) * 1024 + 1 * k.val = k.val; omega
    | ⟨1, _⟩ => show win0_3.index t (1 : Fin 2) * 128 + 1 * j.val = j.val; omega
  rw [h1, V_s]

/-! ## The outputs, entry by entry -/

theorem rows_pay (x : Vec Ideal S2048x1024 .f32) (g : Vec Ideal S1x1024 .f32) (a : Fin 2048) (k : Fin 1024) :
    k0_pay1 x g (ix2 a k) = x (ix2 a k) * Ideal.rsqrt (Ideal.div (∑ k' : Fin 1024, x (ix2 a k') * x (ix2 a k'))
      (Ideal.ofBits .f32 1149239296#32) + Ideal.ofBits .f32 925353388#32) * g (ix2 0 k) := by
  pointwise [k0_pay1]

theorem rows_same (x : Vec Ideal S2048x1024 .f32) (g : Vec Ideal S1x1024 .f32) (a : Fin 2048) (k : Fin 1024) :
    k0_pay2 x g (ix2 a k) = k0_pay1 x g (ix2 a k) := by
  pointwise [k0_pay2]

theorem rows_block (c : Dev nD) (t : Fin cfg0.N) (a : Fin 2048) (k : Fin 1024) (r : Fin 65536) (hr : r.val = t.val / 8 * 2048 + a.val) :
    k0_pay1 (iblk m c 0 t) (iblk m c 1 t) (ix2 a k)
      = normed (m ((c : Thread nD τ).loc main_arg0)) (m ((c : Thread nD τ).loc main_arg1)) r k := by
  refine (rows_pay (iblk m c 0 t) (iblk m c 1 t) a k).trans ?_
  unfold normed
  rw [block_h m c t a k r hr, block_g m c t k]
  refine congrArg (fun s => _ * Ideal.rsqrt (Ideal.div s _ + _) * _) (Finset.sum_congr rfl fun k' _ => ?_)
  rw [block_h m c t a k' r hr]

/-- The two outputs, by their shapes. -/
def wideArr (c : Dev nD) : Vec Ideal S65536x10240 .bf16 := wideOut m c
def narrowArr (c : Dev nD) : Vec Ideal S65536x128 .f32 := narrowOut m c

theorem wideOut_at (c : Dev nD) (r : Fin 65536) (j : Fin 10240) :
    wideArr m c (ix2 r j)
      = ∑ k : Fin 1024, normed (m ((c : Thread nD τ).loc main_arg0)) (m ((c : Thread nD τ).loc main_arg1)) r k
          * (m ((c : Thread nD τ).loc main_arg2) : Vec Ideal S1024x10336 .f32) (ix2 k (wideCol j)) := by
  obtain ⟨t, ht⟩ : ∃ t : Fin cfg0.N, t.val = r.val / 2048 * 8 + j.val / 1280 := ⟨wpt (ix2 r j), rfl⟩
  obtain rfl : t = wpt (ix2 r j) := Fin.ext ht
  have e : wideArr m c (ix2 r j)
      = k0_pay4 (rowsAt m c (wpt (ix2 r j))) (iblk m c 2 (wpt (ix2 r j)))
          (ix2 (⟨r.val % 2048, by omega⟩ : Fin 2048) (⟨j.val % 1280, by omega⟩ : Fin 1280)) := by
    refine congrArg (wideAt m c (wpt (ix2 r j))) ?_
    funext x; apply Fin.ext
    match x with
    | ⟨0, _⟩ => rfl
    | ⟨1, _⟩ => rfl
  rw [e]
  have hp : ∀ (x : Vec Ideal S2048x1024 .bf16) (w : Vec Ideal S1024x1280 .bf16) (a : Fin 2048) (b : Fin 1280),
      k0_pay4 x w (ix2 a b) = ∑ k : Fin 1024, x (ix2 a k) * w (ix2 k b) := by
    intro x w a b; pointwise [k0_pay4]
  refine (hp _ _ _ _).trans (Finset.sum_congr rfl fun k _ => ?_)
  rw [block_w m c _ k _ j (by show j.val = _ % 8 * 1280 + j.val % 1280; omega)]
  refine congrArg (· * _) ?_
  unfold rowsAt
  exact (rows_same _ _ _ k).trans (rows_block m c _ _ k r (by
    show r.val = (wpt (ix2 r j)).val / 8 * 8 / 8 * 2048 + r.val % 2048; omega))

theorem narrowOut_sum (c : Dev nD) (r : Fin 65536) (j : Fin 128) :
    narrowArr m c (ix2 r j)
      = ∑ k : Fin 1024, normed (m ((c : Thread nD τ).loc main_arg0)) (m ((c : Thread nD τ).loc main_arg1)) r k
          * narrowCols (m ((c : Thread nD τ).loc main_arg2)) (ix2 k j) := by
  have ht : (npt (ix2 r j)).val = r.val / 2048 * 8 + 7 := rfl
  have e : narrowArr m c (ix2 r j)
      = k0_pay3 (iblk m c 0 (head (npt (ix2 r j)))) (iblk m c 1 (head (npt (ix2 r j)))) (iblk m c 3 (head (npt (ix2 r j))))
          (ix2 (⟨r.val % 2048, by omega⟩ : Fin 2048) j) := by
    refine congrArg (narrowAt m c (npt (ix2 r j))) ?_
    funext x; apply Fin.ext
    match x with
    | ⟨0, _⟩ => rfl
    | ⟨1, _⟩ => rfl
  rw [e]
  have hp : ∀ (x : Vec Ideal S2048x1024 .f32) (g : Vec Ideal S1x1024 .f32) (w : Vec Ideal S1024x128 .bf16) (a : Fin 2048) (b : Fin 128),
      k0_pay3 x g w (ix2 a b) = ∑ k : Fin 1024, k0_pay1 x g (ix2 a k) * w (ix2 k b) := by
    intro x g w a b; pointwise [k0_pay3]
  refine (hp _ _ _ _ _).trans (Finset.sum_congr rfl fun k _ => ?_)
  rw [block_s m c _ k j]
  refine congrArg (· * _) ?_
  exact rows_block m c _ _ k r (by
    show r.val = (npt (ix2 r j)).val / 8 * 8 / 8 * 2048 + r.val % 2048; omega)

theorem narrowOut_at (c : Dev nD) (r : Fin 65536) (j : Fin 128) (h : j.val < 96) :
    narrowArr m c (ix2 r j)
      = ∑ k : Fin 1024, normed (m ((c : Thread nD τ).loc main_arg0)) (m ((c : Thread nD τ).loc main_arg1)) r k
          * (m ((c : Thread nD τ).loc main_arg2) : Vec Ideal S1024x10336 .f32) (ix2 k (narrowCol ⟨j.val, h⟩)) :=
  (narrowOut_sum m c r j).trans (Finset.sum_congr rfl fun k _ => congrArg (_ * ·) (narrowCols_at _ k j h))

theorem narrowOut_rest (c : Dev nD) (r : Fin 65536) (j : Fin 128) (h : ¬j.val < 96) :
    narrowArr m c (ix2 r j) = 0 :=
  (narrowOut_sum m c r j).trans (Finset.sum_eq_zero fun k _ => by rw [narrowCols_rest _ k j h]; exact mul_zero (M₀ := EReal) _)

end Cert.Proof.Project

end
-- ==== Proof.Ref.lean ====
/-
  The projection's reference over the reals, read at a row and a column.
-/
module

public import proofs.«01_k».proof.Proof.Sums
public import proofs.«01_k».proof.Proof.Gen.Reference2Ideal.Run

@[expose] public section

set_option maxRecDepth 16384

noncomputable section

namespace Cert.Proof.Project

open Cert.Reference2Ideal Cert.Reference2Ideal.Gen Cert.Reference2Ideal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- All the columns, in the weights' own order. -/
def allCols (h : Vec Ideal S8x8192x1024 .f32) (g : Vec Ideal S1024 .f32) (w : Vec Ideal S1024x10336 .f32) :
    Vec Ideal S65536x10336 .f32 :=
  shapeCast _ (Host.dotGeneral (F := Ideal) (φ₂ := .f32) dot_S8x8192x1024_S1024x10336_S8x8192x10336_2_0_01_1_n_n none
    (mulf (mulf h (broadcastInDim S8x8192x1024 ![0, 1, 2] bcast_S8x8192x1_S8x8192x1024_0_1_2 (Host.rsqrt (addf (Host.divf
      (broadcastInDim S8x8192x1 ![0, 1] bcast_S8x8192_S8x8192x1_0_1 (Host.reduceAdd (mulf h h) (constant (F := Ideal) S_ .f32 0x00000000#32)
        reducesTo_S8x8192x1024_S8x8192_d2 h_S_))
      (broadcastInDim S8x8192x1 ![] bcast_S_S8x8192x1 (constant (F := Ideal) S_ .f32 0x44800000#32)))
      (broadcastInDim S8x8192x1 ![] bcast_S_S8x8192x1 (constant (F := Ideal) S_ .f32 0x3727C5AC#32))))))
      (broadcastInDim S8x8192x1024 ![0, 1, 2] bcast_S1x1x1024_S8x8192x1024_0_1_2 (broadcastInDim S1x1x1024 ![2] bcast_S1024_S1x1x1024_2 g)))
    (w : FVec Ideal S1024x10336 .f32)) shapeCasts_S8x8192x10336_S65536x10336

theorem allCols_at (h : Vec Ideal S8x8192x1024 .f32) (g : Vec Ideal S1024 .f32) (w : Vec Ideal S1024x10336 .f32)
    (r : Fin 65536) (j : Fin 10336) : allCols h g w (ix2 r j) = ∑ k : Fin 1024, normed h g r k * w (ix2 k j) := by
  pointwise [allCols]
  unfold normed entry
  rfl

/-- The wide result: ten blocks of those columns. -/
def wideRef (y : Vec Ideal S65536x10336 .f32) : Vec Ideal S65536x10240 .bf16 :=
  truncf (F := Ideal) .bf16 (fn_main_v28 (F := Ideal) (extractStridedSlice S65536x2048 ![0, 3104] y slices_S65536x10336_S65536x2048_0_3104)
    (extractStridedSlice S65536x2048 ![0, 5152] y slices_S65536x10336_S65536x2048_0_5152)
    (extractStridedSlice S65536x512 ![0, 0] y slices_S65536x10336_S65536x512_0_0)
    (extractStridedSlice S65536x512 ![0, 512] y slices_S65536x10336_S65536x512_0_512)
    (extractStridedSlice S65536x1024 ![0, 1024] y slices_S65536x10336_S65536x1024_0_1024)
    (extractStridedSlice S65536x1024 ![0, 2048] y slices_S65536x10336_S65536x1024_0_2048)
    (extractStridedSlice S65536x1024 ![0, 8288] y slices_S65536x10336_S65536x1024_0_8288)
    (extractStridedSlice S65536x1024 ![0, 9312] y slices_S65536x10336_S65536x1024_0_9312)
    (extractStridedSlice S65536x512 ![0, 7200] y slices_S65536x10336_S65536x512_0_7200)
    (extractStridedSlice S65536x512 ![0, 7712] y slices_S65536x10336_S65536x512_0_7712)) bitsLt_bf16_f32

/-- The narrow result: three blocks of those columns, then zeros. -/
def narrowRef (y : Vec Ideal S65536x10336 .f32) : Vec Ideal S65536x128 .f32 :=
  fn_main_v30 (F := Ideal) (extractStridedSlice S65536x16 ![0, 3072] y slices_S65536x10336_S65536x16_0_3072)
    (extractStridedSlice S65536x16 ![0, 3088] y slices_S65536x10336_S65536x16_0_3088)
    (extractStridedSlice S65536x64 ![0, 8224] y slices_S65536x10336_S65536x64_0_8224)
    (broadcastInDim S65536x32 ![] bcast_S_S65536x32 (constant (F := Ideal) S_ .f32 0x00000000#32))

theorem wideRef_at (y : Vec Ideal S65536x10336 .f32) (r : Fin 65536) (j : Fin 10240) :
    wideRef y (ix2 r j) = y (ix2 r (wideCol j)) := by
  pointwise [wideRef, fn_main_v28]
  unfold wideCol
  iterate 9 (refine pick (fun q => y (ix2 r q)) _ _ _ _ (fun _ => rfl) (fun _ => ?_))
  rfl

theorem narrowRef_at (y : Vec Ideal S65536x10336 .f32) (r : Fin 65536) (j : Fin 128) (h : j.val < 96) :
    narrowRef y (ix2 r j) = y (ix2 r (narrowCol ⟨j.val, h⟩)) := by
  pointwise [narrowRef, fn_main_v30]
  unfold narrowCol
  split_ifs <;> first | rfl | omega

theorem narrowRef_rest (y : Vec Ideal S65536x10336 .f32) (r : Fin 65536) (j : Fin 128) (h : ¬j.val < 96) :
    narrowRef y (ix2 r j) = 0 := by
  pointwise [narrowRef, fn_main_v30]
  split_ifs <;> first | rfl | omega

/-- The reference's run, with its results by these names. -/
theorem run_ref (ρ : Dev nD → PrngReg) :
    θ_run defs (onTc (τ := τ) (main (F := Ideal))) ⟨m, fun _ => 0, ρ⟩ fun r => ∀ c : Dev nD,
      r.2.mem ((c.tc : Thread nD τ).loc main_v31) = wideRef (allCols (m ((c.tc : Thread nD τ).loc main_arg0)) (m ((c.tc : Thread nD τ).loc main_arg1)) (m ((c.tc : Thread nD τ).loc main_arg2)))
      ∧ r.2.mem ((c.tc : Thread nD τ).loc main_v30) = narrowRef (allCols (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by unfold res_main_v31 wideRef allCols fn_main_v28; rfl), (h c).2.1.trans (by unfold narrowRef allCols fn_main_v30; rfl), (h c).2.2⟩)
    (Cert.Reference2Ideal.Value.run m ρ)

/-! ## The two sides agree -/

variable (m' : (ℓ : Loc Cert.Kernel2Ideal.nD Cert.Kernel2Ideal.τ Cert.Kernel2Ideal.sig) → Buf (Elt Ideal) ℓ)

theorem wide_agrees (c : Dev Cert.Kernel2Ideal.nD) :
    wideRef (allCols (m' ((c.tc : Thread Cert.Kernel2Ideal.nD Cert.Kernel2Ideal.τ).loc Cert.Kernel2Ideal.main_arg0)) (m' ((c.tc : Thread Cert.Kernel2Ideal.nD Cert.Kernel2Ideal.τ).loc Cert.Kernel2Ideal.main_arg1))
      (m' ((c.tc : Thread Cert.Kernel2Ideal.nD Cert.Kernel2Ideal.τ).loc Cert.Kernel2Ideal.main_arg2))) = wideArr m' c := by
  funext i
  obtain ⟨r, j, rfl⟩ : ∃ (r : Fin 65536) (j : Fin 10240), i = ix2 r j := ⟨i 0, i 1, eq_ix2 i⟩
  exact (wideRef_at _ r j).trans ((allCols_at _ _ _ r _).trans (wideOut_at m' c r j).symm)

theorem narrow_agrees (c : Dev Cert.Kernel2Ideal.nD) :
    narrowRef (allCols (m' ((c.tc : Thread Cert.Kernel2Ideal.nD Cert.Kernel2Ideal.τ).loc Cert.Kernel2Ideal.main_arg0)) (m' ((c.tc : Thread Cert.Kernel2Ideal.nD Cert.Kernel2Ideal.τ).loc Cert.Kernel2Ideal.main_arg1))
      (m' ((c.tc : Thread Cert.Kernel2Ideal.nD Cert.Kernel2Ideal.τ).loc Cert.Kernel2Ideal.main_arg2))) = narrowArr m' c := by
  funext i
  obtain ⟨r, j, rfl⟩ : ∃ (r : Fin 65536) (j : Fin 128), i = ix2 r j := ⟨i 0, i 1, eq_ix2 i⟩
  by_cases h : j.val < 96
  · exact (narrowRef_at _ r j h).trans ((allCols_at _ _ _ r _).trans (narrowOut_at m' c r j h).symm)
  · exact (narrowRef_rest _ r j h).trans (narrowOut_rest m' c r j h).symm

end Cert.Proof.Project

end
-- ==== Proof.Words.lean ====
/-
  The words the gather kernel computes on the vector subcores, in closed form. The pipeline carries five counters through its
  sixty-four trips; before trip `t` they are `t + 1` (stopping at 64), `t`, `t`, `t - 1` and `t` modulo 64. From them come
  the two slots of each staging buffer (a parity), the window of the index list and of the output each transfer moves, and
  which transfers a trip makes.
-/
module

public import proofs.«01_k».proof.Defs
public import proofs.«01_k».proof.Proof.Gen.KernelIdeal
public import proofs.«01_k».proof.Proof.Gen.KernelIdeal.Skeleton

@[expose] public section

noncomputable section

namespace Cert.Proof.Fetch

open Cert.KernelIdeal Cert.KernelIdeal.Gen
open Idealize.ShloMosaic

/-- The subcore's coordinates from its SparseCore and its place there. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (i : grid0.Coords) : coordsV (i 0) (i 1) = i := by
  funext a
  match a with
  | 0 => rfl
  | 1 => rfl

/-- The first of the sixty-four windows the subcore at `i` moves. -/
def base (i : grid0.Coords) : Nat := 64 * ((i 1).val + 16 * (i 0).val)

theorem base_le (i : grid0.Coords) : base i + 64 ≤ 2048 := by
  have h0 : (i 0).val < 2 := (i 0).isLt
  have h1 : (i 1).val < 16 := (i 1).isLt
  unfold base; omega

/-- The number `n` as a counter word. -/
abbrev wd (n : Nat) : BitVec 32 := BitVec.ofNat 32 n

/-- The counters before trip `t`. -/
def ctr (t : Nat) : BitVec 32 × BitVec 32 × BitVec 32 × BitVec 32 × BitVec 32 :=
  (wd (min (t + 1) 64), wd t, wd t, wd (t - 1), wd (t % 64))

theorem trips_eq : k0_t1_loop.trips = 64 := by decide +kernel

/-! ## Which transfers trip `t` makes -/

theorem cond1_iff : ∀ (i : grid0.Coords) (t : Fin 64), (k0_cond1 i t (wd (t.val % 64)) = 1#1) ↔ (t.val < 63) := by decide +kernel
theorem cond2_true : ∀ (i : grid0.Coords) (t : Fin 64), k0_cond2 i t (wd (t.val % 64)) = 1#1 := by decide +kernel
theorem cond5_true : ∀ (i : grid0.Coords) (t : Fin 64), k0_cond5 i t (wd (t.val % 64)) = 1#1 := by decide +kernel
theorem cond7_iff : ∀ (i : grid0.Coords) (t : Fin 64), (k0_cond7 i t (wd (t.val % 64)) = 1#1) ↔ (0 < t.val) := by decide +kernel

/-! ## The slices of the remaining operations lie inside their buffers -/

theorem chk2_true : ∀ t : Fin 64, k0_chk2 (wd t.val) := by decide +kernel
theorem chk3_true : ∀ t : Fin 64, k0_chk3 (wd t.val) := by decide +kernel
theorem chk4_true : k0_chk4 (wd 63) := by decide +kernel
theorem chk5_true : ∀ i : grid0.Coords, k0_chk5 i (wd 0) := by decide +kernel

/-! ## The offsets -/

theorem off1_eq : k0_off1 = ![0, 0, 0] := by decide +kernel
theorem off2_eq : ∀ i : grid0.Coords, k0_off2 i = ![0, 128 * base i] := by decide +kernel
theorem off3_eq : k0_off3 = ![0] := by decide +kernel
theorem off4_eq : ∀ t : Fin 64, k0_off4 (wd (min (t.val + 1) 64)) = ![(t.val + 1) % 2, 0, 0] := by decide +kernel
theorem off5_eq : ∀ (i : grid0.Coords) (t : Fin 64), t.val < 63 → k0_off5 i (wd (t.val % 64)) = ![0, 128 * (base i + (t.val + 1))] := by decide +kernel
theorem off6_eq : ∀ t : Fin 64, k0_off6 (wd (min (t.val + 1) 64)) = ![(t.val + 1) % 2] := by decide +kernel
theorem off7_eq : ∀ t : Fin 64, k0_off7 (wd t.val) = ![t.val % 2, 0, 0] := by decide +kernel
theorem off8_eq : ∀ (i : grid0.Coords) (t : Fin 64), k0_off8 i (wd (t.val % 64)) = ![0, 128 * (base i + t.val)] := by decide +kernel
theorem off9_eq : ∀ t : Fin 64, k0_off9 (wd t.val) = ![t.val % 2] := by decide +kernel
theorem off10_eq : ∀ t : Fin 64, k0_off10 (wd t.val) = ![t.val % 2, 0, 0] := by decide +kernel
theorem off11_eq : ∀ t : Fin 64, k0_off11 (wd t.val) = ![t.val % 2, 0, 0] := by decide +kernel
theorem off12_eq : ∀ t : Fin 64, k0_off12 (wd t.val) = ![t.val % 2, 0, 0] := by decide +kernel
theorem off13_eq : ∀ (i : grid0.Coords) (t : Fin 64), k0_off13 i (wd (t.val % 64)) = ![128 * (base i + t.val), 0] := by decide +kernel
theorem off14_eq : ∀ t : Fin 64, k0_off14 (wd t.val) = ![t.val % 2] := by decide +kernel
theorem off15_eq : ∀ t : Fin 64, k0_off15 (wd (t.val - 1)) = ![(t.val - 1) % 2, 0, 0] := by decide +kernel
theorem off16_eq : ∀ (i : grid0.Coords) (t : Fin 64), 0 < t.val → k0_off16 i (wd (t.val % 64)) = ![128 * (base i + (t.val - 1)), 0] := by decide +kernel
theorem off17_eq : ∀ t : Fin 64, k0_off17 (wd (t.val - 1)) = ![(t.val - 1) % 2] := by decide +kernel
theorem off19_eq : ∀ i : grid0.Coords, k0_off19 i (wd 0) = ![128 * (base i + 63), 0] := by decide +kernel
theorem off20_eq : k0_off20 (wd 63) = ![1] := by decide +kernel
theorem off21_eq : k0_off21 (wd 63) = ![1, 0, 0] := by decide +kernel

/-! ## Every slice a trip takes lies inside its buffer -/

theorem chk1_true (i : grid0.Coords) (t : Fin 64) :
    k0_chk1 i t (wd (min (t.val + 1) 64)) (wd t.val) (wd t.val) (wd (t.val - 1)) (wd (t.val % 64)) := by
  have hb := base_le i
  have ht := t.isLt
  refine ⟨fun _ a => ?_, fun h a => ?_, fun _ a => ?_, fun _ a => ?_, fun _ a => ?_, fun _ a => ?_, fun _ a => ?_, fun _ a => ?_,
    fun _ a => ?_, fun _ a => ?_, fun h a => ?_, fun _ a => ?_⟩
  · rw [off4_eq]; fin_cases a <;> simp <;> omega
  · rw [off5_eq i t ((cond1_iff i t).mp h)]; have := (cond1_iff i t).mp h; fin_cases a <;> simp <;> omega
  · rw [off6_eq]; fin_cases a <;> simp <;> omega
  · rw [off7_eq]; fin_cases a <;> simp <;> omega
  · rw [off8_eq]; fin_cases a <;> simp <;> omega
  · rw [off9_eq]; fin_cases a <;> simp <;> omega
  · rw [off12_eq]; fin_cases a <;> simp <;> omega
  · rw [off13_eq]; fin_cases a <;> simp <;> omega
  · rw [off14_eq]; fin_cases a <;> simp <;> omega
  · rw [off15_eq]; fin_cases a <;> simp <;> omega
  · rw [off16_eq i t ((cond7_iff i t).mp h)]; fin_cases a <;> simp <;> omega
  · rw [off17_eq]; fin_cases a <;> simp <;> omega

/-! ## The counters a trip leaves -/

/-- The word of the subcore's first window. -/
def baseW (i : grid0.Coords) : BitVec 32 :=
  Scalar.muli (Scalar.addi (Scalar.addi 0#32 (Scalar.muli (BitVec.ofNat 32 (i 1).val) 1#32)) (Scalar.muli (BitVec.ofNat 32 (i 0).val) 16#32)) 64#32

/-- The window before the one counter word `a` names, and the one after it, wrapping around the sixty-four. -/
def prevW (a : BitVec 32) : BitVec 32 :=
  Scalar.select (Scalar.cmpi .eq (Scalar.select 1#1 (Scalar.subi a 1#32) a) 4294967295#32) 63#32 (Scalar.select 1#1 (Scalar.subi a 1#32) a)
def nextW (a : BitVec 32) : BitVec 32 :=
  Scalar.select (Scalar.cmpi .eq (Scalar.select 1#1 (Scalar.addi a 1#32) a) 64#32) 0#32 (Scalar.select 1#1 (Scalar.addi a 1#32) a)

theorem yield_eq : ∀ (i : grid0.Coords) (t : Fin 64),
    (let a6 := wd (min (t.val + 1) 64); let a7 := wd t.val; let a8 := wd t.val; let a9 := wd (t.val - 1); let a10 := wd (t.val % 64)
     let v5 : BitVec 32 := Scf.iv 0#32 1#32 t.val
     let v64 := Scalar.cmpi .eq v5 0#32
     let v65 := Scalar.cmpi .eq v5 63#32
     let v66 := Scalar.addi a10 (baseW i)
     let v71 := Scalar.addi (prevW a10) (baseW i)
     let v76 := Scalar.addi (nextW a10) (baseW i)
     ((Scalar.select (Scalar.andi (Scalar.andi (Scalar.cmpi .ne v66 v76) (Scalar.xori (Scalar.cmpi .sge v5 63#32) 1#1)) 1#1) (Scalar.addi a6 1#32) a6,
      Scalar.select (Scalar.ori (Scalar.cmpi .ne v66 v76) v65) (Scalar.addi a7 1#32) a7,
      Scalar.select (Scalar.andi (Scalar.ori (Scalar.cmpi .ne v66 v76) v65) 1#1) (Scalar.addi a8 1#32) a8,
      Scalar.select (Scalar.andi (Scalar.andi (Scalar.cmpi .ne v66 v71) (Scalar.xori v64 1#1)) 1#1) (Scalar.addi a9 1#32) a9,
      nextW a10) : BitVec 32 × BitVec 32 × BitVec 32 × BitVec 32 × BitVec 32)) = ctr (t.val + 1) := by decide +kernel

end Cert.Proof.Fetch

end
-- ==== Proof.Slots.lean ====
/-
  The pieces of memory the gather's pipeline moves, and the words it moves. A staging buffer has two slots, one per parity;
  the index list and the output are cut in 2048 windows of 128 rows. What a slot holds after the indirect gather is the
  output's own window of the gathered table (`slot_gathered`): row `r` of window `w` is the table's row named by word
  `128 w + r` of the index list, the table seen as rows of two halves and the slot likewise.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Fetch

open Cert.KernelIdeal Cert.KernelIdeal.Gen
open Idealize.ShloMosaic

variable {F : FTy → Type}

/-! ## The buffers, whole -/

abbrev tV : Memref sig .scVector .hbm S294912x256 .i32 := Memref.whole main_arg0_scv
abbrev iV : Memref sig .scVector .hbm S1x262144 .i32 := Memref.whole main_arg1_scv
abbrev oV : Memref sig .scVector .hbm S262144x256 .i32 := Memref.whole main_v0_scv
abbrev bI : Memref sig .scVector .vmem S2x1x128 .i32 := Memref.whole cc0_scoped0
abbrev bO : Memref sig .scVector .vmem S2x128x256 .i32 := Memref.whole cc0_scoped2

/-! ## Slots and windows -/

theorem iSlot_inb (p : Fin 2) : ∀ a, (![p.val, 0, 0] : Fin 3 → Nat) a + S1x1x128.size a ≤ S2x1x128.size a := by
  have := p.isLt; intro a; fin_cases a <;> simp; omega
theorem oSlot_inb (p : Fin 2) : ∀ a, (![p.val, 0, 0] : Fin 3 → Nat) a + S1x128x256.size a ≤ S2x128x256.size a := by
  have := p.isLt; intro a; fin_cases a <;> simp; omega
theorem iWin_inb (w : Fin 2048) : ∀ a, (![0, 128 * w.val] : Fin 2 → Nat) a + S1x128.size a ≤ S1x262144.size a := by
  have := w.isLt; intro a; fin_cases a <;> simp; omega
theorem oWin_inb (w : Fin 2048) : ∀ a, (![128 * w.val, 0] : Fin 2 → Nat) a + S128x256.size a ≤ S262144x256.size a := by
  have := w.isLt; intro a; fin_cases a <;> simp; omega
theorem sem_inb (p : Fin 2) : ∀ a, (![p.val] : Fin 1 → Nat) a + S1.size a ≤ S2.size a := by
  have := p.isLt; intro a; fin_cases a; simp; omega

/-- Slot `p` of the index scratch, as a row of 128 words. -/
abbrev iSlot (p : Fin 2) : Memref sig .scVector .vmem S1x128 .i32 :=
  (bI.slice (Rect.unit (s := S2x1x128) ![p.val, 0, 0] S1x1x128.size (iSlot_inb p)) (fun _ => rfl)).squeeze S1x128 squeezes_S1x1x128_S1x128
/-- Slot `p` of the row scratch, as 128 rows of 256 words. -/
abbrev oSlot (p : Fin 2) : Memref sig .scVector .vmem S128x256 .i32 :=
  (bO.slice (Rect.unit (s := S2x128x256) ![p.val, 0, 0] S1x128x256.size (oSlot_inb p)) (fun _ => rfl)).squeeze S128x256 squeezes_S1x128x256_S128x256
/-- Window `w` of the index list. -/
abbrev iWin (w : Fin 2048) : Memref sig .scVector .hbm S1x128 .i32 :=
  iV.slice (Rect.unit (s := S1x262144) ![0, 128 * w.val] S1x128.size (iWin_inb w)) (fun _ => rfl)
/-- Window `w` of the output. -/
abbrev oWin (w : Fin 2048) : Memref sig .scVector .hbm S128x256 .i32 :=
  oV.slice (Rect.unit (s := S262144x256) ![128 * w.val, 0] S128x256.size (oWin_inb w)) (fun _ => rfl)

/-- The cell the copies into slot `p` of the index scratch credit, and the one the copies out of slot `p` of the row scratch credit. -/
abbrev iSem (p : Fin 2) : DmaSem sig :=
  ((cc0_scoped1.slice (Rect.unit (s := S2) ![p.val] S1.size (sem_inb p))).squeeze S_ squeezes_S1_S_).sem
abbrev oSem (p : Fin 2) : DmaSem sig :=
  ((cc0_scoped3.slice (Rect.unit (s := S2) ![p.val] S1.size (sem_inb p))).squeeze S_ squeezes_S1_S_).sem

theorem iSem_zero : iSem 0 = (0 : Fin 5) := by decide
theorem iSem_one : iSem 1 = (1 : Fin 5) := by decide
theorem oSem_zero : oSem 0 = (2 : Fin 5) := by decide
theorem oSem_one : oSem 1 = (3 : Fin 5) := by decide
theorem gSem_eq : cc0_scoped4.sem = (4 : Fin 5) := by decide

/-- The table as rows of two halves of 128 words. -/
abbrev tHalves : Memref sig .scVector .hbm S294912x2x128 .i32 :=
  (tV.reshape S294912x2x128 reshapes_S294912x256_S294912x2x128.1 reshapes_S294912x256_S294912x2x128.2 (Memref.isWhole_whole main_arg0_scv).contiguous).slice
    (Rect.unit (s := S294912x2x128) ![0, 0, 0] S294912x2x128.size inb_S294912x2x128_S294912x2x128_0_0_0) (fun _ => rfl)

/-- The index slot as a list of 128 words. -/
abbrev iList (p : Fin 2) : Memref sig .scVector .vmem S128 .i32 :=
  ((iSlot p).slice (Rect.unit (s := S1x128) ![0, 0] S1x128.size inb_S1x128_S1x128_0_0) (fun _ => rfl)).squeeze S128 squeezes_S1x128_S128

/-! ## The output -/

/-- Row `n` of the table, column `c`. -/
def tIdx (n : Nat) (c : Fin 256) : S294912x256.Idx := fun | 0 => (Fin.ofNat 294912 n : Fin 294912) | 1 => c
/-- Word `r` of the index list. -/
def iIdx (r : Fin 262144) : S1x262144.Idx := fun | 0 => (0 : Fin 1) | 1 => r

/-- The gathered rows: row `r` is the table's row named by word `r` of the list. -/
def gathered (t : S294912x256.Idx → BitVec 32) (ix : S1x262144.Idx → BitVec 32) : S262144x256.Idx → BitVec 32 :=
  fun j => t (tIdx (ix (iIdx (j 0))).toNat (j 1))

section Values

variable (t : S294912x256.Idx → Elt F .i32) (ix : S1x262144.Idx → Elt F .i32)

theorem iWin_read (w : Fin 2048) (x : S1x128.Idx) :
    (iWin w).view.read (Elt F) ix x = ix ((iWin w).view.emb x) := (View.read_apply _ _).trans (cast_eq _ _)
theorem iSlot_read (p : Fin 2) (f : S2x1x128.Idx → Elt F .i32) (x : S1x128.Idx) :
    (iSlot p).view.read (Elt F) f x = f ((iSlot p).view.emb x) := (View.read_apply _ _).trans (cast_eq _ _)
theorem oSlot_read (p : Fin 2) (f : S2x128x256.Idx → Elt F .i32) (x : S128x256.Idx) :
    (oSlot p).view.read (Elt F) f x = f ((oSlot p).view.emb x) := (View.read_apply _ _).trans (cast_eq _ _)
theorem oWin_read (w : Fin 2048) (f : S262144x256.Idx → Elt F .i32) (x : S128x256.Idx) :
    (oWin w).view.read (Elt F) f x = f ((oWin w).view.emb x) := (View.read_apply _ _).trans (cast_eq _ _)

/-- Where window `w` puts word `x` in the list, and row `x 0`, column `x 1` in the output. -/
def oIdx (w : Fin 2048) (x : S128x256.Idx) : S262144x256.Idx :=
  fun | 0 => ⟨128 * w.val + (x 0).val, by have := w.isLt; have : (x 0).val < 128 := (x 0).isLt; show _ < 262144; omega⟩ | 1 => x 1
def wIdx (w : Fin 2048) (x : S1x128.Idx) : S1x262144.Idx :=
  iIdx ⟨128 * w.val + (x 1).val, by have := w.isLt; have : (x 1).val < 128 := (x 1).isLt; omega⟩

theorem iWin_emb (w : Fin 2048) (x : S1x128.Idx) : ((iWin w).view.emb x : S1x262144.Idx) = wIdx w x := by
  refine funext fun (a : Fin 2) => ?_
  match a with
  | 0 => exact Subsingleton.elim (α := Fin 1) _ _
  | 1 => exact Fin.ext (show 128 * w.val + 1 * (x 1).val = 128 * w.val + (x 1).val by omega)

theorem oWin_emb (w : Fin 2048) (x : S128x256.Idx) : ((oWin w).view.emb x : S262144x256.Idx) = oIdx w x := by
  refine funext fun (a : Fin 2) => ?_
  match a with
  | 0 => exact Fin.ext (show 128 * w.val + 1 * (x 0).val = 128 * w.val + (x 0).val by omega)
  | 1 => exact Fin.ext (show 0 + 1 * (x 1).val = (x 1).val by omega)

/-- The list the stream reads is the slot's row. -/
theorem iList_read (p : Fin 2) (f : S2x1x128.Idx → Elt F .i32) (x : S128.Idx) :
    (iList p).view.read (Elt F) f x = (iSlot p).view.read (Elt F) f (fun | 0 => (0 : Fin 1) | 1 => x 0) := by
  refine ((View.read_apply _ _).trans (cast_eq _ _)).trans ?_
  rw [iSlot_read]
  refine congrArg f (congrArg (iSlot p).view.emb ?_)
  have h : (S1x128.rowMajor (Shape.reshapeEquiv squeezes_S1x128_S128.numel_eq x)).val = (S128.rowMajor x).val :=
    Shape.rowMajor_reshapeEquiv squeezes_S1x128_S128.numel_eq x
  show ((Rect.unit (s := S1x128) ![0, 0] S1x128.size inb_S1x128_S1x128_0_0).idx (Shape.reshapeEquiv squeezes_S1x128_S128.numel_eq x) : S1x128.Idx) = _
  generalize Shape.reshapeEquiv squeezes_S1x128_S128.numel_eq x = y at h ⊢
  rw [Shape.rowMajor_val_two, Shape.rowMajor_val_one] at h
  have h0 : (y 0).val < 1 := (y 0).isLt
  have h1 : (y 0).val * 128 + (y 1).val = (x 0).val := h
  funext a
  match a with
  | 0 => exact Subsingleton.elim (α := Fin 1) _ _
  | 1 =>
    refine Fin.ext ?_
    show 0 + 1 * (y 1).val = (x 0).val
    omega

/-- A table entry through the view of half rows. -/
theorem tHalves_read (z : S294912x2x128.Idx) (c : Fin 256) (hc : c.val = 128 * (z 1).val + (z 2).val) :
    tHalves.view.read (Elt F) t z = t (tIdx (z 0).val c) := by
  refine ((View.read_apply _ _).trans (cast_eq _ _)).trans (congrArg t ?_)
  have hz : ((Rect.unit (s := S294912x2x128) ![0, 0, 0] S294912x2x128.size inb_S294912x2x128_S294912x2x128_0_0_0).idx z : S294912x2x128.Idx) = z := by
    funext a
    refine Fin.ext ?_
    match a with
    | 0 => exact (show 0 + 1 * (z 0).val = (z 0).val by omega)
    | 1 => exact (show 0 + 1 * (z 1).val = (z 1).val by omega)
    | 2 => exact (show 0 + 1 * (z 2).val = (z 2).val by omega)
  show Shape.reshapeEquiv (s := S294912x256) (s' := S294912x2x128) reshapes_S294912x256_S294912x2x128.1
    ((Rect.unit (s := S294912x2x128) ![0, 0, 0] S294912x2x128.size inb_S294912x2x128_S294912x2x128_0_0_0).idx z) = _
  rw [hz]
  refine Shape.reshapeEquiv_eq_of_rowMajor _ ?_
  rw [Shape.rowMajor_val_two, Shape.rowMajor_val_three]
  have h0 : (z 0).val < 294912 := (z 0).isLt
  show ((z 0).val % 294912) * 256 + c.val = ((z 0).val * 2 + (z 1).val) * 128 + (z 2).val
  rw [Nat.mod_eq_of_lt h0]; omega

/-- The row slot as 128 rows of two halves of 128 words: what the stream writes through. -/
abbrev oHalves (p : Fin 2) (hc : (oSlot p).view.Contiguous) : Memref sig .scVector .vmem S128x2x128 .i32 :=
  (oSlot p).reshape S128x2x128 reshapes_S128x256_S128x2x128.1 reshapes_S128x256_S128x2x128.2 hc

/-- What the stream leaves in the row slot, read row by row. -/
theorem slot_gathered (p : Fin 2) (w : Fin 2048) (hc : (oSlot p).view.Contiguous) (fd : S2x128x256.Idx → Elt F .i32) (fo : S2x1x128.Idx → Elt F .i32)
    (hfo : ∀ x, (iSlot p).view.read (Elt F) fo x = (iWin w).view.read (Elt F) ix x)
    (hin : ∀ x, ((iList p).view.read (Elt F) fo x).toNat < S294912x2x128.size gathers_S294912x2x128_S128x2x128.axis)
    (hn : S128.numel = S128x2x128.size gathers_S294912x2x128_S128x2x128.axis')
    (y : S128x256.Idx) :
    (oSlot p).view.read (Elt F) ((oHalves p hc).view.write (Elt F) fd
        (SparseCore.gatherPayload gathers_S294912x2x128_S128x2x128 (tHalves.view.read (Elt F) t)
          (SparseCore.rows ((iList p).view.read (Elt F) fo) hn hin)) Finset.univ) y
      = (oWin w).view.read (Elt F) (gathered t ix) y := by
  refine (oSlot_read p _ y).trans (Eq.trans ?_ (((oWin_read w (gathered t ix) y).trans (congrArg (gathered t ix) (oWin_emb w y))).symm))
  have hr : S128x2x128.numel = S128x256.numel := reshapes_S128x256_S128x2x128.1
  obtain ⟨z, hz⟩ := (Shape.reshapeEquiv (s := S128x256) (s' := S128x2x128) hr).surjective y
  have he : ((oSlot p).view.emb y : S2x128x256.Idx) = (oHalves p hc).view.emb z := by rw [← hz]; rfl
  rw [he]
  refine (View.write_emb_of_mem _ _ (Finset.mem_univ z)).trans ((cast_eq _ _).trans ?_)
  have h : (S128x256.rowMajor y).val = (S128x2x128.rowMajor z).val := by rw [← hz]; exact Shape.rowMajor_reshapeEquiv hr z
  rw [Shape.rowMajor_val_two, Shape.rowMajor_val_three] at h
  have h1 : (y 0).val * 256 + (y 1).val = ((z 0).val * 2 + (z 1).val) * 128 + (z 2).val := h
  have b1 : (y 1).val < 256 := (y 1).isLt
  have b2 : (z 1).val < 2 := (z 1).isLt
  have b3 : (z 2).val < 128 := (z 2).isLt
  have e0 : (z 0).val = (y 0).val := by omega
  have e1 : (y 1).val = 128 * (z 1).val + (z 2).val := by omega
  unfold SparseCore.gatherPayload
  generalize hrow : SparseCore.rows ((iList p).view.read (Elt F) fo) hn hin = row
  have i1 := Shape.Gathers.idx_of_ne gathers_S294912x2x128_S128x2x128 row z (1 : Fin 3) (by decide)
  have i2 := Shape.Gathers.idx_of_ne gathers_S294912x2x128_S128x2x128 row z (2 : Fin 3) (by decide)
  have i0 := congrArg Fin.val (Shape.Gathers.idx_axis gathers_S294912x2x128_S128x2x128 row z)
  refine (tHalves_read t _ (y 1) (by rw [i1, i2]; exact e1)).trans ?_
  have hk : ∀ x : S128.Idx, (iList p).view.read (Elt F) fo x = ix (wIdx w (fun | 0 => (0 : Fin 1) | 1 => x 0)) := fun x =>
    (iList_read p fo x).trans ((hfo _).trans ((iWin_read ix w _).trans (congrArg ix (iWin_emb w _))))
  have hs : ∀ k : Fin 128, ((S128.rowMajor.symm (k.cast hn.symm) : S128.Idx) 0).val = k.val := fun k => by
    have := Shape.rowMajor_val_one (d := ![128]) (S128.rowMajor.symm (k.cast hn.symm))
    rw [← this]; exact congrArg Fin.val (S128.rowMajor.apply_symm_apply (k.cast hn.symm))
  have hv : ((gathers_S294912x2x128_S128x2x128.idx row z) 0).val = (ix (iIdx ((oIdx w y) 0))).toNat := by
    refine i0.trans ?_
    rw [← hrow]
    show ((iList p).view.read (Elt F) fo (S128.rowMajor.symm (Fin.cast hn.symm (z 0)))).toNat = _
    rw [hk]
    refine congrArg (fun r => BitVec.toNat (ix (iIdx r))) (Fin.ext ?_)
    show 128 * w.val + ((S128.rowMajor.symm (Fin.cast hn.symm (z 0)) : S128.Idx) 0).val = 128 * w.val + (y 0).val
    rw [← e0]; exact congrArg (128 * w.val + ·) (hs (z 0))
  rw [hv]; rfl

end Values

end Cert.Proof.Fetch

end
-- ==== Proof.Steps.lean ====
/-
  The operations of one trip of the gather's pipeline, one rule each, over the pieces of `Slots`: the copy of a window of
  the index list into a slot, its wait, the indirect gather of that slot's rows with its wait, the copy of the row slot out
  to its window, and its wait. Each rule takes the offsets as the program computes them and an equation to the slot and
  window they name.
-/
module

public import proofs.«01_k».proof.Proof.Slots

@[expose] public section

noncomputable section

namespace Cert.Proof.Fetch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resources' algebra -/

abbrev 𝒱₀ : Variants := Variants.none
abbrev UH : Type := URounds (GSem nD τ sig) ℕ
abbrev UU : Type := UH × Counters

local notation "𝕄" => MT nD τ sig (HIx 1) (Elt F) ℕ UU ℕ

variable (m : (ℓ : Loc nD τ sig) → Buf (Elt F) ℓ)

abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-- What the call leaves in the output. -/
def out (d : Dev nD) : Buf (Elt F) (oLoc d) := gathered (m (tLoc d)) (m (iLoc d))

/-- What the proof asks of the launch memory: every word of the index list names a row of the table. -/
def PreOK : Prop := ∀ (d : Dev nD) (j : S1x262144.Idx), BitVec.toNat (m (iLoc d) j : BitVec 32) < 294912

section Tile

variable (d : Dev nD) (L : grid0.Coords)

abbrev cV (L : grid0.Coords) : Fin τ.nSC := (L 0).castLE hcore0
abbrev jV (L : grid0.Coords) : Fin τ.nSub := (L 1).castLE hsub0
/-- The subcore's thread. -/
abbrev th (d : Dev nD) (L : grid0.Coords) : Thread nD τ := V d (cV L) (jV L)

abbrev biLoc : Loc nD τ sig := (th d L).loc cc0_scoped0
abbrev boLoc : Loc nD τ sig := (th d L).loc cc0_scoped2

abbrev iSlotSet (p : Fin 2) : Finset S2x1x128.Idx := (iSlot p).view.set
abbrev oSlotSet (p : Fin 2) : Finset S2x128x256.Idx := (oSlot p).view.set
abbrev iWinSet (w : Fin 2048) : Finset S1x262144.Idx := (iWin w).view.set
abbrev oWinSet (w : Fin 2048) : Finset S262144x256.Idx := (oWin w).view.set

abbrev iSlotPts (p : Fin 2) (f : Buf (Elt F) (biLoc d L)) : sProp 𝕄 := biLoc d L ↦[iSlotSet p]{fullShare} f
abbrev oSlotPts (p : Fin 2) (f : Buf (Elt F) (boLoc d L)) : sProp 𝕄 := boLoc d L ↦[oSlotSet p]{fullShare} f
abbrev iPts (q : PosShare TreeShare) : sProp 𝕄 := iLoc d ↦{q} m (iLoc d)
abbrev tPts (q : PosShare TreeShare) : sProp 𝕄 := tLoc d ↦{q} m (tLoc d)
abbrev oWinPts (w : Fin 2048) (f : Buf (Elt F) (oLoc d)) : sProp 𝕄 := oLoc d ↦[oWinSet w]{fullShare} f

abbrev iCell (p : Fin 2) : GSem nD τ sig := (th d L, .dma (iSem p))
abbrev oCell (p : Fin 2) : GSem nD τ sig := (th d L, .dma (oSem p))
abbrev gCell : GSem nD τ sig := (th d L, .dma cc0_scoped4.sem)

/-! ## Where the copies stand -/

/-- Slot `p` of the index scratch holds no copy in flight: its words, its cell at zero and a share of the list. -/
def idxIdle (p : Fin 2) (q : PosShare TreeShare) : sProp 𝕄 :=
  iprop((∃ f, iSlotPts (F := F) d L p f) ∗ semVal (iCell d L p) 0 ∗ iPts m d q)

/-- Slot `p` holds window `w` of the list. -/
def idxGot (p : Fin 2) (w : Fin 2048) (q : PosShare TreeShare) : sProp 𝕄 :=
  iprop((∃ f, ⌜∀ x, (iSlot p).view.read (Elt F) f x = (iWin w).view.read (Elt F) (m (iLoc d)) x⌝ ∗ iSlotPts (F := F) d L p f)
    ∗ semVal (iCell d L p) 0 ∗ iPts m d q)

/-- Window `w` of the list is on its way into slot `p`. -/
def idxFly (p : Fin 2) (w : Fin 2048) (q : PosShare TreeShare) : sProp 𝕄 :=
  iprop(Transfers.Flight countersEmb (th d L) (.dma (iSem p)) (default : HIx 1) (iSlot p).view.dmaCredit
      iprop((∃ f, ⌜∀ x, (iSlot p).view.read (Elt F) f x = (iWin w).view.read (Elt F) (m (iLoc d)) x⌝ ∗ iSlotPts (F := F) d L p f)
        ∗ iLoc d ↦[iWinSet w]{q} m (iLoc d))
    ∗ iLoc d ↦[Finset.univ \ iWinSet w]{q} m (iLoc d))

/-- Slot `p` of the row scratch holds no copy in flight. -/
def rowIdle (p : Fin 2) : sProp 𝕄 := iprop((∃ f, oSlotPts (F := F) d L p f) ∗ semVal (oCell d L p) 0)

/-- Slot `p` holds the rows of window `w`. -/
def rowGot (p : Fin 2) (w : Fin 2048) : sProp 𝕄 :=
  iprop((∃ f, ⌜∀ x, (oSlot p).view.read (Elt F) f x = (oWin w).view.read (Elt F) (out m d) x⌝ ∗ oSlotPts (F := F) d L p f)
    ∗ semVal (oCell d L p) 0)

/-- Slot `p`'s rows are on their way to window `w` of the output. -/
def rowFly (p : Fin 2) (w : Fin 2048) : sProp 𝕄 :=
  Transfers.Flight countersEmb (th d L) (.dma (oSem p)) (default : HIx 1) (oWin w).view.dmaCredit
    iprop(oWinPts (F := F) d w (out m d) ∗ ∃ f, oSlotPts (F := F) d L p f)

theorem idxGot_idle (p : Fin 2) (w : Fin 2048) (q : PosShare TreeShare) : idxGot m d L p w q ⊢ idxIdle m d L p q := by
  unfold idxGot idxIdle
  iintro ⟨⟨%f, -, H⟩, Hs, Hi⟩
  isplitl [H]; · iexists f; iexact H
  isplitl [Hs] <;> iassumption

variable [FloatOps F]

set_option maxHeartbeats 1000000 in
/-- The copy of window `w` into slot `p`, issued. -/
theorem wp_issueIdx (p : Fin 2) (w : Fin 2048) (q : PosShare TreeShare) {o1 : Fin 3 → Nat} {o2 : Fin 2 → Nat} {o3 : Fin 1 → Nat}
    (h1 : ∀ a, o1 a + S1x1x128.size a ≤ S2x1x128.size a) (h2 : ∀ a, o2 a + S1x128.size a ≤ S1x262144.size a) (h3 : ∀ a, o3 a + S1.size a ≤ S2.size a)
    (e1 : o1 = ![p.val, 0, 0]) (e2 : o2 = ![0, 128 * w.val]) (e3 : o3 = ![p.val]) {hsrc hdst hsem} {Q : PUnit → sProp 𝕄} :
    idxIdle m d L p q ⊢ iprop((idxFly m d L p w q -∗ Q ⟨⟩)
      -∗ wp frame (wpE (defs₀ (F := F)) 𝒱₀ (th d L) none) Set.univ
        (Prog.lift (.enqueueDma (iV.slice (Rect.unit (s := S1x262144) o2 S1x128.size h2) (fun _ => rfl))
          (.here ((bI.slice (Rect.unit (s := S2x1x128) o1 S1x1x128.size h1) (fun _ => rfl)).squeeze S1x128 squeezes_S1x1x128_S1x128))
          (.dma ((cc0_scoped1.slice (Rect.unit (s := S2) o3 S1.size h3)).squeeze S_ squeezes_S1_S_).sem) hsrc hdst hsem)) Q) := by
  subst e1 e2 e3
  unfold idxIdle idxFly
  iintro ⟨⟨%f, Hf⟩, Hs, Hi⟩ HQ
  ihave Hi' := (pointsTo_split_subset (q := q) (f := m (iLoc d)) (S := Finset.univ) (Finset.subset_univ (iWinSet w))).1 $$ Hi
  icases Hi' with ⟨Hw, Hr⟩
  iapply (Transfers.wp_dmaLocal countersEmb 𝒱₀ (th d L) none (src := iWin w) (dst := iSlot p) (sm := .dma (iSem p)) (default : HIx 1)
    (iSlot p).view.dmaCredit rfl (View.dmaCredit_pos _ (by decide)) (Finset.Subset.refl _)) $$ [Hw Hf Hs]
  · isplitl [Hw]; · iexact Hw
    isplitl [Hf]; · iexact Hf
    iexact Hs
  iintro Hfl
  rw [wp_ret]; imodintro
  iapply HQ
  isplitl [Hfl]
  · iapply (Transfers.Flight_mono countersEmb (th d L) ?_) $$ Hfl
    iintro ⟨H1, H2⟩
    isplitl [H1]
    · iexists _; isplitr
      swap; · iexact H1
      ipureintro; intro x
      exact congrFun (View.read_write_univ _ _) x
    · iexact H2
  · iexact Hr

set_option maxHeartbeats 1000000 in
/-- The wait for window `w` in slot `p`. -/
theorem wp_waitIdx (p : Fin 2) (w : Fin 2048) (q : PosShare TreeShare) {o1 : Fin 3 → Nat} {o2 : Fin 2 → Nat} {o3 : Fin 1 → Nat}
    (h1 : ∀ a, o1 a + S1x1x128.size a ≤ S2x1x128.size a) (h2 : ∀ a, o2 a + S1x128.size a ≤ S1x262144.size a) (h3 : ∀ a, o3 a + S1.size a ≤ S2.size a)
    (e1 : o1 = ![p.val, 0, 0]) (e3 : o3 = ![p.val]) {hsrc hdst} {Q : PUnit → sProp 𝕄}
    {O : CellTallies nD τ sig (HIx 1)} {W : Waits sig (HIx 1)} :
    iprop(idxFly m d L p w q ∗ owes (th d L) O W ∗ Transfers.MayWaits (th d L) (default : HIx 1) O)
      ⊢ iprop((iprop(idxGot m d L p w q ∗ owes (th d L) O (insert (SemLoc.dma (iSem p), (default : HIx 1)) W)) -∗ Q ⟨⟩)
      -∗ wp frame (wpE (defs₀ (F := F)) 𝒱₀ (th d L) none) Set.univ
        (Prog.lift (.waitDma2 ((cc0_scoped1.slice (Rect.unit (s := S2) o3 S1.size h3)).squeeze S_ squeezes_S1_S_).sem
          (iV.slice (Rect.unit (s := S1x262144) o2 S1x128.size h2) (fun _ => rfl))
          ((bI.slice (Rect.unit (s := S2x1x128) o1 S1x1x128.size h1) (fun _ => rfl)).squeeze S1x128 squeezes_S1x1x128_S1x128) hsrc hdst)) Q) := by
  subst e1 e3
  unfold idxFly idxGot
  iintro ⟨⟨Hfl, Hr⟩, HO, Hmw⟩ HQ
  iapply (Transfers.wp_waitLocalO countersEmb 𝒱₀ (th d L) none (sem := iSem p) (dstw := iSlot p) (default : HIx 1) rfl) $$ [Hfl HO Hmw]
  · isplitl [Hfl]; · iexact Hfl
    isplitl [HO]; · iexact HO
    iapply (Transfers.MayWaits.elim (SemLoc.dma (iSem p))) $$ Hmw
  iintro ⟨⟨Hf, Hw⟩, Hs, HO⟩
  rw [wp_ret]; imodintro
  iapply HQ
  isplitr [HO]
  · isplitl [Hf]; · iexact Hf
    isplitl [Hs]; · iexact Hs
    iapply (pointsTo_split_subset (q := q) (f := m (iLoc d)) (S := Finset.univ) (Finset.subset_univ (iWinSet w))).2
    isplitl [Hw] <;> iassumption
  · iexact HO

omit [FloatOps F] in
/-- What the copy out writes in its window is what the output holds there. -/
theorem row_landed (p : Fin 2) (w : Fin 2048) (f : S2x128x256.Idx → Elt F .i32) (f₀ : S262144x256.Idx → Elt F .i32)
    (hf : ∀ x, (oSlot p).view.read (Elt F) f x = (oWin w).view.read (Elt F) (out m d) x) (x : S128x256.Idx) :
    (oWin w).view.write (Elt F) f₀ ((oSlot p).view.read (Elt F) f) Finset.univ ((oWin w).view.emb x) = out m d ((oWin w).view.emb x) :=
  (View.write_emb_of_mem _ _ (Finset.mem_univ x)).trans ((cast_eq _ _).trans ((hf x).trans (oWin_read w _ x)))

set_option maxHeartbeats 1000000 in
/-- The copy of slot `p`'s rows out to window `w`, issued. -/
theorem wp_issueRow (p : Fin 2) (w : Fin 2048) (f₀ : Buf (Elt F) (oLoc d)) {o1 : Fin 3 → Nat} {o2 : Fin 2 → Nat} {o3 : Fin 1 → Nat}
    (h1 : ∀ a, o1 a + S1x128x256.size a ≤ S2x128x256.size a) (h2 : ∀ a, o2 a + S128x256.size a ≤ S262144x256.size a) (h3 : ∀ a, o3 a + S1.size a ≤ S2.size a)
    (e1 : o1 = ![p.val, 0, 0]) (e2 : o2 = ![128 * w.val, 0]) (e3 : o3 = ![p.val]) {hsrc hdst hsem} {Q : PUnit → sProp 𝕄} :
    iprop(rowGot m d L p w ∗ oWinPts d w f₀) ⊢ iprop((rowFly m d L p w -∗ Q ⟨⟩)
      -∗ wp frame (wpE (defs₀ (F := F)) 𝒱₀ (th d L) none) Set.univ
        (Prog.lift (.enqueueDma ((bO.slice (Rect.unit (s := S2x128x256) o1 S1x128x256.size h1) (fun _ => rfl)).squeeze S128x256 squeezes_S1x128x256_S128x256)
          (.here (oV.slice (Rect.unit (s := S262144x256) o2 S128x256.size h2) (fun _ => rfl)))
          (.dma ((cc0_scoped3.slice (Rect.unit (s := S2) o3 S1.size h3)).squeeze S_ squeezes_S1_S_).sem) hsrc hdst hsem)) Q) := by
  subst e1 e2 e3
  unfold rowGot rowFly
  iintro ⟨⟨⟨%f, %hf, Hf⟩, Hs⟩, Ho⟩ HQ
  iapply (Transfers.wp_dmaLocal countersEmb 𝒱₀ (th d L) none (src := oSlot p) (dst := oWin w) (sm := .dma (oSem p)) (default : HIx 1)
    (oWin w).view.dmaCredit rfl (View.dmaCredit_pos _ (by decide)) (Finset.Subset.refl _)) $$ [Hf Ho Hs]
  · isplitl [Hf]; · iexact Hf
    isplitl [Ho]; · iexact Ho
    iexact Hs
  iintro Hfl
  rw [wp_ret]; imodintro
  iapply HQ
  iapply (Transfers.Flight_mono countersEmb (th d L) ?_) $$ Hfl
  iintro ⟨H1, H2⟩
  isplitl [H1]
  · iapply (Entails.of_eq (pointsTo_congr ?_)) $$ H1
    intro j hj
    obtain ⟨x, -, hx⟩ := Finset.mem_map.mp hj
    rw [← hx]
    exact row_landed m d p w f f₀ hf x
  · iexists f; iexact H2

set_option maxHeartbeats 1000000 in
/-- The wait for the copy of slot `p` to window `w`. -/
theorem wp_waitRow (p : Fin 2) (w : Fin 2048) {o1 : Fin 3 → Nat} {o2 : Fin 2 → Nat} {o3 : Fin 1 → Nat}
    (h1 : ∀ a, o1 a + S1x128x256.size a ≤ S2x128x256.size a) (h2 : ∀ a, o2 a + S128x256.size a ≤ S262144x256.size a) (h3 : ∀ a, o3 a + S1.size a ≤ S2.size a)
    (e2 : o2 = ![128 * w.val, 0]) (e3 : o3 = ![p.val]) {hsrc hdst} {Q : PUnit → sProp 𝕄}
    {O : CellTallies nD τ sig (HIx 1)} {W : Waits sig (HIx 1)} :
    iprop(rowFly m d L p w ∗ owes (th d L) O W ∗ Transfers.MayWaits (th d L) (default : HIx 1) O)
      ⊢ iprop((iprop(rowIdle (F := F) d L p ∗ oWinPts d w (out m d) ∗ owes (th d L) O (insert (SemLoc.dma (oSem p), (default : HIx 1)) W)) -∗ Q ⟨⟩)
      -∗ wp frame (wpE (defs₀ (F := F)) 𝒱₀ (th d L) none) Set.univ
        (Prog.lift (.waitDma2 ((cc0_scoped3.slice (Rect.unit (s := S2) o3 S1.size h3)).squeeze S_ squeezes_S1_S_).sem
          ((bO.slice (Rect.unit (s := S2x128x256) o1 S1x128x256.size h1) (fun _ => rfl)).squeeze S128x256 squeezes_S1x128x256_S128x256)
          (oV.slice (Rect.unit (s := S262144x256) o2 S128x256.size h2) (fun _ => rfl)) hsrc hdst)) Q) := by
  subst e2 e3
  unfold rowFly rowIdle
  iintro ⟨Hfl, HO, Hmw⟩ HQ
  iapply (Transfers.wp_waitLocalO countersEmb 𝒱₀ (th d L) none (sem := oSem p) (dstw := oWin w) (default : HIx 1) rfl) $$ [Hfl HO Hmw]
  · isplitl [Hfl]; · iexact Hfl
    isplitl [HO]; · iexact HO
    iapply (Transfers.MayWaits.elim (SemLoc.dma (oSem p))) $$ Hmw
  iintro ⟨⟨Hw, Hf⟩, Hs, HO⟩
  rw [wp_ret]; imodintro
  iapply HQ
  isplitl [Hf Hs]
  · isplitl [Hf] <;> iassumption
  isplitl [Hw] <;> iassumption

theorem credit_rows (p : Fin 2) (hc : (oSlot p).view.Contiguous) (h : S294912x2x128.Gathers 0 S128x2x128) :
    ∑ j, ((oHalves p hc).slice (S128x2x128.rowRect h.axis' j) (S128x2x128.stride_rowRect h.axis' j)).view.dmaCredit
      = (oHalves p hc).view.dmaCredit := by
  have hj : ∀ j, ((oHalves p hc).slice (S128x2x128.rowRect h.axis' j) (S128x2x128.stride_rowRect h.axis' j)).view.dmaCredit
      = Idealize.ShloMosaic.RefSig.bitCredit (Idealize.ShloMosaic.Shape.rowShape h.axis') .i32 := fun _ => rfl
  have hw : (oHalves p hc).view.dmaCredit = Idealize.ShloMosaic.RefSig.bitCredit S128x2x128 .i32 := rfl
  rw [hw, Finset.sum_congr rfl fun j _ => hj j, Finset.sum_const, Finset.card_univ, Fintype.card_fin]
  show 128 • Idealize.ShloMosaic.RefSig.bitCredit (Idealize.ShloMosaic.Shape.rowShape (s := S128x2x128) (0 : Fin 3)) .i32 = _
  unfold Idealize.ShloMosaic.RefSig.bitCredit
  rw [show (Idealize.ShloMosaic.Shape.rowShape (s := S128x2x128) (0 : Fin 3)).numel = 256 by decide, show S128x2x128.numel = 32768 by decide]
  rfl

set_option maxHeartbeats 1000000 in
/-- The indirect gather into slot `p` of the rows the list in slot `p` names, and its wait. -/
theorem wp_gatherRow (hpre : PreOK m) (p : Fin 2) (w : Fin 2048) (q qt : PosShare TreeShare) {o1 o2 : Fin 3 → Nat}
    (h1 : ∀ a, o1 a + S1x128x256.size a ≤ S2x128x256.size a) (h2 : ∀ a, o2 a + S1x1x128.size a ≤ S2x1x128.size a)
    (e1 : o1 = ![p.val, 0, 0]) (e2 : o2 = ![p.val, 0, 0]) {hc hc' hsrc hsrc' hdst'} {he : EltTy.i32.bits = 32} {hsp hr} {hn} {Q : PUnit → sProp 𝕄}
    {O : CellTallies nD τ sig (HIx 1)} {W : Waits sig (HIx 1)} {hp : (th d L).2.kind = .scVector} :
    iprop(idxGot m d L p w q ∗ rowIdle (F := F) d L p ∗ tPts m d qt ∗ semVal (gCell d L) 0 ∗ owes (th d L) O W
        ∗ Transfers.MayWaits (th d L) (default : HIx 1) O)
      ⊢ iprop((iprop(idxGot m d L p w q ∗ rowGot m d L p w ∗ tPts m d qt ∗ semVal (gCell d L) 0
            ∗ owes (th d L) O (insert (SemLoc.dma cc0_scoped4.sem, (default : HIx 1)) W)) -∗ Q ⟨⟩)
      -∗ wp frame (wpE (defs₀ (F := F)) 𝒱₀ (th d L) none) Set.univ
        (SparseCore.enqueueIndirectGather (F := F) hp tHalves
            (((bO.slice (Rect.unit (s := S2x128x256) o1 S1x128x256.size h1) (fun _ => rfl)).squeeze S128x256 squeezes_S1x128x256_S128x256).reshape S128x2x128
              reshapes_S128x256_S128x2x128.1 reshapes_S128x256_S128x2x128.2 hc)
            gathers_S294912x2x128_S128x2x128
            ((((bI.slice (Rect.unit (s := S2x1x128) o2 S1x1x128.size h2) (fun _ => rfl)).squeeze S1x128 squeezes_S1x1x128_S1x128).slice
              (Rect.unit (s := S1x128) ![0, 0] S1x128.size inb_S1x128_S1x128_0_0) (fun _ => rfl)).squeeze S128 squeezes_S1x128_S128)
            hn cc0_scoped4.sem hsrc he hsp hr >>= fun _ =>
          SparseCore.waitIndirectGather cc0_scoped4.sem tHalves
            (((bO.slice (Rect.unit (s := S2x128x256) o1 S1x128x256.size h1) (fun _ => rfl)).squeeze S128x256 squeezes_S1x128x256_S128x256).reshape S128x2x128
              reshapes_S128x256_S128x2x128.1 reshapes_S128x256_S128x2x128.2 hc') hsrc' hdst') Q) := by
  subst e1 e2
  unfold idxGot rowIdle rowGot
  iintro ⟨⟨⟨%fo, %hfo, Hfo⟩, Hsi, Hi⟩, ⟨⟨%fd, Hfd⟩, Hso⟩, Ht, Hg, HO, Hmw⟩ HQ
  have hin : ∀ x, ((iList p).view.read (Elt F) fo x).toNat < S294912x2x128.size gathers_S294912x2x128_S128x2x128.axis := by
    intro x
    rw [iList_read, hfo, iWin_read]
    exact hpre d _
  have hos : (oHalves p hc).view.set = oSlotSet p := View.set_reshape _ _
  have hls : (iList p).view.set ⊆ iSlotSet p := by
    show (((iSlot p).view.slice (Rect.unit (s := S1x128) ![0, 0] S1x128.size inb_S1x128_S1x128_0_0)).reshape S128 squeezes_S1x128_S128.numel_eq).set ⊆ _
    rw [View.set_reshape]; exact View.set_slice_subset _ _
  ihave Ht' := (pointsTo_split_subset (q := qt) (f := m (tLoc d)) (S := Finset.univ) (Finset.subset_univ (tHalves).view.set)).1 $$ Ht
  icases Ht' with ⟨Hta, Htb⟩
  ihave Hf' := (pointsTo_split_subset (q := fullShare) (f := fo) (S := iSlotSet p) hls).1 $$ Hfo
  icases Hf' with ⟨Hfa, Hfb⟩
  ihave Hd' := (Entails.of_eq (show (oSlotPts d L p fd : sProp 𝕄) = boLoc d L ↦[(oHalves p hc).view.set]{fullShare} fd by rw [hos])) $$ Hfd
  iapply (SparseCore.wp_indirectGatherLocal countersEmb 𝒱₀ (th d L) none (src := tHalves) (dst := oHalves p hc) (offs := iList p)
      (hg := gathers_S294912x2x128_S128x2x128) (default : HIx 1)
      (oHalves p hc).view.dmaCredit (credit_rows p hc _) (by decide) hin) $$ [Hta Hd' Hfa Hg]
  · isplitl [Hta]; · iexact Hta
    isplitl [Hd']; · iexact Hd'
    isplitl [Hfa]; · iexact Hfa
    iexact Hg
  iintro Hfl
  unfold SparseCore.waitIndirectGather
  iapply (Transfers.wp_waitLocalO countersEmb 𝒱₀ (th d L) none (sem := cc0_scoped4.sem) (dstw := oHalves p hc) (default : HIx 1) rfl) $$ [Hfl HO Hmw]
  · isplitl [Hfl]; · iexact Hfl
    isplitl [HO]; · iexact HO
    iapply (Transfers.MayWaits.elim (SemLoc.dma cc0_scoped4.sem)) $$ Hmw
  iintro ⟨⟨Hd, Hta, Hfa⟩, Hg, HO⟩
  rw [wp_ret]; imodintro
  iapply HQ
  isplitl [Hfa Hfb Hsi Hi]
  · isplitl [Hfa Hfb]
    · iexists fo; isplitr
      · ipureintro; exact hfo
      · iapply (pointsTo_split_subset (q := fullShare) (f := fo) (S := iSlotSet p) hls).2
        isplitl [Hfa] <;> iassumption
    isplitl [Hsi] <;> iassumption
  isplitl [Hd Hso]
  · isplitl [Hd]
    · iexists _; isplitr
      swap
      · iapply (Entails.of_eq (show (boLoc d L ↦[(oHalves p hc).view.set]{fullShare} _ : sProp 𝕄) = oSlotPts d L p _ by rw [hos])) $$ Hd
      · ipureintro; intro x
        exact slot_gathered (m (tLoc d)) (m (iLoc d)) p w hc fd fo hfo hin _ x
    · iexact Hso
  isplitl [Hta Htb]
  · iapply (pointsTo_split_subset (q := qt) (f := m (tLoc d)) (S := Finset.univ) (Finset.subset_univ (tHalves).view.set)).2
    isplitl [Hta] <;> iassumption
  isplitl [Hg] <;> iassumption

end Tile

end Cert.Proof.Fetch

end
-- ==== Proof.Trip.lean ====
/-
  One trip of the gather's pipeline, from the state of its copies before it to their state after it, and the whole task of a
  subcore: the first window's list fetched, the sixty-four trips, the last window's wait.
-/
module

public import proofs.«01_k».proof.Proof.Steps

@[expose] public section

noncomputable section

namespace Cert.Proof.Fetch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-- The slot of trip `t`. -/
def par (t : Nat) : Fin 2 := ⟨t % 2, Nat.mod_lt _ (by decide)⟩
/-- The window of trip `t`. -/
def win (t : Nat) : Fin 2048 := ⟨(base L + t) % 2048, Nat.mod_lt _ (by decide)⟩

theorem par_add_two (t : Nat) : par (t + 2) = par t := Fin.ext (by simp [par])
theorem par_pred {t : Nat} (h : 0 < t) : par (t - 1) = par (t + 1) := Fin.ext (by simp only [par]; omega)
theorem win_val {t : Nat} (h : t < 64) : (win L t).val = base L + t := by
  have := base_le L
  show (base L + t) % 2048 = _
  omega

/-- The half of the subcore's share of the list that goes with slot `p`. -/
def qp (q : PosShare TreeShare) (p : Fin 2) : PosShare TreeShare := if p = 0 then q.left else q.right

/-- The slot trip `t` reads its list from: its window on its way, if there is such a trip. -/
def idxAt (q : PosShare TreeShare) (t : Nat) : sProp 𝕄 :=
  if t < 64 then idxFly m d L (par t) (win L t) (qp q (par t)) else idxIdle m d L (par t) (qp q (par t))

/-- The row slot of the trip before trip `t`: on its way out, if there is such a trip. -/
def rowAt (t : Nat) : sProp 𝕄 :=
  if 0 < t then rowFly m d L (par (t + 1)) (win L (t - 1)) else rowIdle d L (par (t + 1))

/-- Window `k` of the subcore's output before trip `t`. -/
def outAt (t : Nat) (k : Fin 64) : sProp 𝕄 :=
  if k.val + 1 < t then oWinPts d (win L k.val) (out m d) else if k.val + 1 = t then iprop(emp) else oWinPts d (win L k.val) (m (oLoc d))

/-- The subcore's windows of the output before trip `t`. -/
def outs (t : Nat) : sProp 𝕄 := bigSep Finset.univ (outAt m d L t)

/-- The window trip `t` brings back: the one of the trip before it. -/
def back (t : Nat) : sProp 𝕄 := if 0 < t then oWinPts d (win L (t - 1)) (out m d) else iprop(emp)

theorem outAt_self (t : Fin 64) : outAt m d L t.val t = oWinPts d (win L t.val) (m (oLoc d)) := by
  unfold outAt; rw [if_neg (by omega), if_neg (by omega)]
theorem outAt_next (t : Fin 64) : outAt m d L (t.val + 1) t = iprop(emp) := by
  unfold outAt; rw [if_neg (by omega), if_pos rfl]

theorem outs_back (t : Fin 64) :
    iprop(back m d L t.val ∗ bigSep (Finset.univ.erase t) (outAt m d L t.val)) ⊢ bigSep (Finset.univ.erase t) (outAt m d L (t.val + 1)) := by
  unfold back
  by_cases ht : 0 < t.val
  · let u : Fin 64 := ⟨t.val - 1, by omega⟩
    have hu : u ∈ Finset.univ.erase t := Finset.mem_erase.mpr ⟨fun e => by have := congrArg Fin.val e; simp only [u] at this; omega, Finset.mem_univ _⟩
    have e1 : outAt m d L (t.val + 1) u = oWinPts d (win L (t.val - 1)) (out m d) := by
      unfold outAt; rw [if_pos (by simp only [u]; omega)]
    have e2 : (bigSep ((Finset.univ.erase t).erase u) (outAt m d L (t.val + 1))) = bigSep ((Finset.univ.erase t).erase u) (outAt m d L t.val) :=
      bigSep_congr fun k hk => by
        have h1 : k.val ≠ t.val - 1 := fun e => (Finset.mem_erase.mp hk).1 (Fin.ext e)
        have h2 : k.val ≠ t.val := fun e => (Finset.mem_erase.mp (Finset.mem_erase.mp hk).2).1 (Fin.ext e)
        unfold outAt
        by_cases h : k.val + 1 < t.val
        · rw [if_pos h, if_pos (by omega)]
        · rw [if_neg h, if_neg (by omega), if_neg (by omega), if_neg (by omega)]
    rw [if_pos ht, SparseCore.bigSep_erase' hu, SparseCore.bigSep_erase' (Φ := outAt m d L (t.val + 1)) hu, e1, e2]
    iintro ⟨Hb, -, Hr⟩
    isplitl [Hb] <;> iassumption
  · have e2 : (bigSep (Finset.univ.erase t) (outAt m d L (t.val + 1))) = bigSep (Finset.univ.erase t) (outAt m d L t.val) :=
      bigSep_congr fun k hk => by
        have h2 : k.val ≠ t.val := fun e => (Finset.mem_erase.mp hk).1 (Fin.ext e)
        unfold outAt
        rw [if_neg (by omega), if_neg (by omega), if_neg (by omega), if_neg (by omega)]
    rw [e2]
    iintro ⟨-, Hr⟩
    iexact Hr

theorem outs_step (t : Fin 64) : outs m d L t.val ⊢ iprop(oWinPts d (win L t.val) (m (oLoc d)) ∗ (back m d L t.val -∗ outs m d L (t.val + 1))) := by
  unfold outs
  rw [SparseCore.bigSep_erase' (Finset.mem_univ t), SparseCore.bigSep_erase' (s := Finset.univ) (Φ := outAt m d L (t.val + 1)) (Finset.mem_univ t), outAt_self, outAt_next]
  iintro ⟨H, Hr⟩
  isplitl [H]; · iexact H
  iintro Hb
  isplitr; · iempintro
  iapply (outs_back m d L t)
  isplitl [Hb] <;> iassumption

theorem outs_start : outs m d L 0 = bigSep Finset.univ fun k : Fin 64 => oWinPts d (win L k.val) (m (oLoc d)) :=
  bigSep_congr fun k _ => by unfold outAt; rw [if_neg (by omega), if_neg (by omega)]

theorem outs_end : iprop(outs m d L 64 ∗ oWinPts d (win L 63) (out m d)) ⊢ bigSep Finset.univ fun k : Fin 64 => oWinPts d (win L k.val) (out m d) := by
  unfold outs
  rw [SparseCore.bigSep_erase' (Finset.mem_univ (63 : Fin 64)), SparseCore.bigSep_erase' (s := Finset.univ) (Φ := fun k : Fin 64 => oWinPts d (win L k.val) (out m d)) (Finset.mem_univ (63 : Fin 64))]
  have e : bigSep (Finset.univ.erase (63 : Fin 64)) (outAt m d L 64) = bigSep (Finset.univ.erase (63 : Fin 64)) fun k : Fin 64 => oWinPts d (win L k.val) (out m d) :=
    bigSep_congr fun k hk => by
      have h1 : k.val ≠ 63 := fun e => (Finset.mem_erase.mp hk).1 (Fin.ext e)
      unfold outAt; rw [if_pos (by omega)]
  rw [e]
  iintro ⟨⟨-, Hr⟩, H⟩
  isplitl [H]; · iexact H
  iexact Hr

variable [FloatOps F]

abbrev tripProg (t : Fin k0_t1_loop.trips) (acc : BitVec 32 × BitVec 32 × BitVec 32 × BitVec 32 × BitVec 32) :=
  k0_t1_body (F := F) L tV (Memref.isWhole_whole _) iV (Memref.isWhole_whole _) oV (Memref.isWhole_whole _)
    bI (Memref.isWhole_whole _) cc0_scoped1 bO (Memref.isWhole_whole _) cc0_scoped3 cc0_scoped4 (baseW L) t acc

/-- What the subcore has waited for: what it had before, and waits of its own. -/
def waited (O : CellTallies nD τ sig (HIx 1)) (W : Waits sig (HIx 1)) : sProp 𝕄 :=
  iprop(∃ W', ⌜∀ p ∈ W', p ∈ W ∨ p.2 = none⌝ ∗ owes (th d L) O W')

/-- What a trip starts from and leaves. -/
def inv (q qt : PosShare TreeShare) (O : CellTallies nD τ sig (HIx 1)) (W : Waits sig (HIx 1)) (t : Nat)
    (acc : BitVec 32 × BitVec 32 × BitVec 32 × BitVec 32 × BitVec 32) : sProp 𝕄 :=
  iprop(⌜acc = ctr t⌝ ∗ Transfers.MayWaits (th d L) (default : HIx 1) O
    ∗ (idxAt m d L q t ∗ idxIdle m d L (par (t + 1)) (qp q (par (t + 1))))
    ∗ (rowAt m d L t ∗ rowIdle (F := F) d L (par t))
    ∗ outs m d L t ∗ tPts m d qt ∗ semVal (gCell d L) 0 ∗ waited (F := F) d L O W)

set_option maxHeartbeats 4000000 in
/-- The first statements of a trip: the next window of the list sent for, if there is one. -/
theorem part1 (q : PosShare TreeShare) (t : Fin k0_t1_loop.trips) :
    idxIdle m d L (par (t.val + 1)) (qp q (par (t.val + 1)))
      ⊢ wp frame (wpE (defs₀ (F := F)) 𝒱₀ (th d L) none) Set.univ
        (k0_part1 (F := F) L tV (Memref.isWhole_whole _) iV (Memref.isWhole_whole _) oV (Memref.isWhole_whole _)
          bI (Memref.isWhole_whole _) cc0_scoped1 bO (Memref.isWhole_whole _) cc0_scoped3 cc0_scoped4 (baseW L) 0#32 1#32 t
          (wd (min (t.val + 1) 64)) (wd t.val) (wd t.val) (wd (t.val - 1)) (wd (t.val % 64)))
        fun r => iprop(⌜r = ⟨chk3_true t, chk2_true t, chk1_true L t, Scf.iv 0#32 1#32 t.val, Scalar.cmpi .eq (Scf.iv 0#32 1#32 t.val) 0#32,
            Scalar.cmpi .eq (Scf.iv 0#32 1#32 t.val) 63#32, Scalar.addi (wd (t.val % 64)) (baseW L), Scalar.addi (prevW (wd (t.val % 64))) (baseW L),
            Scalar.addi (nextW (wd (t.val % 64))) (baseW L),
            Scalar.select (Scalar.andi (Scalar.andi (Scalar.cmpi .ne (Scalar.addi (wd (t.val % 64)) (baseW L)) (Scalar.addi (nextW (wd (t.val % 64))) (baseW L)))
              (Scalar.xori (Scalar.cmpi .sge (Scf.iv 0#32 1#32 t.val) 63#32) 1#1)) 1#1) (Scalar.addi (wd (min (t.val + 1) 64)) 1#32) (wd (min (t.val + 1) 64)),
            Scalar.cmpi .ne (Scalar.addi (wd (t.val % 64)) (baseW L)) (Scalar.addi (prevW (wd (t.val % 64))) (baseW L))⟩⌝ ∗ idxAt m d L q (t.val + 1)) := by
  have ht : t.val < 64 := t.isLt
  rw [k0_part1_eq_skeleton]
  unfold k0_part1_skel
  iintro Hi
  rw [wp_bind]
  iapply (wp_assume 𝒱₀ (th d L) none Set.univ (chk3_true t)); rw [wp_ret]; imodintro
  rw [wp_bind]
  iapply (wp_assume 𝒱₀ (th d L) none Set.univ (chk2_true t)); rw [wp_ret]; imodintro
  rw [wp_bind]
  iapply (wp_assume 𝒱₀ (th d L) none Set.univ (chk1_true L t)); rw [wp_ret]; imodintro
  dsimp only
  by_cases h : t.val < 63
  · have hc := (cond1_iff L t).mpr h
    rw [dif_pos hc]
    rw [wp_bind]
    iapply (wp_issueIdx m d L (par (t.val + 1)) (win L (t.val + 1)) (qp q (par (t.val + 1))) _ _ _ (off4_eq t)
      ((off5_eq L t h).trans (by rw [win_val L (by omega : t.val + 1 < 64)])) (off6_eq t)) $$ Hi
    iintro Hf
    rw [wp_pure]; imodintro
    isplitr; · ipureintro; rfl
    unfold idxAt; rw [if_pos (by omega : t.val + 1 < 64)]
    iexact Hf
  · have hc := (cond1_iff L t).not.mpr h
    rw [dif_neg hc, wp_pure]; imodintro
    isplitr; · ipureintro; rfl
    unfold idxAt; rw [if_neg (by omega : ¬ t.val + 1 < 64)]
    iexact Hi

theorem waited_insert (W W' : Waits sig (HIx 1)) (s : SemLoc sig) (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

set_option maxHeartbeats 4000000 in
/-- The middle of a trip: the window's list waited for, its rows gathered. -/
theorem part2 (hpre : PreOK m) (q qt : PosShare TreeShare) (O : CellTallies nD τ sig (HIx 1)) (W : Waits sig (HIx 1)) (t : Fin k0_t1_loop.trips)
    (a5 : BitVec 32) (v64 v65 : BitVec 1) (v66 v71 v76 : BitVec 32) (v96 : BitVec 1) :
    iprop(Transfers.MayWaits (th d L) (default : HIx 1) O ∗ idxAt m d L q t.val ∗ rowIdle (F := F) d L (par t.val) ∗ tPts m d qt
        ∗ semVal (gCell d L) 0 ∗ waited (F := F) d L O W)
      ⊢ wp frame (wpE (defs₀ (F := F)) 𝒱₀ (th d L) none) Set.univ
        (k0_part2 (F := F) L tV (Memref.isWhole_whole _) iV (Memref.isWhole_whole _) oV (Memref.isWhole_whole _)
          bI (Memref.isWhole_whole _) cc0_scoped1 bO (Memref.isWhole_whole _) cc0_scoped3 cc0_scoped4 t
          (wd (min (t.val + 1) 64)) (wd t.val) (wd t.val) (wd (t.val - 1)) (wd (t.val % 64)) (chk3_true t) (chk2_true t) (chk1_true L t)
          a5 v64 v65 v66 v71 v76 v96)
        fun r => iprop(⌜r = Scalar.ori (Scalar.cmpi .ne v66 v76) v65⌝ ∗ idxIdle m d L (par t.val) (qp q (par t.val))
          ∗ rowGot m d L (par t.val) (win L t.val) ∗ tPts m d qt ∗ semVal (gCell d L) 0 ∗ waited (F := F) d L O W) := by
  have ht : t.val < 64 := t.isLt
  rw [k0_part2_eq_skeleton]
  unfold k0_part2_skel idxAt waited
  rw [if_pos ht, dif_pos (cond2_true L t)]
  iintro ⟨#Hmw, Hi, Hr, Ht, Hg, %W', %hW', HO⟩
  rw [wp_bind]
  iapply (wp_waitIdx m d L (par t.val) (win L t.val) (qp q (par t.val)) _ _ _ (off7_eq t) (off9_eq t)) $$ [Hi HO]
  · isplitl [Hi]; · iexact Hi
    isplitl [HO]; · iexact HO
    iexact Hmw
  iintro ⟨Hi, HO⟩
  dsimp only
  rw [ite_self, ← bind_assoc, wp_bind]
  iapply (wp_gatherRow m d L hpre (par t.val) (win L t.val) (qp q (par t.val)) qt _ _ (off10_eq t) (off11_eq t)) $$ [Hi Hr Ht Hg HO]
  · isplitl [Hi]; · iexact Hi
    isplitl [Hr]; · iexact Hr
    isplitl [Ht]; · iexact Ht
    isplitl [Hg]; · iexact Hg
    isplitl [HO]; · iexact HO
    iexact Hmw
  iintro ⟨Hi, Hr, Ht, Hg, HO⟩
  rw [wp_pure]; imodintro
  isplitr; · ipureintro; rfl
  isplitl [Hi]; · iapply (idxGot_idle m d L); iexact Hi
  isplitl [Hr]; · iexact Hr
  isplitl [Ht]; · iexact Ht
  isplitl [Hg]; · iexact Hg
  iexists _; isplitr
  swap; · iexact HO
  ipureintro
  exact waited_insert _ _ _ (waited_insert _ _ _ hW')

set_option maxHeartbeats 4000000 in
/-- A trip. -/
theorem trip (hpre : PreOK m) (q qt : PosShare TreeShare) (O : CellTallies nD τ sig (HIx 1)) (W : Waits sig (HIx 1))
    (t : Fin k0_t1_loop.trips) (acc : BitVec 32 × BitVec 32 × BitVec 32 × BitVec 32 × BitVec 32) :
    inv m d L q qt O W t.val acc ⊢ wp frame (wpE (defs₀ (F := F)) 𝒱₀ (th d L) none) Set.univ (tripProg (F := F) L t acc) (inv m d L q qt O W (t.val + 1)) := by
  have ht : t.val < 64 := t.isLt
  unfold inv
  iintro ⟨%hacc, #Hmw, ⟨Hi, Hi'⟩, ⟨Hr, Hr'⟩, Ho, Ht, Hg, HO⟩
  subst hacc
  unfold ctr tripProg k0_t1_body
  dsimp only
  rw [wp_bind]
  iapply (wp_wand_r frame (wpE (defs₀ (F := F)) 𝒱₀ (th d L) none) Set.univ)
  isplitl [Hi']; · iapply (part1 m d L q t); iexact Hi'
  iintro %r ⟨%hr, Hi'⟩
  subst hr
  dsimp only
  rw [wp_bind]
  iapply (wp_wand_r frame (wpE (defs₀ (F := F)) 𝒱₀ (th d L) none) Set.univ)
  isplitl [Hi Hr' Ht Hg HO]
  · iapply (part2 m d L hpre q qt O W t)
    isplitr; · iexact Hmw
    isplitl [Hi]; · iexact Hi
    isplitl [Hr']; · iexact Hr'
    isplitl [Ht]; · iexact Ht
    isplitl [Hg]; · iexact Hg
    iexact HO
  iintro %r ⟨%hr, Hi, Hr', Ht, Hg, HO⟩
  subst hr
  unfold waited
  icases HO with ⟨%W', %hW', HO⟩
  ihave Ho' := (outs_step m d L t) $$ Ho
  icases Ho' with ⟨Hw, Hout⟩
  rw [ite_self, dif_pos (cond5_true L t), wp_bind]
  iapply (wp_issueRow m d L (par t.val) (win L t.val) (m (oLoc d)) _ _ _ (off12_eq t)
      ((off13_eq L t).trans (by rw [win_val L ht])) (off14_eq t)) $$ [Hr' Hw]
  · isplitl [Hr'] <;> iassumption
  iintro Hf
  rw [ite_self]
  by_cases h : 0 < t.val
  · rw [dif_pos ((cond7_iff L t).mpr h), wp_bind]
    unfold back
    rw [if_pos h]
    ihave Hr' := (Entails.of_eq (show rowAt m d L t.val = rowFly m d L (par (t.val + 1)) (win L (t.val - 1)) from if_pos h)) $$ Hr
    iapply (wp_waitRow m d L (par (t.val + 1)) (win L (t.val - 1)) _ _ _
      ((off16_eq L t h).trans (by rw [win_val L (by omega : t.val - 1 < 64)])) ((off17_eq t).trans (by rw [← par_pred h]; rfl))) $$ [Hr' HO]
    · isplitl [Hr']; · iexact Hr'
      isplitl [HO]; · iexact HO
      iexact Hmw
    iintro ⟨Hr, Hw, HO⟩
    rw [wp_pure]; imodintro
    isplitr; · ipureintro; exact yield_eq L t
    isplitr; · iexact Hmw
    isplitl [Hi Hi']
    · isplitl [Hi']; · iexact Hi'
      rw [show t.val + 1 + 1 = t.val + 2 from rfl, par_add_two]; iexact Hi
    isplitl [Hf Hr]
    · isplitl [Hf]
      · unfold rowAt
        rw [if_pos (Nat.succ_pos _), show t.val + 1 + 1 = t.val + 2 from rfl, par_add_two, Nat.add_sub_cancel]; iexact Hf
      · iexact Hr
    isplitl [Hout Hw]; · iapply Hout; iexact Hw
    isplitl [Ht]; · iexact Ht
    isplitl [Hg]; · iexact Hg
    iexists _; isplitr
    swap; · iexact HO
    ipureintro
    exact waited_insert _ _ _ hW'
  · rw [dif_neg ((cond7_iff L t).not.mpr h)]
    unfold back
    rw [if_neg h]
    ihave Hr := (Entails.of_eq (show rowAt m d L t.val = rowIdle (F := F) d L (par (t.val + 1)) from if_neg h)) $$ Hr
    rw [wp_pure]; imodintro
    isplitr; · ipureintro; exact yield_eq L t
    isplitr; · iexact Hmw
    isplitl [Hi Hi']
    · isplitl [Hi']; · iexact Hi'
      rw [show t.val + 1 + 1 = t.val + 2 from rfl, par_add_two]; iexact Hi
    isplitl [Hf Hr]
    · isplitl [Hf]
      · unfold rowAt
        rw [if_pos (Nat.succ_pos _), show t.val + 1 + 1 = t.val + 2 from rfl, par_add_two, Nat.add_sub_cancel]; iexact Hf
      · iexact Hr
    isplitl [Hout]; · iapply Hout; iempintro
    isplitl [Ht]; · iexact Ht
    isplitl [Hg]; · iexact Hg
    iexists _; isplitr
    swap; · iexact HO
    ipureintro
    exact hW'

end Cert.Proof.Fetch

end
-- ==== Proof.Task.lean ====
/-
  The whole task of a subcore: the first window's list sent for, the sixty-four trips, the wait for the last window; and
  the task as the launch hands it over, with its own buffers and semaphore cells.
-/
module

public import proofs.«01_k».proof.Proof.Trip

@[expose] public section

noncomputable section

namespace Cert.Proof.Fetch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

variable [FloatOps F]

abbrev taskProg : Prog (TpuEff nD τ sig (Elt F) Λ₀ (th d L).2) PUnit :=
  cc0_gather (F := F) L tV (Memref.isWhole_whole _) iV (Memref.isWhole_whole _) oV (Memref.isWhole_whole _)
    bI (Memref.isWhole_whole _) cc0_scoped1 bO (Memref.isWhole_whole _) cc0_scoped3 cc0_scoped4

omit [FloatOps F] in
theorem idxAt_start (q : PosShare TreeShare) : idxAt m d L q 0 = idxFly m d L 0 (win L 0) (qp q 0) := if_pos (by decide)
omit [FloatOps F] in
theorem idxAt_end (q : PosShare TreeShare) : idxAt m d L q 64 = idxIdle m d L 0 (qp q 0) := if_neg (by decide)
omit [FloatOps F] in
theorem rowAt_start : rowAt m d L 0 = rowIdle (F := F) d L 1 := if_neg (by decide)
omit [FloatOps F] in
theorem rowAt_end : rowAt m d L 64 = rowFly m d L 1 (win L 63) := if_pos (by decide)
theorem par_0 : par 0 = 0 := rfl
theorem par_1 : par (0 + 1) = 1 := rfl
theorem par_64 : par 64 = 0 := rfl
theorem par_65 : par (64 + 1) = 1 := rfl

set_option maxHeartbeats 4000000 in
/-- The first window's list sent for. -/
theorem part3 (q : PosShare TreeShare) :
    idxIdle m d L 0 (qp q 0)
      ⊢ wp frame (wpE (defs₀ (F := F)) 𝒱₀ (th d L) none) Set.univ
        (k0_part3 (F := F) L tV (Memref.isWhole_whole _) iV (Memref.isWhole_whole _) oV (Memref.isWhole_whole _)
          bI (Memref.isWhole_whole _) cc0_scoped1 bO (Memref.isWhole_whole _) cc0_scoped3 cc0_scoped4)
        fun r => iprop(⌜r = baseW L⌝ ∗ idxAt m d L q 0) := by
  rw [k0_part3_eq_skeleton]
  unfold k0_part3_skel
  iintro Hi
  rw [wp_bind]
  iapply (wp_issueIdx m d L 0 (win L 0) (qp q 0) _ _ _ off1_eq
    ((off2_eq L).trans (by rw [win_val L (by decide : 0 < 64)]; rfl)) off3_eq) $$ Hi
  iintro Hf
  rw [wp_pure]; imodintro
  isplitr; · ipureintro; rfl
  rw [idxAt_start]; iexact Hf

set_option maxHeartbeats 4000000 in
/-- The sixty-four trips. -/
theorem part4 (hpre : PreOK m) (q qt : PosShare TreeShare) (O : CellTallies nD τ sig (HIx 1)) (W : Waits sig (HIx 1)) :
    inv m d L q qt O W 0 (ctr 0)
      ⊢ wp frame (wpE (defs₀ (F := F)) 𝒱₀ (th d L) none) Set.univ
        (k0_part4 (F := F) L tV (Memref.isWhole_whole _) iV (Memref.isWhole_whole _) oV (Memref.isWhole_whole _)
          bI (Memref.isWhole_whole _) cc0_scoped1 bO (Memref.isWhole_whole _) cc0_scoped3 cc0_scoped4 (baseW L))
        fun r => iprop(⌜r = ⟨wd 63, wd 0, chk5_true L, chk4_true⟩⌝ ∗ inv m d L q qt O W 64 (ctr 64)) := by
  rw [k0_part4_eq_skeleton]
  unfold k0_part4_skel
  iintro HI
  iapply (Scf.wp_for_bind frame (wpE (defs₀ (F := F)) 𝒱₀ (th d L) none) Set.univ k0_t1_loop.lb k0_t1_loop.ub k0_t1_loop.st k0_t1_ok
    (Scalar.addi 0#32 1#32, 0#32, 0#32, 0#32, 0#32) (tripProg (F := F) L) (inv m d L q qt O W) (trip m d L hpre q qt O W)) $$ [HI]
  · iexact HI
  iintro %acc HI
  ihave HI := (Entails.of_eq (show inv m d L q qt O W (Scf.trips k0_t1_loop.lb k0_t1_loop.ub k0_t1_loop.st) acc = inv m d L q qt O W 64 acc from
    congrArg (fun n => inv m d L q qt O W n acc) trips_eq)) $$ HI
  unfold inv
  icases HI with ⟨%hacc, HI⟩
  subst hacc
  unfold ctr
  dsimp only
  rw [wp_bind]
  iapply (wp_assume 𝒱₀ (th d L) none Set.univ (chk5_true L)); rw [wp_ret]; imodintro
  rw [wp_bind]
  iapply (wp_assume 𝒱₀ (th d L) none Set.univ chk4_true); rw [wp_ret]; imodintro
  rw [wp_pure]; imodintro
  isplitr; · ipureintro; rfl
  isplitr; · ipureintro; rfl
  iexact HI

set_option maxHeartbeats 4000000 in
/-- The task, from its slots idle and its windows as launched, to its slots idle and its windows filled. -/
theorem task (hpre : PreOK m) (q qt : PosShare TreeShare) (O : CellTallies nD τ sig (HIx 1)) (W : Waits sig (HIx 1)) :
    iprop(Transfers.MayWaits (th d L) (default : HIx 1) O ∗ (idxIdle m d L 0 (qp q 0) ∗ idxIdle m d L 1 (qp q 1))
        ∗ (rowIdle (F := F) d L 0 ∗ rowIdle (F := F) d L 1) ∗ (bigSep Finset.univ fun k : Fin 64 => oWinPts d (win L k.val) (m (oLoc d)))
        ∗ tPts m d qt ∗ semVal (gCell d L) 0 ∗ waited (F := F) d L O W)
      ⊢ wp frame (wpE (defs₀ (F := F)) 𝒱₀ (th d L) none) Set.univ (taskProg (F := F) d L)
        fun _ => iprop((idxIdle m d L 0 (qp q 0) ∗ idxIdle m d L 1 (qp q 1))
        ∗ (rowIdle (F := F) d L 0 ∗ rowIdle (F := F) d L 1) ∗ (bigSep Finset.univ fun k : Fin 64 => oWinPts d (win L k.val) (out m d))
        ∗ tPts m d qt ∗ semVal (gCell d L) 0 ∗ waited (F := F) d L O W) := by
  unfold taskProg
  rw [cc0_gather_eq_skeleton]
  unfold cc0_gather_skel
  rw [← outs_start]
  iintro ⟨#Hmw, ⟨Hi0, Hi1⟩, ⟨Hr0, Hr1⟩, Ho, Ht, Hg, HO⟩
  rw [wp_bind]
  iapply (wp_wand_r frame (wpE (defs₀ (F := F)) 𝒱₀ (th d L) none) Set.univ)
  isplitl [Hi0]; · iapply (part3 m d L q); iexact Hi0
  iintro %r ⟨%hr, Hi0⟩
  subst hr
  rw [wp_bind]
  iapply (wp_wand_r frame (wpE (defs₀ (F := F)) 𝒱₀ (th d L) none) Set.univ)
  isplitl [Hi0 Hi1 Hr0 Hr1 Ho Ht Hg HO]
  · iapply (part4 m d L hpre q qt O W)
    unfold inv
    rw [rowAt_start, par_0, par_1]
    isplitr; · ipureintro; rfl
    isplitr; · iexact Hmw
    isplitl [Hi0 Hi1]; · isplitl [Hi0] <;> iassumption
    isplitl [Hr0 Hr1]; · isplitl [Hr1] <;> iassumption
    isplitl [Ho]; · iexact Ho
    isplitl [Ht]; · iexact Ht
    isplitl [Hg] <;> iassumption
  iintro %r ⟨%hr, HI⟩
  subst hr
  unfold inv waited
  rw [idxAt_end, rowAt_end, par_64, par_65]
  icases HI with ⟨-, -, ⟨Hi0, Hi1⟩, ⟨Hf, Hr0⟩, Ho, Ht, Hg, %W', %hW', HO⟩
  dsimp only
  rw [wp_bind]
  iapply (wp_waitRow m d L 1 (win L 63) _ _ _
      ((off19_eq L).trans (by rw [win_val L (by decide : 63 < 64)])) off20_eq) $$ [Hf HO]
  · isplitl [Hf]; · iexact Hf
    isplitl [HO]; · iexact HO
    iexact Hmw
  iintro ⟨Hr1, Hw, HO⟩
  rw [wp_pure]; imodintro
  isplitl [Hi0 Hi1]; · isplitl [Hi0] <;> iassumption
  isplitl [Hr0 Hr1]; · isplitl [Hr0] <;> iassumption
  isplitl [Ho Hw]
  · iapply (outs_end m d L)
    isplitl [Ho] <;> iassumption
  isplitl [Ht]; · iexact Ht
  isplitl [Hg]; · iexact Hg
  iexists _; isplitr
  swap; · iexact HO
  ipureintro
  exact waited_insert _ _ _ hW'

end Cert.Proof.Fetch

end
-- ==== Proof.Launch.lean ====
/-
  The launch: the two SparseCores take halves of the list's and the table's shares and their windows of the output, their
  sixteen subcores each a sixteenth of that, and each runs its task on its own scratch. What comes back is the output
  gathered, the list and the table as they were, and every semaphore cell at zero.
-/
module

public import proofs.«01_k».proof.Proof.Task
public import Idealize.ShloMosaic.Lib.ShareLeaves

@[expose] public section

noncomputable section

namespace Cert.Proof.Fetch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## The slots are the scratch, the windows the output -/

theorem mem_iSlotSet (p : Fin 2) (x : S2x1x128.Idx) : x ∈ iSlotSet p ↔ x 0 = p := by
  have h : iSlotSet p = (Rect.unit (s := S2x1x128) ![p.val, 0, 0] S1x1x128.size (iSlot_inb p)).set := by
    show ((bI.view.slice _).reshape _ _).set = _
    rw [View.set_reshape, View.set_slice]; exact Finset.map_refl
  rw [h, Rect.mem_set_unit]
  constructor
  · intro h
    have h0 : p.val ≤ (x 0).val ∧ (x 0).val < p.val + 1 := h 0
    exact Fin.ext (by omega)
  · intro e
    refine fun (a : Fin 3) => ?_
    match a with
    | 0 => exact (show p.val ≤ (x 0).val ∧ (x 0).val < p.val + 1 by rw [e]; omega)
    | 1 => exact (show 0 ≤ (x 1).val ∧ (x 1).val < 0 + 1 from ⟨Nat.zero_le _, by have : (x 1).val < 1 := (x 1).isLt; omega⟩)
    | 2 => exact (show 0 ≤ (x 2).val ∧ (x 2).val < 0 + 128 from ⟨Nat.zero_le _, by have : (x 2).val < 128 := (x 2).isLt; omega⟩)

theorem mem_oSlotSet (p : Fin 2) (x : S2x128x256.Idx) : x ∈ oSlotSet p ↔ x 0 = p := by
  have h : oSlotSet p = (Rect.unit (s := S2x128x256) ![p.val, 0, 0] S1x128x256.size (oSlot_inb p)).set := by
    show ((bO.view.slice _).reshape _ _).set = _
    rw [View.set_reshape, View.set_slice]; exact Finset.map_refl
  rw [h, Rect.mem_set_unit]
  constructor
  · intro h
    have h0 : p.val ≤ (x 0).val ∧ (x 0).val < p.val + 1 := h 0
    exact Fin.ext (by omega)
  · intro e
    refine fun (a : Fin 3) => ?_
    match a with
    | 0 => exact (show p.val ≤ (x 0).val ∧ (x 0).val < p.val + 1 by rw [e]; omega)
    | 1 => exact (show 0 ≤ (x 1).val ∧ (x 1).val < 0 + 128 from ⟨Nat.zero_le _, by have : (x 1).val < 128 := (x 1).isLt; omega⟩)
    | 2 => exact (show 0 ≤ (x 2).val ∧ (x 2).val < 0 + 256 from ⟨Nat.zero_le _, by have : (x 2).val < 256 := (x 2).isLt; omega⟩)

theorem mem_oWinSet (w : Fin 2048) (x : S262144x256.Idx) : x ∈ oWinSet w ↔ (x 0).val / 128 = w.val := by
  have h : oWinSet w = (Rect.unit (s := S262144x256) ![128 * w.val, 0] S128x256.size (oWin_inb w)).set := by
    show (oV.view.slice _).set = _
    rw [View.set_slice]; exact Finset.map_refl
  rw [h, Rect.mem_set_unit]
  constructor
  · intro h
    have h0 : 128 * w.val ≤ (x 0).val ∧ (x 0).val < 128 * w.val + 128 := h 0
    omega
  · intro e
    refine fun (a : Fin 2) => ?_
    match a with
    | 0 => exact (show 128 * w.val ≤ (x 0).val ∧ (x 0).val < 128 * w.val + 128 by omega)
    | 1 => exact (show 0 ≤ (x 1).val ∧ (x 1).val < 0 + 256 from ⟨Nat.zero_le _, by have : (x 1).val < 256 := (x 1).isLt; omega⟩)

section Scratch

variable (d : Dev nD) (L : grid0.Coords)

theorem islots_disjoint : ∀ i ∈ (Finset.univ : Finset (Fin 2)), ∀ j ∈ (Finset.univ : Finset (Fin 2)), i ≠ j → Disjoint (iSlotSet i) (iSlotSet j) :=
  fun i _ j _ h => Finset.disjoint_left.mpr fun x hi hj => h (((mem_iSlotSet i x).mp hi).symm.trans ((mem_iSlotSet j x).mp hj))
theorem islots_cover : (Finset.univ : Finset (Fin 2)).biUnion iSlotSet = Finset.univ :=
  Finset.eq_univ_of_forall fun x => Finset.mem_biUnion.mpr ⟨x 0, Finset.mem_univ _, (mem_iSlotSet _ x).mpr rfl⟩
theorem oslots_disjoint : ∀ i ∈ (Finset.univ : Finset (Fin 2)), ∀ j ∈ (Finset.univ : Finset (Fin 2)), i ≠ j → Disjoint (oSlotSet i) (oSlotSet j) :=
  fun i _ j _ h => Finset.disjoint_left.mpr fun x hi hj => h (((mem_oSlotSet i x).mp hi).symm.trans ((mem_oSlotSet j x).mp hj))
theorem oslots_cover : (Finset.univ : Finset (Fin 2)).biUnion oSlotSet = Finset.univ :=
  Finset.eq_univ_of_forall fun x => Finset.mem_biUnion.mpr ⟨x 0, Finset.mem_univ _, (mem_oSlotSet _ x).mpr rfl⟩

theorem scratchI_split (f : Buf (Elt F) (biLoc d L)) :
    (biLoc d L ↦{fullShare} f : sProp 𝕄) ⊢ iprop((∃ f, iSlotPts (F := F) d L 0 f) ∗ ∃ f, iSlotPts (F := F) d L 1 f) := by
  have e : (biLoc d L ↦{fullShare} f : sProp 𝕄) = iprop(iSlotPts (F := F) d L 0 f ∗ iSlotPts (F := F) d L 1 f) := by
    refine Eq.trans ?_ (BI.bigSep_fin_two fun p : Fin 2 => iSlotPts (F := F) d L p f)
    rw [← pointsTo_biUnion Finset.univ (ℓ := biLoc d L) iSlotSet islots_disjoint, islots_cover]
  rw [e]
  iintro ⟨H0, H1⟩
  isplitl [H0]
  · iexists f; iexact H0
  · iexists f; iexact H1

theorem scratchI_join :
    iprop((∃ f, iSlotPts (F := F) d L 0 f) ∗ ∃ f, iSlotPts (F := F) d L 1 f) ⊢ (iprop(∃ f, biLoc d L ↦{fullShare} f) : sProp 𝕄) := by
  iintro ⟨⟨%f0, H0⟩, %f1, H1⟩
  ihave H' := (pointsTo_biUnion_join (ℓ := biLoc d L) (q := fullShare) (Val := Elt F) Finset.univ iSlotSet (fun p : Fin 2 => if p = 0 then f0 else f1) f0 islots_disjoint) $$ [H0 H1]
  · iapply (Entails.of_eq (show (iprop(iSlotPts (F := F) d L 0 f0 ∗ iSlotPts (F := F) d L 1 f1) : sProp 𝕄) = _ from
      (BI.bigSep_fin_two fun p : Fin 2 => iSlotPts (F := F) d L p (if p = 0 then f0 else f1)).symm))
    isplitl [H0]
    · iexact H0
    · iexact H1
  icases H' with ⟨%g, -, Hg⟩
  rw [islots_cover]
  iexists g; iexact Hg

theorem scratchO_split (f : Buf (Elt F) (boLoc d L)) :
    (boLoc d L ↦{fullShare} f : sProp 𝕄) ⊢ iprop((∃ f, oSlotPts (F := F) d L 0 f) ∗ ∃ f, oSlotPts (F := F) d L 1 f) := by
  have e : (boLoc d L ↦{fullShare} f : sProp 𝕄) = iprop(oSlotPts (F := F) d L 0 f ∗ oSlotPts (F := F) d L 1 f) := by
    refine Eq.trans ?_ (BI.bigSep_fin_two fun p : Fin 2 => oSlotPts (F := F) d L p f)
    rw [← pointsTo_biUnion Finset.univ (ℓ := boLoc d L) oSlotSet oslots_disjoint, oslots_cover]
  rw [e]
  iintro ⟨H0, H1⟩
  isplitl [H0]
  · iexists f; iexact H0
  · iexists f; iexact H1

theorem scratchO_join :
    iprop((∃ f, oSlotPts (F := F) d L 0 f) ∗ ∃ f, oSlotPts (F := F) d L 1 f) ⊢ (iprop(∃ f, boLoc d L ↦{fullShare} f) : sProp 𝕄) := by
  iintro ⟨⟨%f0, H0⟩, %f1, H1⟩
  ihave H' := (pointsTo_biUnion_join (ℓ := boLoc d L) (q := fullShare) (Val := Elt F) Finset.univ oSlotSet (fun p : Fin 2 => if p = 0 then f0 else f1) f0 oslots_disjoint) $$ [H0 H1]
  · iapply (Entails.of_eq (show (iprop(oSlotPts (F := F) d L 0 f0 ∗ oSlotPts (F := F) d L 1 f1) : sProp 𝕄) = _ from
      (BI.bigSep_fin_two fun p : Fin 2 => oSlotPts (F := F) d L p (if p = 0 then f0 else f1)).symm))
    isplitl [H0]
    · iexact H0
    · iexact H1
  icases H' with ⟨%g, -, Hg⟩
  rw [oslots_cover]
  iexists g; iexact Hg

/-! ## The subcore's own cells and buffers -/

theorem iCell_scoped (p : Fin 2) : (SemLoc.dma (iSem p) : SemLoc sig).isScoped .scVector = true := by fin_cases p <;> decide
theorem oCell_scoped (p : Fin 2) : (SemLoc.dma (oSem p) : SemLoc sig).isScoped .scVector = true := by fin_cases p <;> decide
theorem gCell_scoped : (SemLoc.dma cc0_scoped4.sem : SemLoc sig).isScoped .scVector = true := by decide

theorem cell_ne {a b : DmaSem sig} (h : a ≠ b) : ((th d L, .dma a) : GSem nD τ sig) ≠ (th d L, .dma b) :=
  fun e => h (by injection e with _ e; injection e)

theorem ownSems0_th :
    (ownSems0 (th d L) : sProp 𝕄)
      = iprop(semVal (iCell d L 0) 0 ∗ semVal (iCell d L 1) 0 ∗ semVal (oCell d L 0) 0 ∗ semVal (oCell d L 1) 0 ∗ semVal (gCell d L) 0
          ∗ bigSep (((((ownCells (th d L)).erase (iCell d L 0)).erase (iCell d L 1)).erase (oCell d L 0)).erase (oCell d L 1) |>.erase (gCell d L)) fun g => semVal g 0) := by
  have mI (p) : iCell d L p ∈ ownCells (th d L) := mem_ownCells.mpr ⟨rfl, iCell_scoped p⟩
  have mO (p) : oCell d L p ∈ ownCells (th d L) := mem_ownCells.mpr ⟨rfl, oCell_scoped p⟩
  have mG : gCell d L ∈ ownCells (th d L) := mem_ownCells.mpr ⟨rfl, gCell_scoped⟩
  unfold SparseCore.Cfg.ownSems0
  rw [SparseCore.bigSep_erase' (mI 0),
    SparseCore.bigSep_erase' (Finset.mem_erase.mpr ⟨cell_ne d L (by decide), mI 1⟩),
    SparseCore.bigSep_erase' (Finset.mem_erase.mpr ⟨cell_ne d L (by decide), Finset.mem_erase.mpr ⟨cell_ne d L (by decide), mO 0⟩⟩),
    SparseCore.bigSep_erase' (Finset.mem_erase.mpr ⟨cell_ne d L (by decide), Finset.mem_erase.mpr ⟨cell_ne d L (by decide), Finset.mem_erase.mpr ⟨cell_ne d L (by decide), mO 1⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), mG⟩⟩⟩⟩)]

theorem ownBufs_th :
    (ownBufs (th d L) : sProp 𝕄)
      = iprop((∃ f, biLoc d L ↦{fullShare} f) ∗ (∃ f, boLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Scratch

/-! ## What each SparseCore and each subcore is handed -/

abbrev tileC (c : Fin 2) (i : Fin 16) : grid0.Coords := coordsV c i
/-- SparseCore `c`'s share of the list and of the table, and its subcore `i`'s. -/
abbrev cSh (c : Fin 2) : PosShare TreeShare := leaf 1 fullShare c
abbrev sSh (c : Fin 2) (i : Fin 16) : PosShare TreeShare := leaf 4 (cSh c) i

/-- Subcore `(c, i)`'s windows of the output, at `f`. -/
abbrev tileOut (d : Dev nD) (c : Fin 2) (i : Fin 16) (f : Buf (Elt F) (oLoc d)) : sProp 𝕄 :=
  bigSep Finset.univ fun k : Fin 64 => oWinPts (F := F) d (win (tileC c i) k.val) f

abbrev tileRes (d : Dev nD) (c : Fin 2) (i : Fin 16) (f : Buf (Elt F) (oLoc d)) : sProp 𝕄 :=
  iprop(iPts m d (sSh c i) ∗ tPts m d (sSh c i) ∗ tileOut d c i f)
abbrev coreRes (d : Dev nD) (c : Fin 2) (f : Buf (Elt F) (oLoc d)) : sProp 𝕄 :=
  iprop(iPts m d (cSh c) ∗ tPts m d (cSh c) ∗ bigSep Finset.univ fun i : Fin 16 => tileOut (F := F) d c i f)
abbrev allRes (d : Dev nD) (f : Buf (Elt F) (oLoc d)) : sProp 𝕄 :=
  iprop(iPts m d fullShare ∗ tPts m d fullShare ∗ oLoc d ↦{fullShare} f)

/-- The window subcore `(c, i)` moves in its trip `k`. -/
abbrev wOf (x : Fin 2 × Fin 16 × Fin 64) : Fin 2048 := win (tileC x.1 x.2.1) x.2.2.val

theorem wOf_val (x : Fin 2 × Fin 16 × Fin 64) : (wOf x).val = 64 * (x.2.1.val + 16 * x.1.val) + x.2.2.val :=
  win_val (tileC x.1 x.2.1) x.2.2.isLt

theorem wins_disjoint : ∀ x ∈ (Finset.univ : Finset (Fin 2 × Fin 16 × Fin 64)), ∀ y ∈ (Finset.univ : Finset (Fin 2 × Fin 16 × Fin 64)),
    x ≠ y → Disjoint (oWinSet (wOf x)) (oWinSet (wOf y)) := by
  intro x _ y _ h
  refine Finset.disjoint_left.mpr fun j hx hy => h ?_
  have e : (wOf x).val = (wOf y).val := ((mem_oWinSet _ j).mp hx).symm.trans ((mem_oWinSet _ j).mp hy)
  rw [wOf_val, wOf_val] at e
  obtain ⟨a, b, c⟩ := x
  obtain ⟨a', b', c'⟩ := y
  simp only at e
  refine Prod.ext (Fin.ext ?_) (Prod.ext (Fin.ext ?_) (Fin.ext ?_)) <;> simp only <;> omega

theorem wOf_onto {n : Nat} (hn : n < 262144) : ∃ x : Fin 2 × Fin 16 × Fin 64, 64 * (x.2.1.val + 16 * x.1.val) + x.2.2.val = n / 128 :=
  ⟨(⟨n / 131072, by omega⟩, ⟨n / 8192 % 16, by omega⟩, ⟨n / 128 % 64, by omega⟩), by
    show 64 * (n / 8192 % 16 + 16 * (n / 131072)) + n / 128 % 64 = n / 128
    omega⟩

theorem win_of (j : S262144x256.Idx) (n : Nat) (hn : n < 262144) (hj : (j 0).val = n) : ∃ x : Fin 2 × Fin 16 × Fin 64, j ∈ oWinSet (wOf x) :=
  (wOf_onto hn).imp fun x hx => (mem_oWinSet _ j).mpr (by rw [hj, wOf_val]; exact hx.symm)

theorem wins_cover : (Finset.univ : Finset (Fin 2 × Fin 16 × Fin 64)).biUnion (fun x => oWinSet (wOf x)) = Finset.univ := by
  refine Finset.eq_univ_of_forall fun j => ?_
  have h := win_of j (j 0).val (j 0).isLt rfl
  rw [Finset.mem_biUnion]
  exact h.imp fun x hx => ⟨Finset.mem_univ x, hx⟩

theorem oPts_tiles (d : Dev nD) (f : Buf (Elt F) (oLoc d)) :
    (oLoc d ↦{fullShare} f : sProp 𝕄)
      = bigSep Finset.univ fun c : Fin 2 => bigSep Finset.univ fun i : Fin 16 => tileOut d c i f := by
  have e : (oLoc d ↦{fullShare} f : sProp 𝕄) = bigSep Finset.univ fun x : Fin 2 × Fin 16 × Fin 64 => oLoc d ↦[oWinSet (wOf x)]{fullShare} f := by
    refine Eq.trans ?_ (pointsTo_biUnion (q := fullShare) (f := f) Finset.univ (ℓ := oLoc d) (fun x => oWinSet (wOf x)) wins_disjoint)
    exact congrArg (fun I => (oLoc d ↦[I]{fullShare} f : sProp 𝕄)) wins_cover.symm
  refine e.trans ((bigSep_univ_prod fun x : Fin 2 × Fin 16 × Fin 64 => oWinPts (F := F) d (wOf x) f).trans (bigSep_congr fun c _ => ?_))
  exact bigSep_univ_prod (M := 𝕄) fun x : Fin 16 × Fin 64 => oWinPts (F := F) d (wOf (c, x.1, x.2)) f

theorem coreRes_tiles (d : Dev nD) (c : Fin 2) (f : Buf (Elt F) (oLoc d)) :
    coreRes m d c f = bigSep Finset.univ fun i : Fin 16 => tileRes m d c i f := by
  rw [bigSep_sep', bigSep_sep']
  unfold coreRes iPts tPts
  rw [pointsTo_leaves Finset.univ (m (iLoc d)) 4 (cSh c), pointsTo_leaves Finset.univ (m (tLoc d)) 4 (cSh c)]
  rfl

theorem allRes_cores (d : Dev nD) (f : Buf (Elt F) (oLoc d)) :
    allRes m d f = bigSep Finset.univ fun c : Fin 2 => coreRes m d c f := by
  rw [bigSep_sep', bigSep_sep']
  unfold allRes iPts tPts
  rw [pointsTo_leaves Finset.univ (m (iLoc d)) 1 fullShare, pointsTo_leaves Finset.univ (m (tLoc d)) 1 fullShare, oPts_tiles]
  rfl

/-- The call's handshakes: a SparseCore takes its part and brings it back gathered, a subcore likewise. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (out m d)
  go := fun q d c i => match q with | 0 => tileRes m d (Fin.cast nCore_zero c) (Fin.cast nSub_zero i) (m (oLoc d))
  td := fun q d c i => match q with | 0 => tileRes m d (Fin.cast nCore_zero c) (Fin.cast nSub_zero i) (out m d)
  x := fun _ _ => iprop(emp)

instance P_storable : (P (F := F) m).IsStorable where
  st q d c := match q with
    | 0 => (inferInstance : BI.Storable (upEmb : UEmb _ 𝕄) (coreRes m d (Fin.cast nCore_zero c) (m (oLoc d))))
  dn q d c := match q with
    | 0 => (inferInstance : BI.Storable (upEmb : UEmb _ 𝕄) (coreRes m d (Fin.cast nCore_zero c) (out m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (out m d)))

variable [FloatOps F]

section Tile

variable (d : Dev nD) (L : grid0.Coords)

set_option maxHeartbeats 1000000 in
/-- The task from what the launch hands the subcore: its shares halved over the two slots, its scratch cut in slots. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ (iPts m d q ∗ tPts m d q ∗ bigSep Finset.univ fun k : Fin 64 => oWinPts (F := F) d (win L k.val) (m (oLoc d)))
        ∗ scopedBufs (th d L) ∗ scopedSems0 (th d L) ∗ owes (th d L) O W)
      ⊢ wp frame (wpE (defs₀ (F := F)) 𝒱₀ (th d L) none) Set.univ (taskProg (F := F) d L)
          fun _ => iprop((iPts m d q ∗ tPts m d q ∗ bigSep Finset.univ fun k : Fin 64 => oWinPts (F := F) d (win L k.val) (out m d))
            ∗ scopedBufs (th d L) ∗ scopedSems0 (th d L)
            ∗ ∃ W', ⌜∀ p ∈ W', p ∈ W ∨ p.2 = none⌝ ∗ owes (th d L) O W') := by
  rw [(K (F := F)).scopedBufs_V hF d (cV L) (jV L), SparseCore.Cfg.scopedSems0_V (Val := Elt F) d (cV L) (jV L), ownSems0_th, ownBufs_th]
  iintro ⟨#Hlv, -, ⟨Hi, Ht, Ho⟩, ⟨⟨%fi, Hbi⟩, ⟨%fo, Hbo⟩, Hbufs⟩, ⟨Hi0, Hi1, Ho0, Ho1, Hg, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (pointsTo_share (PosShare.mem_left_op_right q)).1 $$ Hi
  icases Hi' with ⟨HiL, HiR⟩
  ihave Hbi' := (scratchI_split d L fi) $$ Hbi
  icases Hbi' with ⟨Hs0, Hs1⟩
  ihave Hbo' := (scratchO_split d L fo) $$ Hbo
  icases Hbo' with ⟨Hr0, Hr1⟩
  iapply (wp_wand_r frame (wpE (defs₀ (F := F)) 𝒱₀ (th d L) none) Set.univ)
  isplitr [Hbufs Hsems]
  · iapply (task m d L hpre q q O W)
    isplitl [Hmw]; · iexact Hmw
    isplitl [Hs0 Hs1 Hi0 Hi1 HiL HiR]
    · isplitl [Hs0 Hi0 HiL]
      · unfold idxIdle
        isplitl [Hs0]; · iexact Hs0
        isplitl [Hi0]; · iexact Hi0
        iexact HiL
      · unfold idxIdle
        isplitl [Hs1]; · iexact Hs1
        isplitl [Hi1]; · iexact Hi1
        iexact HiR
    isplitl [Hr0 Hr1 Ho0 Ho1]
    · isplitl [Hr0 Ho0]
      · unfold rowIdle
        isplitl [Hr0]; · iexact Hr0
        iexact Ho0
      · unfold rowIdle
        isplitl [Hr1]; · iexact Hr1
        iexact Ho1
    isplitl [Ho]; · iexact Ho
    isplitl [Ht]; · iexact Ht
    isplitl [Hg]; · iexact Hg
    unfold waited
    iexists W; isplitr
    · ipureintro; exact fun p hp => .inl hp
    · iexact HO
  · unfold idxIdle rowIdle waited
    iintro %_ ⟨⟨⟨Hs0, Hi0, HiL⟩, Hs1, Hi1, HiR⟩, ⟨⟨Hr0, Ho0⟩, Hr1, Ho1⟩, Ho, Ht, Hg, HW⟩
    isplitl [HiL HiR Ht Ho]
    · isplitl [HiL HiR]
      · iapply (pointsTo_share (PosShare.mem_left_op_right q)).2
        isplitl [HiL]
        · iexact HiL
        · iexact HiR
      isplitl [Ht]; · iexact Ht
      iexact Ho
    isplitl [Hs0 Hs1 Hr0 Hr1 Hbufs]
    · isplitl [Hs0 Hs1]
      · iapply (scratchI_join d L)
        isplitl [Hs0]; · iexact Hs0
        iexact Hs1
      isplitl [Hr0 Hr1]
      · iapply (scratchO_join d L)
        isplitl [Hr0]; · iexact Hr0
        iexact Hr1
      iexact Hbufs
    isplitl [Hi0 Hi1 Ho0 Ho1 Hg Hsems]
    · isplitl [Hi0]; · iexact Hi0
      isplitl [Hi1]; · iexact Hi1
      isplitl [Ho0]; · iexact Ho0
      isplitl [Ho1]; · iexact Ho1
      isplitl [Hg]; · iexact Hg
      iexact Hsems
    iexact HW

/-! ## The obligation -/

theorem defs₀_vector (c : Fin τ.nSC) (s : Fin τ.nSub) :
    defs₀ (F := F) (.scVector c s) 0 ()
      = SparseCore.onTile hcore0 hsub0 (fun c s => cc0_gather (coordsV c s) tV (Memref.isWhole_whole _) iV (Memref.isWhole_whole _) oV (Memref.isWhole_whole _)
          bI (Memref.isWhole_whole _) cc0_scoped1 bO (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre (sSh (Fin.cast nCore_zero c) (Fin.cast nSub_zero i)) O W hO).trans
    (wp_mono frame _ _ fun _ => obl_post)

end Tile

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

omit [FloatOps F] in
theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (out m d))
          -∗ coreRes m d (Fin.cast nCore_zero c) (out m d)))
  rw [bigSep_tasks (F := F) (fun i => tileRes m d (Fin.cast nCore_zero c) i (m (oLoc d))),
    bigSep_tasks (F := F) (fun i => tileRes m d (Fin.cast nCore_zero c) i (out m d)), coreRes_tiles, coreRes_tiles]
  iintro H; imodintro
  isplitl [H]; · iexact H
  iintro H; iexact H

/-! ## The launch element of the certificate's ghost state -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The program on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
theorem st0_eq (d : Dev nD) : (bigSep Finset.univ fun c : Fin ((K (F := F)).nCore 0) => (P m).st 0 d c) = allRes m d (m (oLoc d)) :=
  (bigSep_cores (F := F) (fun c => coreRes m d c (m (oLoc d)))).trans (allRes_cores m d _).symm
omit [FloatOps F] in
theorem dn0_eq (d : Dev nD) : (bigSep Finset.univ fun c : Fin ((K (F := F)).nCore 0) => (P m).dn 0 d c) = allRes m d (out m d) :=
  (bigSep_cores (F := F) (fun c => coreRes m d c (out m d))).trans (allRes_cores m d _).symm

/-- The program on device `d`'s TensorCore: the one call, from the three buffers; the output comes back gathered. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ allRes m d (out m d) ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Hi, Ho⟩, Hts, -⟩, -⟩
  iapply ((K (F := F)).wp_run (D (F := F)) 𝒱 (EH := EH) (P := P m) κ d 0) $$ [Hst Hi Ht Ho Hb Hts]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (iLoc d) = m (iLoc d) ∧ s'.mem.mem (tLoc d) = m (tLoc d) ∧ s'.mem.mem (oLoc d) = out m d

set_option maxRecDepth 16384 in
omit [FloatOps F] in
theorem hfin (d : Dev nD) (s' : Phys nD τ sig (Elt F)) : iprop(allRes m d (out m d) ∗ SI s') ⊢ (⌜fq m d s'⌝ : sProp 𝕄) := by
  iintro ⟨⟨Hi, Ht, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ d : Dev nD, r.2.mem (iLoc d) = m (iLoc d) ∧ r.2.mem (tLoc d) = m (tLoc d) ∧ r.2.mem (oLoc d) = out m d) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => allRes m d (out m d)) (u₀ (F := F)) (sep_elim_left.trans (hu₀ m)) (hmain m ρ) (fq m) (hfin m) (QC m) (fun _ h hz => ⟨h, hz⟩)

end Cert.Proof.Fetch

end
-- ==== Proof.Lookup.lean ====
/-
  The reference, read: the rows of the table the words of the list name. The words are non-negative and below the table's
  row count, so the wrap of negative indices leaves them and the clamp does nothing.
-/
module

public import proofs.«01_k».proof.Proof.Slots
public import proofs.«01_k».proof.Proof.Gen.ReferenceIdeal
public import Idealize.ShloMosaic.Lib.Routing.Ops

@[expose] public section

noncomputable section

namespace Cert.Proof.Fetch

open Cert.ReferenceIdeal
open Idealize.ShloMosaic Idealize.ShloMosaic.ValueIdx Idealize.ShloMosaic.Routing

/-- A word whose value is in the table, under the wrap of negative indices, is itself. -/
theorem wrap_word (v : BitVec 32) (h : v.toNat < 294912) : IntOp.cmpi .slt v 0#32 = 0#1 := by
  have e : v.slt 0#32 = false := by
    rw [BitVec.slt_eq_decide]
    simp only [decide_eq_false_iff_not, BitVec.toInt_eq_toNat_cond, BitVec.toNat_ofNat, Nat.reducePow, Nat.reduceMod]
    omega
  simp only [IntOp.cmpi, e]; rfl

theorem lookup (d : GatherDims S294912x256 S262144x1 S262144x256) (hoff : d.offsetDims = [1]) (hcoll : d.collapsedSliceDims = [0])
    (hob : d.operandBatchingDims = []) (hsim : d.startIndexMap = [0]) (hivd : d.indexVectorDim = 1)
    (t : S294912x256.Idx → BitVec 32) (ix : S1x262144.Idx → BitVec 32)
    (hsc : S1x262144.ShapeCasts S262144) (hb0 : S_.BroadcastsInDim S262144 (![] : Fin 0 → Fin S262144.rank))
    (hb1 : S262144.BroadcastsInDim S262144x1 (![0] : Fin 1 → Fin S262144x1.rank)) (hok : ∀ j : S1x262144.Idx, (ix j).toNat < 294912) :
    Host.gather d t (broadcastInDim S262144x1 ![0] hb1
        (select (cmpi .slt (shapeCast S262144 ix hsc) (broadcastInDim S262144 ![] hb0 (constantI S_ 32 0#32)))
          (addi (shapeCast S262144 ix hsc) (broadcastInDim S262144 ![] hb0 (constantI S_ 32 294912#32))) (shapeCast S262144 ix hsc)))
      = gathered t ix := by
  refine funext fun j => ?_
  have hj : j = ix2 (n0 := 262144) (n1 := 256) (j 0) (j 1) := by
    funext a
    match a with
    | 0 => rfl
    | 1 => rfl
  have hw : ∀ k : S262144.Idx, shapeCast S262144 ix hsc k = ix (iIdx (k 0)) := by
    intro k
    refine congrArg ix ?_
    refine Shape.reshapeEquiv_eq_of_rowMajor _ ?_
    rw [Shape.rowMajor_val_two, Shape.rowMajor_val_one]
    show 0 * 262144 + (k 0).val = (k 0).val
    omega
  have hv := hok (iIdx (j 0))
  rw [hj]
  refine (gather_row d hoff hcoll hob hsim hivd t _ (j 0) (j 1) ⟨(ix (iIdx (j 0))).toNat, hv⟩ ?_ (by decide)).trans ?_
  · have hs : ∀ k : S262144.Idx, select (cmpi .slt (shapeCast S262144 ix hsc) (broadcastInDim S262144 ![] hb0 (constantI S_ 32 0#32)))
          (addi (shapeCast S262144 ix hsc) (broadcastInDim S262144 ![] hb0 (constantI S_ 32 294912#32))) (shapeCast S262144 ix hsc) k = ix (iIdx (k 0)) := by
      intro k
      rw [← hw k]
      have h0 : cmpi .slt (shapeCast S262144 ix hsc) (broadcastInDim S262144 ![] hb0 (constantI S_ 32 0#32)) k = 0#1 := by
        show IntOp.cmpi .slt (shapeCast S262144 ix hsc k) 0#32 = 0#1
        rw [hw k]; exact wrap_word _ (hok _)
      unfold select
      rw [h0]; rfl
    refine (hs _).trans ?_
    refine Eq.trans ?_ (BitVec.ofNat_toNat 32 (ix (iIdx (j 0)))).symm
    rfl
  · refine congrArg t (funext fun (a : Fin 2) => ?_)
    match a with
    | 0 => exact Fin.ext (Nat.mod_eq_of_lt hv).symm
    | 1 => rfl

end Cert.Proof.Fetch

end
-- ==== Proof.Tables.lean ====
/-
  The experts' tables, as terms of the counts: each block's expert, its number of rows and the number of blocks in use, and what
  holds of them when the counts are of 131072 rows.
-/
module

public import Idealize.ShloMosaic.Lib.Routing.OpsOne
public import Idealize.ShloMosaic.Lib.Routing.Words
public import Idealize.ShloMosaic.Lib.WordArith

@[expose] public section

set_option maxRecDepth 16384

noncomputable section

namespace Cert.Proof.Plan

open Idealize.ShloMosaic Idealize.ShloMosaic.ValueIdx Idealize.ShloMosaic.Routing Idealize.ShloMosaic.WordCmp

/-! ## The terms -/

/-- The take of one number for each block from a row of thirty-two. -/
def pickDims : GatherDims (shape1 32) (shape2 288 1) (shape1 288) where
  offsetDims := []
  collapsedSliceDims := [0]
  operandBatchingDims := []
  startIndicesBatchingDims := []
  startIndexMap := [0]
  indexVectorDim := 1
  sliceSizes := ![1]
  wf := by decide

theorem sc32 : shape0.BroadcastsInDim (shape1 32) (![] : Fin 0 → Fin (shape1 32).rank) := by decide
theorem sc288 : shape0.BroadcastsInDim (shape1 288) (![] : Fin 0 → Fin (shape1 288).rank) := by decide
theorem sc1 : shape0.BroadcastsInDim (shape1 1) (![] : Fin 0 → Fin (shape1 1).rank) := by decide
theorem sc0 : shape0.BroadcastsInDim shape0 (![] : Fin 0 → Fin shape0.rank) := by decide
theorem col288 : (shape1 288).BroadcastsInDim (shape2 288 1) (![0] : Fin 1 → Fin (shape2 288 1).rank) := by decide
theorem row32 : (shape1 32).BroadcastsInDim (shape2 1 32) (![1] : Fin 1 → Fin (shape2 1 32).rank) := by decide
theorem cols : (shape2 288 1).BroadcastsInDim (shape2 288 32) (![0, 1] : Fin 2 → Fin (shape2 288 32).rank) := by decide
theorem rowsB : (shape2 1 32).BroadcastsInDim (shape2 288 32) (![0, 1] : Fin 2 → Fin (shape2 288 32).rank) := by decide
theorem win : (shape1 32).ReduceWindows (![32] : Fin 1 → Nat) ![1] ![31] ![0] (shape1 32) := by decide
theorem red : (shape2 288 32).ReducesTo [1] (shape1 288) := by decide
theorem pos0 : 0 < shape0.numel := by decide
theorem last : (shape1 32).Slices ![31] (shape1 1) := by decide
theorem one32 : 1 < 32 := by decide

/-- A number over a shape. -/
abbrev all32 (v : BitVec 32) : IVec (shape1 32) 32 := broadcastInDim (shape1 32) ![] sc32 (constantI shape0 32 v)
abbrev all288 (v : BitVec 32) : IVec (shape1 288) 32 := broadcastInDim (shape1 288) ![] sc288 (constantI shape0 32 v)

theorem all32_at (v : BitVec 32) (i : Fin 32) : all32 v (ix1 i) = v := bc0 _ _ _
theorem all288_at (v : BitVec 32) (i : Fin 288) : all288 v (ix1 i) = v := bc0 _ _ _

/-- Rows of whole blocks each expert takes, from its count and 511. -/
def whole (u : IVec (shape1 32) 32) : IVec (shape1 32) 32 := muli (pyDiv sc32 u (constantI shape0 32 512#32)) (all32 512#32)
/-- The row past each expert's last block. -/
def ends (u : IVec (shape1 32) 32) : IVec (shape1 32) 32 :=
  Host.reduceWindow IntOp.addi ![32] ![1] ![31] ![0] (whole u) (broadcastInDim shape0 ![] sc0 (constantI shape0 32 0#32)) win pos0
/-- The row each expert's first block begins at. -/
def starts (u : IVec (shape1 32) 32) : IVec (shape1 32) 32 := subi (ends u) (whole u)
/-- The row each block begins at. -/
def first : IVec (shape1 288) 32 := muli (iotaInDim (shape1 288) 32 0) (all288 512#32)
/-- Each block's expert. -/
def expertOf (u : IVec (shape1 32) 32) : IVec (shape1 288) 32 :=
  minsi (Host.reduce IntOp.addi (extui 32 (cmpi .sle
      (broadcastInDim (shape2 288 32) ![0, 1] rowsB (broadcastInDim (shape2 1 32) ![1] row32 (ends u)))
      (broadcastInDim (shape2 288 32) ![0, 1] cols (broadcastInDim (shape2 288 1) ![0] col288 first))) one32)
    (constantI shape0 32 0#32) red pos0) (all288 31#32)
/-- Numbers as the takes read them: one below zero counts from the end. -/
def asIndex (v : IVec (shape1 288) 32) : IVec (shape2 288 1) 32 :=
  broadcastInDim (shape2 288 1) ![0] col288 (select (cmpi .slt v (all288 0#32)) (addi v (all288 32#32)) v)
/-- Each block's number of rows. -/
def rowsOf (u c : IVec (shape1 32) 32) : IVec (shape1 288) 32 :=
  minsi (all288 512#32) (maxsi (all288 0#32)
    (subi (addi (Host.gather pickDims (starts u) (asIndex (expertOf u))) (Host.gather pickDims c (asIndex (expertOf u)))) first))
/-- The number of blocks in use. -/
def inUse (u : IVec (shape1 32) 32) : IVec (shape1 1) 32 :=
  pyDiv sc1 (extractStridedSlice (shape1 1) ![31] (ends u) last) (constantI shape0 32 512#32)

/-! ## What holds of them -/

/-- The facts the call rests on. -/
structure Sound (B N : IVec (shape1 288) 32) (U : IVec (shape1 1) 32) : Prop where
  expert : ∀ t : Fin 288, ∃ b : Fin 32, B (ix1 t) = BitVec.ofNat 32 b.val
  rows : ∀ t : Fin 288, ∃ k : Nat, k ≤ 512 ∧ N (ix1 t) = BitVec.ofNat 32 k
  used : ∃ g : Nat, 1 ≤ g ∧ g ≤ 288 ∧ U (ix1 (0 : Fin 1)) = BitVec.ofNat 32 g ∧ ∀ t : Fin 288, N (ix1 t) ≠ 0#32 → t.val < g
  chain : ∀ t s : Fin 288, s.val + 1 = t.val → N (ix1 t) ≠ 0#32 → B (ix1 t) = B (ix1 s) → N (ix1 s) ≠ 0#32

/-- The counts are of 131072 rows. -/
def Counted (c : IVec (shape1 32) 32) (f : Nat → Nat) : Prop :=
  (∀ i : Fin 32, c (ix1 i) = BitVec.ofNat 32 (f i.val)) ∧ ((List.range 32).map f).sum = 131072

/-- A count between zero and 512 of the rows from `b` to `a`. -/
theorem clip_word {a b : Nat} (ha : a < 2 ^ 30) (hb : b < 2 ^ 30) :
    IntOp.minsi 512#32 (IntOp.maxsi 0#32 (BitVec.ofNat 32 a - BitVec.ofNat 32 b)) = BitVec.ofNat 32 (min 512 (a - b)) := by
  have w : IntOp.maxsi 0#32 (BitVec.ofNat 32 a - BitVec.ofNat 32 b) = BitVec.ofNat 32 (a - b) := by
    apply BitVec.eq_of_toInt_eq
    have e1 := StableHlo.Predicate.toInt_ofNat_small a (by omega)
    have e2 := StableHlo.Predicate.toInt_ofNat_small b (by omega)
    rw [WordArith.toInt_maxsi_zero, WordArith.toInt_sub_of_bounds _ _ (by omega) (by omega), e1, e2,
      StableHlo.Predicate.toInt_ofNat_small (a - b) (by omega)]
    omega
  rw [w]
  apply BitVec.eq_of_toNat_eq
  rw [WordArith.toNat_minsi_of_lt _ _ (by decide) (by rw [BitVec.toNat_ofNat]; omega)]
  simp only [BitVec.toNat_ofNat]
  omega

section
variable {c u : IVec (shape1 32) 32} {f : Nat → Nat} (hf : Counted c f) (hu : ∀ i : Fin 32, u (ix1 i) = BitVec.ofNat 32 (f i.val + 511))

/-- Blocks each expert takes. -/
def blocks (f : Nat → Nat) (i : Nat) : Nat := (f i + 511) / 512
/-- Blocks taken before expert `n`. -/
def before (f : Nat → Nat) (n : Nat) : Nat := ((List.range n).map (blocks f)).sum

theorem before_succ (f : Nat → Nat) (n : Nat) : before f (n + 1) = before f n + blocks f n := by
  unfold before
  rw [List.range_succ, List.map_append, List.sum_append]
  simp

theorem sum_bound (f : Nat → Nat) (n : Nat) : ((List.range n).map f).sum ≤ 512 * before f n ∧ 512 * before f n ≤ ((List.range n).map f).sum + 511 * n := by
  induction n with
  | zero => exact ⟨by simp, by simp [before]⟩
  | succ n ih =>
    rw [before_succ, List.range_succ, List.map_append, List.sum_append]
    simp only [List.map_cons, List.map_nil, List.sum_cons, List.sum_nil, Nat.add_zero]
    have : 512 * blocks f n ≤ f n + 511 ∧ f n ≤ 512 * blocks f n := by unfold blocks; omega
    omega

theorem before_mono (f : Nat → Nat) {a b : Nat} (h : a ≤ b) : before f a ≤ before f b := by
  induction b, h using Nat.le_induction with
  | base => exact Nat.le_refl _
  | succ n _ ih => rw [before_succ]; omega

theorem sum_blocks (f : Nat → Nat) (n : Nat) : ((List.range n).map fun i => 512 * blocks f i).sum = 512 * before f n := by
  induction n with
  | zero => simp [before]
  | succ n ih =>
    rw [before_succ, List.range_succ, List.map_append, List.sum_append, ih]
    simp only [List.map_cons, List.map_nil, List.sum_cons, List.sum_nil, Nat.add_zero]
    omega

theorem le_sum (f : Nat → Nat) (n i : Nat) (h : i < n) : f i ≤ ((List.range n).map f).sum :=
  List.single_le_sum (by simp) _ (List.mem_map.2 ⟨i, List.mem_range.2 h, rfl⟩)

include hf in
theorem before_bounds : 256 ≤ before f 32 ∧ before f 32 ≤ 287 := by
  have := sum_bound f 32
  rw [hf.2] at this
  omega

include hf in
theorem count_le (i : Fin 32) : f i.val ≤ 131072 := hf.2 ▸ le_sum f 32 i.val i.isLt

include hf hu in
theorem whole_ap (i : Fin 32) : whole u (ix1 i) = BitVec.ofNat 32 (512 * blocks f i.val) := by
  have hc := count_le hf i
  unfold whole
  rw [muli_ap, pyDiv_ap sc32 u (constantI shape0 32 512#32) (ix1 i) (a := f i.val + 511) (b := 512) (hu i) rfl (by omega) (by decide) (by decide), all32_at]
  show BitVec.ofNat 32 (blocks f i.val) * BitVec.ofNat 32 512 = _
  rw [← BitVec.ofNat_mul, Nat.mul_comm]

include hf hu in
theorem ends_ap (j : Fin 32) : ends u (ix1 j) = BitVec.ofNat 32 (512 * before f (j.val + 1)) := by
  unfold ends
  rw [cumsum1 (by rfl) (whole u) (fun i => 512 * blocks f i) (whole_ap hf hu) _ (bc0 _ _ _) win pos0 j, sum_blocks]

include hf hu in
theorem starts_ap (j : Fin 32) : starts u (ix1 j) = BitVec.ofNat 32 (512 * before f j.val) := by
  unfold starts
  rw [subi_ap, ends_ap hf hu, whole_ap hf hu, ofNat32_sub (by rw [before_succ]; omega), before_succ]
  congr 1
  omega

theorem first_ap (t : Fin 288) : first (ix1 t) = BitVec.ofNat 32 (512 * t.val) := by
  unfold first
  rw [muli_ap, iota1_ap, all288_at]
  show BitVec.ofNat 32 t.val * BitVec.ofNat 32 512 = _
  rw [← BitVec.ofNat_mul, Nat.mul_comm]

/-- The number of experts whose blocks end at or before block `t`, at most 31. -/
def expertN (f : Nat → Nat) (t : Nat) : Nat := min (Nat.count (fun q => before f (q + 1) ≤ t) 32) 31

include hf hu in
theorem expert_ap (t : Fin 288) : expertOf u (ix1 t) = BitVec.ofNat 32 (expertN f t.val) := by
  unfold expertOf
  show IntOp.minsi (Host.reduce _ _ _ _ _ (ix1 t)) (all288 31#32 (ix1 t)) = _
  rw [reduce_count (by decide) _ one32 red pos0 t (fun q => before f (q + 1) ≤ t.val) (fun q => by
    rw [cmpi_at, bcCols, bcRows, ends_ap hf hu, first_ap, IntOp.cmpi]
    have h1 := before_mono f (show q.val + 1 ≤ 32 from q.isLt)
    have h2 := (before_bounds hf).2
    have h3 := t.isLt
    show BitVec.ofBool ((BitVec.ofNat 32 (512 * before f (q.val + 1))).sle (BitVec.ofNat 32 (512 * t.val))) = 1#1 ↔ _
    rw [sle_ofNat32 (by omega) (by omega), StableHlo.Predicate.ofBool_eq_one_iff, decide_eq_true_eq]
    omega), all288_at]
  have hle : Nat.count (fun q => before f (q + 1) ≤ t.val) 32 ≤ 32 := Nat.count_le _
  apply BitVec.eq_of_toNat_eq
  rw [WordArith.toNat_minsi_of_lt _ _ (by rw [BitVec.toNat_ofNat]; omega) (by decide)]
  unfold expertN
  show min (BitVec.toNat _) 31 = _
  simp only [BitVec.toNat_ofNat]
  omega

theorem expertN_lt (f : Nat → Nat) (t : Nat) : expertN f t < 32 := by unfold expertN; omega

theorem expertN_past (f : Nat → Nat) (t : Nat) (h : before f 32 ≤ t) : expertN f t = 31 := by
  have : Nat.count (fun q => before f (q + 1) ≤ t) 32 = 32 :=
    Nat.count_iff_forall.2 fun q hq => (before_mono f (show q + 1 ≤ 32 from hq)).trans h
  unfold expertN
  rw [this]
  rfl

theorem index_ap (v : IVec (shape1 288) 32) (t : Fin 288) {b : Nat} (hb : b < 32) (h : v (ix1 t) = BitVec.ofNat 32 b) :
    asIndex v (ix2 t (0 : Fin 1)) = BitVec.ofNat 32 b := by
  unfold asIndex
  rw [bcCol]
  show Scalar.select (IntOp.cmpi .slt (v (ix1 t)) (all288 0#32 (ix1 t))) _ (v (ix1 t)) = _
  rw [h, all288_at]
  show Scalar.select (BitVec.ofBool ((BitVec.ofNat 32 b).slt (BitVec.ofNat 32 0))) _ _ = _
  rw [slt_ofNat32 (by omega) (by decide), decide_eq_false (by omega)]
  rfl

/-- Each block's number of rows, as a number. -/
def rowsN (f : Nat → Nat) (t : Nat) : Nat := min 512 (512 * before f (expertN f t) + f (expertN f t) - 512 * t)

include hf hu in
theorem rows_ap (t : Fin 288) : rowsOf u c (ix1 t) = BitVec.ofNat 32 (rowsN f t.val) := by
  have hb := expertN_lt f t.val
  have hi := index_ap _ t hb (expert_ap hf hu t)
  have h1 := before_mono f (show expertN f t.val ≤ 32 by omega)
  have h2 := (before_bounds hf).2
  have h3 := t.isLt
  have h4 := count_le hf ⟨expertN f t.val, hb⟩
  unfold rowsOf
  show IntOp.minsi (all288 512#32 (ix1 t)) (IntOp.maxsi (all288 0#32 (ix1 t)) ((Host.gather pickDims (starts u) _ (ix1 t) + Host.gather pickDims c _ (ix1 t)) - first (ix1 t))) = _
  rw [gather_take1 pickDims rfl rfl rfl rfl _ _ t ⟨expertN f t.val, hb⟩ hi (by decide), gather_take1 pickDims rfl rfl rfl rfl _ _ t ⟨expertN f t.val, hb⟩ hi (by decide),
    starts_ap hf hu, hf.1, first_ap, all288_at, all288_at, ← BitVec.ofNat_add]
  exact clip_word (a := 512 * before f (expertN f t.val) + f (expertN f t.val)) (by simp only at h4; omega) (by omega)

include hf hu in
theorem use_ap : inUse u (ix1 (0 : Fin 1)) = BitVec.ofNat 32 (before f 32) := by
  have h2 := (before_bounds hf).2
  have e : extractStridedSlice (shape1 1) ![31] (ends u) last (ix1 (0 : Fin 1)) = BitVec.ofNat 32 (512 * before f 32) :=
    (slice1 31 (ends u) last (0 : Fin 1) (by decide)).trans (ends_ap hf hu (31 : Fin 32))
  generalize before f 32 = g at e h2
  unfold inUse
  generalize extractStridedSlice (shape1 1) ![31] (ends u) last = y at e
  refine (pyDiv_ap sc1 y (constantI shape0 32 512#32) (ix1 (0 : Fin 1)) (a := 512 * g) (b := 512) e rfl (by omega) (by decide) (by decide)).trans ?_
  rw [Nat.mul_div_cancel_left g (by decide)]

theorem word_ne {k : Nat} (hk : k ≤ 512) (h : BitVec.ofNat 32 k ≠ 0#32) : 0 < k := by
  rcases Nat.eq_zero_or_pos k with e | e
  · subst e; exact absurd rfl h
  · exact e

include hf hu in
theorem sound : Sound (expertOf u) (rowsOf u c) (inUse u) where
  expert t := ⟨⟨expertN f t.val, expertN_lt f t.val⟩, expert_ap hf hu t⟩
  rows t := ⟨rowsN f t.val, Nat.min_le_left _ _, rows_ap hf hu t⟩
  used := ⟨before f 32, by have := (before_bounds hf).1; omega, by have := (before_bounds hf).2; omega, use_ap hf hu, fun t h => by
    rw [rows_ap hf hu t] at h
    have hp := word_ne (Nat.min_le_left _ _) h
    by_contra hle
    have e := expertN_past f t.val (by omega)
    unfold rowsN at hp
    rw [e] at hp
    have hs : before f 32 = before f 31 + blocks f 31 := before_succ f 31
    have : f 31 ≤ 512 * blocks f 31 := by unfold blocks; omega
    omega⟩
  chain t s hs h hb := by
    rw [rows_ap hf hu t] at h
    rw [rows_ap hf hu s]
    have hp := word_ne (Nat.min_le_left _ _) h
    rw [expert_ap hf hu t, expert_ap hf hu s] at hb
    have h1 := expertN_lt f t.val
    have h2 := expertN_lt f s.val
    have e : expertN f t.val = expertN f s.val := by
      have := congrArg BitVec.toNat hb
      simp only [BitVec.toNat_ofNat] at this
      omega
    have hq : 0 < rowsN f s.val := by
      rw [e] at hp
      unfold rowsN
      omega
    have hl : rowsN f s.val ≤ 512 := Nat.min_le_left _ _
    exact ofNat32_ne_zero hq (by omega)

end

end Cert.Proof.Plan

end
-- ==== Proof.Counts.lean ====
/-
  The precondition of the experts' call, read: the counts are numbers whose sum is 131072.
-/
module

public import proofs.«01_k».proof.Proof.Gen.Pre_routed
public import proofs.«01_k».proof.Proof.Tables

@[expose] public section

set_option maxRecDepth 16384

noncomputable section

namespace Cert.Proof.Plan

open Idealize.ShloMosaic Idealize.ShloMosaic.ValueIdx Idealize.ShloMosaic.Routing Idealize.ShloMosaic.WordCmp
open Cert.Pre_routed (S2x294912x256 S32x1024x2048 S32x2048 S32x1024x1024 S32x1024)

theorem le_of_bits {x : BitVec 32} (h0 : IntOp.cmpi .sge x 0#32 = 1#1) (h1 : IntOp.cmpi .sle x 131072#32 = 1#1) : x.toNat ≤ 131072 := by
  have e0 : (0#32).sle x = true := (StableHlo.Predicate.ofBool_eq_one_iff _).1 h0
  have e1 : x.sle 131072#32 = true := (StableHlo.Predicate.ofBool_eq_one_iff _).1 h1
  rw [BitVec.sle_eq_decide, decide_eq_true_eq] at e0 e1
  have h : x.toInt = x.toNat := StableHlo.Predicate.toInt_eq_toNat_of_lt (toNat_lt_of_toInt_nonneg x e0)
  have e : (131072#32 : BitVec 32).toInt = 131072 := by decide
  rw [h, e] at e1
  omega

theorem and_bits {x y : BitVec 1} (h : IntOp.andi x y = 1#1) : x = 1#1 ∧ y = 1#1 := by
  revert x y; decide

theorem sum_le (f : Nat → Nat) (k : Nat) (h : ∀ i, f i ≤ k) (n : Nat) : ((List.range n).map f).sum ≤ n * k := by
  induction n with
  | zero => simp
  | succ n ih =>
    rw [List.range_succ, List.map_append, List.sum_append, Nat.succ_mul]
    have := h n
    simp only [List.map_cons, List.map_nil, List.sum_cons, List.sum_nil, Nat.add_zero]
    omega

variable {F : FTy → Type} [FloatOps F]

/-- The counts as numbers. -/
def countN (c : IVec (shape1 32) 32) (i : Nat) : Nat := if h : i < 32 then (c (ix1 ⟨i, h⟩)).toNat else 0

theorem counted (x : FVec F S2x294912x256 .bf16) (c : IVec (shape1 32) 32) (w : FVec F S32x1024x2048 .f32) (b : FVec F S32x2048 .f32)
    (w' : FVec F S32x1024x1024 .f32) (b' : FVec F S32x1024 .f32) (h : Cert.Pre_routed.fn (F := F) x c w b w' b' = fun _ => 1#1) :
    Counted c (countN c) := by
  have at_ : ∀ i : Fin 32, c (ix1 i) = BitVec.ofNat 32 (countN c i.val) := fun i => by
    unfold countN
    rw [dif_pos i.isLt, BitVec.ofNat_toNat, BitVec.setWidth_eq]
  have key : ∀ i : Fin 32, (c (ix1 i)).toNat ≤ 131072 ∧ Host.reduce IntOp.addi c (constantI shape0 32 0#32) Cert.Pre_routed.Gen.reducesTo_S32_S_d0 Cert.Pre_routed.Gen.h_S_ ix0 = 131072#32 := fun i => by
    have e := congrFun h (ix1 i)
    obtain ⟨e1, e2⟩ := and_bits e
    obtain ⟨e3, e4⟩ := and_bits e1
    refine ⟨le_of_bits e3 e4, StableHlo.Predicate.cmpi_eq_iff.1 (Eq.trans ?_ e2)⟩
    exact (bc0 (α := BitVec 1) Cert.Pre_routed.Gen.bcast_S_S32 (cmpi .eq (Host.reduce IntOp.addi c (constantI shape0 32 0#32)
      Cert.Pre_routed.Gen.reducesTo_S32_S_d0 Cert.Pre_routed.Gen.h_S_) (constantI shape0 32 131072#32)) (ix1 i)).symm
  refine ⟨at_, ?_⟩
  have e := (key 0).2
  rw [reduce_sum c (countN c) at_] at e
  have hb := sum_le (countN c) 131072 (fun i => by
    unfold countN
    split
    · exact (key ⟨i, _⟩).1
    · omega) 32
  have := congrArg BitVec.toNat e
  rw [BitVec.toNat_ofNat, Nat.mod_eq_of_lt (by omega)] at this
  exact this

end Cert.Proof.Plan

end
-- ==== Proof.Expert.lean ====
/-
  The body of the experts' call at one block of rows, by what the tables say of the block: rows to work on and an expert whose
  weights are not in the scratch buffers yet; rows to work on and the weights already there; or no rows.
-/
module

public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise

@[expose] public section

set_option maxRecDepth 16384

noncomputable section

namespace Cert.Proof.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg3 : Memref sig .tc .smem S1 .i32) (harg3 : arg3.IsWhole) (arg4 : Memref sig .tc .vmem S2x1024x256 .bf16) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S2x1024x256 .bf16) (harg9 : arg9.IsWhole) (arg10 : Memref sig .tc .vmem S1024x2048 .bf16) (harg10 : arg10.IsWhole) (arg11 : Memref sig .tc .vmem S1024x1024 .bf16) (harg11 : arg11.IsWhole)

/-- The condition under which the block's weights are brought into the scratch buffers. -/
def loads (n e e' : BitVec 32) : BitVec 1 :=
  Scalar.cmpi .ne (Scalar.extui (Scalar.andi (Scalar.cmpi .sgt n 0#32)
    (Scalar.ori (Scalar.cmpi .eq (BitVec.ofNat 32 (i 0).val) 0#32) (Scalar.cmpi .ne e e')))) 0#32

/-- Every axis of a one-word rectangle has length one. -/
theorem one_word (a : Fin S288.rank) : S1.size a = 1 := match a with | ⟨0, _⟩ => rfl

/-- The place of a block's entry in the tables. -/
def here : S288.Idx := fun a => ⟨k0_off1 i a, by have := k0_off1_inb i a; rw [one_word a] at this; exact this⟩
/-- The place of the entry before it. -/
def prior : S288.Idx := fun a => ⟨k0_off2 i a, by have := k0_off2_inb i a; rw [one_word a] at this; exact this⟩

/-- A word read from a whole table is the table's entry at the word's place. -/
theorem word_at (arg : Memref sig .tc .smem S288 .i32) (harg : arg.IsWhole) (v : Vec F S288 .i32) {off : Fin S288.rank → Nat}
    (h : ∀ a, off a + S1.size a ≤ S288.size a) (j : S288.Idx) (hj : ∀ a, (j a).val = off a) (x : S1.Idx) :
    View.readAt (Elt F) arg.view (Rect.unit (s := S288) off S1.size h).toLoadRect (harg.unread v) x = v j := by
  show View.read (Elt F) arg.view (harg.unread v) ((Rect.unit (s := S288) off S1.size h).emb x) = v j
  rw [harg.read_unread]
  refine congrArg v (funext fun a => Fin.ext ?_)
  rw [hj a]
  have := (x a).isLt
  have e := one_word a
  show off a + 1 * (x a).val = off a
  change (x a).val < S1.size a at this
  omega

variable (arg1 : Memref sig .tc .smem S288 .i32) (harg1 : arg1.IsWhole) (arg2 : Memref sig .tc .smem S288 .i32) (harg2 : arg2.IsWhole)

set_option maxHeartbeats 1000000 in
theorem body_dead (p : PosShare TreeShare) (blk cnt : Vec F S288 .i32)
    (h1 : ¬loads i (cnt (here i)) (blk (here i)) (blk (prior i)) = 1#1)
    (h2 : ¬k0_cond2 (cnt (here i)) = 1#1) (h3 : k0_cond3 (cnt (here i)) = 1#1)
    (E : Set ℕ) (K : PUnit → sProp 𝕄) :
    iprop(owns (c : Thread nD τ) arg1 p blk ∗ owns (c : Thread nD τ) arg2 p cnt
        ∗ (∃ d, owns (c : Thread nD τ) arg9 fullShare d)
        ∗ (iprop(owns (c : Thread nD τ) arg1 p blk ∗ owns (c : Thread nD τ) arg2 p cnt
            ∗ owns (c : Thread nD τ) arg9 fullShare (k0_pay4 (F := F))) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10 arg11 harg11) K := by
  simp only [cc0_moe_experts_eq_skeleton]; unfold cc0_moe_experts_skel
  unfold owns
  iintro ⟨⟨%fB, %hfB, HB⟩, ⟨%fC, %hfC, HC⟩, ⟨%d4, %f4, -, H4⟩, Hk⟩
  obtain rfl := harg1.eq_unread hfB; obtain rfl := harg2.eq_unread hfC
  rw [← word_at arg2 harg2 cnt (k0_off1_inb i) (here i) (fun _ => rfl) (Shape.Idx.first (numel1_S1.symm ▸ Nat.one_pos))] at h1 h2 h3
  rw [← word_at arg1 harg1 blk (k0_off1_inb i) (here i) (fun _ => rfl) (Shape.Idx.first (numel1_S1.symm ▸ Nat.one_pos)),
    ← word_at arg1 harg1 blk (k0_off2_inb i) (prior i) (fun _ => rfl) (Shape.Idx.first (numel1_S1.symm ▸ Nat.one_pos))] at h1
  sl_exec (disch := first | sl_exact h1 | sl_exact h2 | sl_exact h3)
  sl_step
  iapply Hk
  isplitl [HB]
  · iexists _; isplitr; · ipureintro; exact harg1.read_unread _
    iexact HB
  isplitl [HC]
  · iexists _; isplitr; · ipureintro; exact harg2.read_unread _
    iexact HC
  iexists _; isplitr
  swap; · iexact H4
  ipureintro; exact View.read_writes_full _ _ _ _ _

/-- One of the two planes of a block of rows. -/
def plane (k : Fin 2) (x : Vec F S2x1024x256 .bf16) : Vec F S1x1024x256 .bf16 :=
  fun j => x (ix3 k (j 1 : Fin 1024) (j 2 : Fin 256))
/-- The block of rows with the two given planes. -/
def planes (lo hi : Vec F S1x1024x256 .bf16) : Vec F S2x1024x256 .bf16 :=
  fun j => if (j 0).val = 0 then lo (ix3 (0 : Fin 1) (j 1 : Fin 1024) (j 2 : Fin 256)) else hi (ix3 (0 : Fin 1) (j 1 : Fin 1024) (j 2 : Fin 256))

/-- What the body writes for a block with rows: `n` of the rows `x` taken through the two layers with the weights `w`, `w'` and the
    biases `b`, `b'`. -/
def worked (n : BitVec 32) (x : Vec F S2x1024x256 .bf16) (w : Vec F S1024x2048 .bf16) (b : Vec F S1x1x2048 .f32)
    (w' : Vec F S1024x1024 .bf16) (b' : Vec F S1x1x1024 .f32) : Vec F S2x1024x256 .bf16 :=
  planes
    (k0_pay11 (k0_pay6 n (plane 0 x) (plane 1 x) w b) (k0_pay7 n (plane 0 x) (plane 1 x) w b) (Scalar.ofBits .f32 0xC0E00000#32)
      (Scalar.ofBits .f32 0x40E00000#32) w' b')
    (k0_pay3
      (k0_pay12 (k0_pay6 n (plane 0 x) (plane 1 x) w b) (k0_pay7 n (plane 0 x) (plane 1 x) w b) (Scalar.ofBits .f32 0xC0E00000#32)
        (Scalar.ofBits .f32 0x40E00000#32) w' b')
      (k0_pay13 (k0_pay6 n (plane 0 x) (plane 1 x) w b) (k0_pay7 n (plane 0 x) (plane 1 x) w b) (Scalar.ofBits .f32 0xC0E00000#32)
        (Scalar.ofBits .f32 0x40E00000#32) w' b'))

theorem worked_of {n n' : BitVec 32} {x : Vec F S2x1024x256 .bf16} {x0 x1 : Vec F S1x1024x256 .bf16} {w v : Vec F S1024x2048 .bf16}
    {b d : Vec F S1x1x2048 .f32} {w' v' : Vec F S1024x1024 .bf16} {b' d' : Vec F S1x1x1024 .f32}
    (hn : n = n') (h0 : x0 = plane 0 x) (h1 : x1 = plane 1 x) (hw : v = w) (hb : d = b) (hw' : v' = w') (hb' : d' = b') :
    planes
      (k0_pay11 (k0_pay6 n x0 x1 v d) (k0_pay7 n x0 x1 v d) (Scalar.ofBits .f32 0xC0E00000#32) (Scalar.ofBits .f32 0x40E00000#32) v' d')
      (k0_pay3
        (k0_pay12 (k0_pay6 n x0 x1 v d) (k0_pay7 n x0 x1 v d) (Scalar.ofBits .f32 0xC0E00000#32) (Scalar.ofBits .f32 0x40E00000#32) v' d')
        (k0_pay13 (k0_pay6 n x0 x1 v d) (k0_pay7 n x0 x1 v d) (Scalar.ofBits .f32 0xC0E00000#32) (Scalar.ofBits .f32 0x40E00000#32) v' d'))
      = worked n' x w b w' b' := by
  subst hn h0 h1 hw hb hw' hb'; rfl

theorem plane_zero (arg : Memref sig .tc .vmem S2x1024x256 .bf16) (harg : arg.IsWhole) (x : Vec F S2x1024x256 .bf16) :
    View.readAt (Elt F) arg.view (Rect.unit (s := S2x1024x256) ![0, 0, 0] S1x1024x256.size inb_S2x1024x256_S1x1024x256_0_0_0).toLoadRect (harg.unread x)
      = plane 0 x := by
  funext j
  show View.read (Elt F) arg.view (harg.unread x) ((Rect.unit (s := S2x1024x256) ![0, 0, 0] S1x1024x256.size inb_S2x1024x256_S1x1024x256_0_0_0).emb j) = _
  rw [harg.read_unread]
  refine congrArg x (funext fun a => Fin.ext ?_)
  have h0 : (j 0).val < 1 := (j 0).isLt
  match a with
  | ⟨0, _⟩ => show 0 + 1 * (j 0).val = 0; omega
  | ⟨1, _⟩ => show 0 + 1 * (j 1).val = (j 1).val; omega
  | ⟨2, _⟩ => show 0 + 1 * (j 2).val = (j 2).val; omega

theorem plane_one (arg : Memref sig .tc .vmem S2x1024x256 .bf16) (harg : arg.IsWhole) (x : Vec F S2x1024x256 .bf16) :
    View.readAt (Elt F) arg.view (Rect.unit (s := S2x1024x256) ![1, 0, 0] S1x1024x256.size inb_S2x1024x256_S1x1024x256_1_0_0).toLoadRect (harg.unread x)
      = plane 1 x := by
  funext j
  show View.read (Elt F) arg.view (harg.unread x) ((Rect.unit (s := S2x1024x256) ![1, 0, 0] S1x1024x256.size inb_S2x1024x256_S1x1024x256_1_0_0).emb j) = _
  rw [harg.read_unread]
  refine congrArg x (funext fun a => Fin.ext ?_)
  have h0 : (j 0).val < 1 := (j 0).isLt
  match a with
  | ⟨0, _⟩ => show 1 + 1 * (j 0).val = 1; omega
  | ⟨1, _⟩ => show 0 + 1 * (j 1).val = (j 1).val; omega
  | ⟨2, _⟩ => show 0 + 1 * (j 2).val = (j 2).val; omega

/-- A buffer written in its two planes holds the two. -/
theorem read_planes (arg : Memref sig .tc .vmem S2x1024x256 .bf16) (f : arg.view.ty.Contents (Elt F)) (lo hi : Vec F S1x1024x256 .bf16) :
    View.read (Elt F) arg.view (arg.view.writes (Elt F) f
      [⟨Rect.unit (s := S2x1024x256) ![1, 0, 0] S1x1024x256.size inb_S2x1024x256_S1x1024x256_1_0_0, hi⟩,
       ⟨Rect.unit (s := S2x1024x256) ![0, 0, 0] S1x1024x256.size inb_S2x1024x256_S1x1024x256_0_0_0, lo⟩]) = planes lo hi := by
  funext j
  have h0 : (j 0).val < 2 := (j 0).isLt
  unfold planes
  by_cases h : (j 0).val = 0
  · rw [if_pos h]
    refine (View.read_writes_cons_unit_of_not_mem _ _ _ _ _ j rfl 0 (Or.inl (by show (j 0).val < 1; omega))).trans ?_
    refine View.read_writes_cons_unit_of_mem _ _ _ _ _ j (ix3 (0 : Fin 1) (j 1 : Fin 1024) (j 2 : Fin 256)) rfl fun a => ?_
    match a with
    | ⟨0, _⟩ => show (j 0).val = 0 + 0; omega
    | ⟨1, _⟩ => show (j 1).val = 0 + (j 1).val; omega
    | ⟨2, _⟩ => show (j 2).val = 0 + (j 2).val; omega
  · rw [if_neg h]
    refine View.read_writes_cons_unit_of_mem _ _ _ _ _ j (ix3 (0 : Fin 1) (j 1 : Fin 1024) (j 2 : Fin 256)) rfl fun a => ?_
    match a with
    | ⟨0, _⟩ => show (j 0).val = 1 + 0; omega
    | ⟨1, _⟩ => show (j 1).val = 0 + (j 1).val; omega
    | ⟨2, _⟩ => show (j 2).val = 0 + (j 2).val; omega

set_option maxHeartbeats 2000000 in
/-- A block with rows whose weights are in the scratch buffers. -/
theorem body_ready (p : PosShare TreeShare) (blk cnt : Vec F S288 .i32)
    (h1 : ¬loads i (cnt (here i)) (blk (here i)) (blk (prior i)) = 1#1)
    (h2 : k0_cond2 (cnt (here i)) = 1#1) (h3 : ¬k0_cond3 (cnt (here i)) = 1#1)
    (x : Vec F S2x1024x256 .bf16) (b : Vec F S1x1x2048 .f32) (b' : Vec F S1x1x1024 .f32)
    (w : Vec F S1024x2048 .bf16) (w' : Vec F S1024x1024 .bf16)
    (E : Set ℕ) (K : PUnit → sProp 𝕄) :
    iprop(owns (c : Thread nD τ) arg1 p blk ∗ owns (c : Thread nD τ) arg2 p cnt
        ∗ owns (c : Thread nD τ) arg4 fullShare x ∗ owns (c : Thread nD τ) arg6 fullShare b ∗ owns (c : Thread nD τ) arg8 fullShare b'
        ∗ (∃ d, owns (c : Thread nD τ) arg9 fullShare d)
        ∗ owns (c : Thread nD τ) arg10 fullShare w ∗ owns (c : Thread nD τ) arg11 fullShare w'
        ∗ (iprop(owns (c : Thread nD τ) arg1 p blk ∗ owns (c : Thread nD τ) arg2 p cnt
            ∗ owns (c : Thread nD τ) arg4 fullShare x ∗ owns (c : Thread nD τ) arg6 fullShare b ∗ owns (c : Thread nD τ) arg8 fullShare b'
            ∗ owns (c : Thread nD τ) arg9 fullShare (worked (cnt (here i)) x w b w' b')
            ∗ owns (c : Thread nD τ) arg10 fullShare w ∗ owns (c : Thread nD τ) arg11 fullShare w') -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10 arg11 harg11) K := by
  have n0 := word_at arg2 harg2 cnt (k0_off1_inb i) (here i) (fun _ => rfl) (Shape.Idx.first (numel1_S1.symm ▸ Nat.one_pos))
  simp only [cc0_moe_experts_eq_skeleton, k0_part1_eq_skeleton, k0_part2_eq_skeleton]
  unfold cc0_moe_experts_skel
  simp only [k0_part1_eq_skeleton, k0_part2_eq_skeleton]
  unfold k0_part1_skel k0_part2_skel
  unfold owns
  iintro ⟨⟨%fB, %hfB, HB⟩, ⟨%fC, %hfC, HC⟩, ⟨%f0, %hf0, H0⟩, ⟨%f2, %hf2, H2⟩, ⟨%f4, %hf4, H4⟩, ⟨%d5, %f5, -, H5⟩, ⟨%g0, %hg0, HS0⟩, ⟨%g1, %hg1, HS1⟩, Hk⟩
  obtain rfl := harg1.eq_unread hfB; obtain rfl := harg2.eq_unread hfC
  obtain rfl := harg4.eq_unread hf0; obtain rfl := harg6.eq_unread hf2; obtain rfl := harg8.eq_unread hf4
  obtain rfl := harg10.eq_unread hg0; obtain rfl := harg11.eq_unread hg1
  rw [← n0] at h1 h2 h3
  rw [← word_at arg1 harg1 blk (k0_off1_inb i) (here i) (fun _ => rfl) (Shape.Idx.first (numel1_S1.symm ▸ Nat.one_pos)),
    ← word_at arg1 harg1 blk (k0_off2_inb i) (prior i) (fun _ => rfl) (Shape.Idx.first (numel1_S1.symm ▸ Nat.one_pos))] at h1
  sl_exec (disch := first | sl_exact h1 | sl_exact h2 | sl_exact h3)
  sl_step
  iapply Hk
  isplitl [HB]
  · iexists _; isplitr; · ipureintro; exact harg1.read_unread _
    iexact HB
  isplitl [HC]
  · iexists _; isplitr; · ipureintro; exact harg2.read_unread _
    iexact HC
  isplitl [H0]
  · iexists _; isplitr; · ipureintro; exact harg4.read_unread _
    iexact H0
  isplitl [H2]
  · iexists _; isplitr; · ipureintro; exact harg6.read_unread _
    iexact H2
  isplitl [H4]
  · iexists _; isplitr; · ipureintro; exact harg8.read_unread _
    iexact H4
  isplitl [H5]
  · iexists _; isplitr
    swap; · iexact H5
    ipureintro
    refine (read_planes arg9 _ _ _).trans ?_
    exact worked_of n0 (plane_zero arg4 harg4 x) (plane_one arg4 harg4 x) ((View.readAt_full _ _ _).trans (harg10.read_unread _))
      ((View.readAt_full _ _ _).trans (harg6.read_unread _)) ((View.readAt_full _ _ _).trans (harg11.read_unread _))
      ((View.readAt_full _ _ _).trans (harg8.read_unread _))
  isplitl [HS0]
  · iexists _; isplitr; · ipureintro; exact harg10.read_unread _
    iexact HS0
  iexists _; isplitr; · ipureintro; exact harg11.read_unread _
  iexact HS1

set_option maxHeartbeats 2000000 in
/-- A block with rows whose weights are first brought into the scratch buffers. -/
theorem body_load (p : PosShare TreeShare) (blk cnt : Vec F S288 .i32)
    (h1 : loads i (cnt (here i)) (blk (here i)) (blk (prior i)) = 1#1)
    (h2 : k0_cond2 (cnt (here i)) = 1#1) (h3 : ¬k0_cond3 (cnt (here i)) = 1#1)
    (x : Vec F S2x1024x256 .bf16) (W : Vec F S1x1024x2048 .f32) (b : Vec F S1x1x2048 .f32) (W' : Vec F S1x1024x1024 .f32) (b' : Vec F S1x1x1024 .f32)
    (E : Set ℕ) (K : PUnit → sProp 𝕄) :
    iprop(owns (c : Thread nD τ) arg1 p blk ∗ owns (c : Thread nD τ) arg2 p cnt
        ∗ owns (c : Thread nD τ) arg4 fullShare x ∗ owns (c : Thread nD τ) arg5 fullShare W ∗ owns (c : Thread nD τ) arg6 fullShare b
        ∗ owns (c : Thread nD τ) arg7 fullShare W' ∗ owns (c : Thread nD τ) arg8 fullShare b'
        ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 p blk ∗ owns (c : Thread nD τ) arg2 p cnt
            ∗ owns (c : Thread nD τ) arg4 fullShare x ∗ owns (c : Thread nD τ) arg5 fullShare W ∗ owns (c : Thread nD τ) arg6 fullShare b
            ∗ owns (c : Thread nD τ) arg7 fullShare W' ∗ owns (c : Thread nD τ) arg8 fullShare b'
            ∗ owns (c : Thread nD τ) arg9 fullShare (worked (cnt (here i)) x (k0_pay1 W) b (k0_pay2 W') b')
            ∗ owns (c : Thread nD τ) arg10 fullShare (k0_pay1 W) ∗ owns (c : Thread nD τ) arg11 fullShare (k0_pay2 W')) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10 arg11 harg11) K := by
  have n0 := word_at arg2 harg2 cnt (k0_off1_inb i) (here i) (fun _ => rfl) (Shape.Idx.first (numel1_S1.symm ▸ Nat.one_pos))
  simp only [cc0_moe_experts_eq_skeleton]
  unfold cc0_moe_experts_skel
  simp only [k0_part1_eq_skeleton, k0_part2_eq_skeleton]
  unfold k0_part1_skel k0_part2_skel
  unfold owns
  iintro ⟨⟨%fB, %hfB, HB⟩, ⟨%fC, %hfC, HC⟩, ⟨%f0, %hf0, H0⟩, ⟨%f1, %hf1, H1⟩, ⟨%f2, %hf2, H2⟩, ⟨%f3, %hf3, H3⟩, ⟨%f4, %hf4, H4⟩, ⟨%d5, %f5, -, H5⟩, ⟨%e0, %g0, -, HS0⟩, ⟨%e1, %g1, -, HS1⟩, Hk⟩
  obtain rfl := harg1.eq_unread hfB; obtain rfl := harg2.eq_unread hfC
  obtain rfl := harg4.eq_unread hf0; obtain rfl := harg5.eq_unread hf1; obtain rfl := harg6.eq_unread hf2
  obtain rfl := harg7.eq_unread hf3; obtain rfl := harg8.eq_unread hf4
  rw [← n0] at h1 h2 h3
  rw [← word_at arg1 harg1 blk (k0_off1_inb i) (here i) (fun _ => rfl) (Shape.Idx.first (numel1_S1.symm ▸ Nat.one_pos)),
    ← word_at arg1 harg1 blk (k0_off2_inb i) (prior i) (fun _ => rfl) (Shape.Idx.first (numel1_S1.symm ▸ Nat.one_pos))] at h1
  sl_exec (disch := first | sl_exact h1 | sl_exact h2 | sl_exact h3)
  have pay1 : k0_pay1 (View.readAt (Elt F) arg5.view (Rect.unit ![0, 0, 0] S1x1024x2048.size inb_S1x1024x2048_S1x1024x2048_0_0_0).toLoadRect (harg5.unread W)) = k0_pay1 W := by
    rw [View.readAt_full, harg5.read_unread]
  have pay2 : k0_pay2 (View.readAt (Elt F) arg7.view (Rect.unit ![0, 0, 0] S1x1024x1024.size inb_S1x1024x1024_S1x1024x1024_0_0_0).toLoadRect (harg7.unread W')) = k0_pay2 W' := by
    rw [View.readAt_full, harg7.read_unread]
  sl_step
  iapply Hk
  isplitl [HB]
  · iexists _; isplitr; · ipureintro; exact harg1.read_unread _
    iexact HB
  isplitl [HC]
  · iexists _; isplitr; · ipureintro; exact harg2.read_unread _
    iexact HC
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro
    refine (read_planes arg9 _ _ _).trans ?_
    exact worked_of n0 (plane_zero arg4 harg4 x) (plane_one arg4 harg4 x) ((View.readCov_full _ _ _ _ _).trans pay1)
      ((View.readAt_full _ _ _).trans (harg6.read_unread _)) ((View.readCov_full _ _ _ _ _).trans pay2)
      ((View.readAt_full _ _ _).trans (harg8.read_unread _))
  isplitl [HS0]
  · iexists _; isplitr
    swap; · iexact HS0
    ipureintro; exact (View.read_writes_full _ _ _ _ _).trans pay1
  iexists _; isplitr
  swap; · iexact HS1
  ipureintro; exact (View.read_writes_full _ _ _ _ _).trans pay2

end Cert.Proof.Expert

end
-- ==== Proof.Entry.lean ====
/-
  The experts' call up to its region: the contents of every buffer once the host has prepared the tables and the biases, and
  that the arguments are still as launched then.
-/
module

public import proofs.«01_k».proof.Proof.Gen.Kernel3Ideal.Launch
public import Idealize.ShloMosaic.Lib.Pipeline.FrameBody
public import Idealize.ShloMosaic.Lib.Ring
public import Idealize.ShloMosaic.Lib.Tactic

@[expose] public section

set_option maxRecDepth 16384

noncomputable section

namespace Cert.Proof.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (m : (ℓ : Loc nD τ sig) → Buf (Elt F) ℓ)

/-- The host's operations before the region, stretch by stretch. -/
abbrev stretches : List (List (HloOp τ sig (Elt F))) :=
  [hostOps0, hostOps0_1, hostOps0_2, hostOps0_3, hostOps0_4, hostOps0_5, hostOps0_6, hostOps0_7, hostOps0_8]

/-- What core `c`'s buffers hold when the region is entered. -/
abbrev V (c : Dev nD) (b : Ref sig .tc) : Buf (Elt F) ((c : Thread nD τ).loc b) := StableHlo.after stretches.flatten (fun b => m (c, b)) b

theorem stretches_sub : (stretches : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

theorem stretches_fresh : (stretches : List (List (HloOp τ sig (Elt F)))).Forall fun ops => ops.Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [stretches, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

theorem V_arg5 (c : Dev nD) : V m c main_arg5 = m ((c : Thread nD τ).loc main_arg5) :=
  StableHlo.after_of_forall_not_mem (b := Proc.devRef .tc main_arg5) _ _ (List.forall_iff_forall_mem.mp (by
    simp only [stretches, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

end Cert.Proof.Expert

end
-- ==== Proof.Rounds.lean ====
/-
  The experts' call point by point: what each buffer holds before and after every block of rows, the body's obligation from its
  three cases, and the run of the whole call, for tables of which two things are known: no entry counts fewer than no rows, and
  a block that has rows and shares its expert with the block before it has that block's rows before its own.
-/
module

public import proofs.«01_k».proof.Proof.Expert
public import proofs.«01_k».proof.Proof.Entry

@[expose] public section

set_option maxRecDepth 16384

noncomputable section

namespace Cert.Proof.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-! ## The tables -/

/-- Each block's expert. -/
abbrev blkT : Vec F S288 .i32 := a.1 0
/-- Each block's number of rows. -/
abbrev cntT : Vec F S288 .i32 := a.1 1
/-- The number of blocks in use. -/
abbrev useT : Vec F S1 .i32 := a.1 2

/-- The block has rows. -/
abbrev live (t : Fin grid0.N) : Prop := k0_cond2 (cntT a (here (grid0.coords t))) = 1#1

/-- The point before. -/
abbrev back (t : Fin grid0.N) : Fin grid0.N := ⟨t.val - 1, lt_of_le_of_lt (Nat.sub_le _ _) t.isLt⟩

/-- What the call needs of the tables. -/
structure Good : Prop where
  rows : ∀ t : Fin grid0.N, ¬live a t → k0_cond3 (cntT a (here (grid0.coords t))) = 1#1
  chain : ∀ t : Fin grid0.N, t.val ≠ 0 → live a t → blkT a (here (grid0.coords t)) = blkT a (here (grid0.coords (back t))) → live a (back t)

theorem here_val : ∀ t : Fin grid0.N, (here (grid0.coords t) 0).val = t.val := by decide +kernel
theorem prior_val : ∀ t : Fin grid0.N, t.val ≠ 0 → (prior (grid0.coords t) 0).val = t.val - 1 := by decide +kernel
theorem coord_val : ∀ t : Fin grid0.N, ((grid0.coords t) 0).val = t.val := by decide +kernel

theorem idx_ext {i j : S288.Idx} (h : (i 0).val = (j 0).val) : i = j :=
  funext fun x => Fin.ext (match x with | ⟨0, _⟩ => h)

theorem prior_eq (t : Fin grid0.N) (h : t.val ≠ 0) : prior (grid0.coords t) = here (grid0.coords (back t)) :=
  idx_ext ((prior_val t h).trans (here_val (back t)).symm)

theorem wide_bit (b : Bool) : Scalar.cmpi .ne (Scalar.extui (BitVec.ofBool b) : BitVec 32) 0#32 = 1#1 ↔ b = true := by cases b <;> decide

theorem cond2_iff (n : BitVec 32) : k0_cond2 n = 1#1 ↔ (0#32).slt n = true := wide_bit _
theorem cond3_iff (n : BitVec 32) : k0_cond3 n = 1#1 ↔ (n == 0#32) = true := wide_bit _

theorem cond3_of_cond2 {n : BitVec 32} (h : k0_cond2 n = 1#1) : ¬k0_cond3 n = 1#1 := by
  intro h3
  have e : n = 0#32 := by simpa using (cond3_iff n).mp h3
  subst e
  revert h; decide

theorem three_bits (b b' b'' : Bool) :
    Scalar.cmpi .ne (Scalar.extui (Scalar.andi (BitVec.ofBool b) (Scalar.ori (BitVec.ofBool b') (BitVec.ofBool b''))) : BitVec 32) 0#32 = 1#1
      ↔ (b && (b' || b'')) = true := by cases b <;> cases b' <;> cases b'' <;> decide

theorem loads_iff (i : grid0.Coords) (n e e' : BitVec 32) :
    loads i n e e' = 1#1 ↔ k0_cond2 n = 1#1 ∧ ((i 0).val = 0 ∨ ¬e = e') := by
  rw [cond2_iff]
  refine (three_bits ((0#32).slt n) (BitVec.ofNat 32 (i 0).val == 0#32) (e != e')).trans ?_
  rw [Bool.and_eq_true, Bool.or_eq_true, beq_iff_eq, bne_iff_ne]
  have hi : (i 0).val < 288 := (i 0).isLt
  refine and_congr_right fun _ => or_congr ⟨fun h => ?_, fun h => by rw [h]⟩ Iff.rfl
  have := congrArg BitVec.toNat h
  rw [BitVec.toNat_ofNat, Nat.mod_eq_of_lt (by omega)] at this
  exact this

/-! ## Contents, point by point -/

/-- The block of window `w` at point `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

theorem transform_1 (pf : pre0.Contents (Elt F)) (i : grid0.Coords) :
    cc0_transform_1 k0_off1_inb numel1_S1 pf i = ![(pf 0 (here i) : BitVec 32).toNat, 0, 0] := by
  unfold cc0_transform_1
  refine congrArg (fun v : BitVec 32 => (![v.toNat, 0, 0] : Fin 3 → Nat)) (congrArg (pf 0) (idx_ext ?_))
  rfl
theorem transform_3 (pf : pre0.Contents (Elt F)) (i : grid0.Coords) :
    cc0_transform_3 k0_off1_inb numel1_S1 pf i = ![(pf 0 (here i) : BitVec 32).toNat, 0, 0] := by
  unfold cc0_transform_3
  refine congrArg (fun v : BitVec 32 => (![v.toNat, 0, 0] : Fin 3 → Nat)) (congrArg (pf 0) (idx_ext ?_))
  rfl

/-- The weights of the two layers a block asks for, as the body keeps them. -/
def firstAt (c : Dev nD) (t : Fin (cfg0 a).N) : Vec F S1024x2048 .bf16 := k0_pay1 (iblk m a c 1 t)
def secondAt (c : Dev nD) (t : Fin (cfg0 a).N) : Vec F S1024x1024 .bf16 := k0_pay2 (iblk m a c 3 t)

theorem block_same_1 (g : Vec F S32x1024x2048 .f32) (t t' : Fin (cfg0 a).N) (h : blkT a (here (grid0.coords t)) = blkT a (here (grid0.coords t'))) :
    ((((cfg0 a).win 1).blk t).view.read (Elt F) g : Vec F S1x1024x2048 .f32) = (((cfg0 a).win 1).blk t').view.read (Elt F) g := by
  have e : cc0_transform_1 k0_off1_inb numel1_S1 a.1 (grid0.coords t) = cc0_transform_1 k0_off1_inb numel1_S1 a.1 (grid0.coords t') := by
    rw [transform_1, transform_1]
    exact congrArg (fun v : BitVec 32 => (![v.toNat, 0, 0] : Fin 3 → Nat)) h
  funext y
  refine congrArg g (funext fun x => Fin.ext ?_)
  exact congrArg (fun k : Fin 3 → Nat => k x * S1x1024x2048.size x + 1 * (y x).val) e
theorem firstAt_same (c : Dev nD) (t t' : Fin (cfg0 a).N) (h : blkT a (here (grid0.coords t)) = blkT a (here (grid0.coords t'))) :
    firstAt m a c t = firstAt m a c t' :=
  congrArg (k0_pay1 (F := F)) (block_same_1 a (V m c main_arg2) t t' h)
theorem block_same_3 (g : Vec F S32x1024x1024 .f32) (t t' : Fin (cfg0 a).N) (h : blkT a (here (grid0.coords t)) = blkT a (here (grid0.coords t'))) :
    ((((cfg0 a).win 3).blk t).view.read (Elt F) g : Vec F S1x1024x1024 .f32) = (((cfg0 a).win 3).blk t').view.read (Elt F) g := by
  have e : cc0_transform_3 k0_off1_inb numel1_S1 a.1 (grid0.coords t) = cc0_transform_3 k0_off1_inb numel1_S1 a.1 (grid0.coords t') := by
    rw [transform_3, transform_3]
    exact congrArg (fun v : BitVec 32 => (![v.toNat, 0, 0] : Fin 3 → Nat)) h
  funext y
  refine congrArg g (funext fun x => Fin.ext ?_)
  exact congrArg (fun k : Fin 3 → Nat => k x * S1x1024x1024.size x + 1 * (y x).val) e
theorem secondAt_same (c : Dev nD) (t t' : Fin (cfg0 a).N) (h : blkT a (here (grid0.coords t)) = blkT a (here (grid0.coords t'))) :
    secondAt m a c t = secondAt m a c t' :=
  congrArg (k0_pay2 (F := F)) (block_same_3 a (V m c main_arg4) t t' h)

open Classical in
/-- What the body leaves in the output's buffer. -/
def outAt (c : Dev nD) (t : Fin (cfg0 a).N) : Vec F S2x1024x256 .bf16 :=
  if live a t then worked (cntT a (here (grid0.coords t))) (iblk m a c 0 t) (firstAt m a c t) (iblk m a c 2 t) (secondAt m a c t) (iblk m a c 4 t)
  else k0_pay4

/-- The two scratch buffers. -/
abbrev scr1 : Memref sig .tc .vmem S1024x2048 .bf16 := Memref.whole cc0_scratch0
abbrev scr2 : Memref sig .tc .vmem S1024x1024 .bf16 := Memref.whole cc0_scratch1

/-- The tables' shares the body reads. -/
def tables (c : Dev nD) : sProp 𝕄 :=
  iprop(owns (c : Thread nD τ) (Memref.whole main_v20 : Memref sig .tc .smem S288 .i32) fullShare.right (blkT a)
    ∗ owns (c : Thread nD τ) (Memref.whole main_v37 : Memref sig .tc .smem S288 .i32) fullShare.right (cntT a)
    ∗ owns (c : Thread nD τ) (Memref.whole main_v39 : Memref sig .tc .smem S1 .i32) fullShare.right (useT a))

/-- Before point `n`: the tables; and, if the point before it had rows, the weights of its expert. -/
def inv (c : Dev nD) (n : ℕ) : sProp 𝕄 :=
  iprop(tables a c ∗ (∃ w w', owns (c : Thread nD τ) scr1 fullShare w ∗ owns (c : Thread nD τ) scr2 fullShare w'
      ∗ ⌜∀ t : Fin (cfg0 a).N, t.val + 1 = n → live a t → w = firstAt m a c t ∧ w' = secondAt m a c t⌝)
    ∗ (∃ r, prngReg c r))

theorem tables_eq (c : Dev nD) : (Pipeline.ΦT pre0 a.1 c : sProp 𝕄) = tables a c := by
  unfold Pipeline.ΦT Pipeline.prefHeld tables
  simp only [owns_whole]
  exact bigSep_univ_eq_bigSepL [(0 : Fin 3), (1 : Fin 3), (2 : Fin 3)] (by decide) (by decide) _

theorem any_eq (c : Dev nD) :
    (Pipeline.ΦA spec0 c : sProp 𝕄) = iprop(((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

/-- The proof data of the call on core `c`. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outAt m a c t
  Φ t := inv m a c t.val
  q _ := fullShare
  owed _ := 0

theorem A_eq (c : Dev nD) (w : Fin (cfg0 a).W) : (dats m a 0 c).A w = V m c (Pipeline.arrRef spec0 w) := by dsimp only [dats]

theorem after_0 (c : Dev nD) (t : Fin (cfg0 a).N) : (dats m a 0 c).after 0 t = iblk m a c 0 t := by dsimp only [dats]; rfl
theorem after_1 (c : Dev nD) (t : Fin (cfg0 a).N) : (dats m a 0 c).after 1 t = iblk m a c 1 t := by dsimp only [dats]; rfl
theorem after_2 (c : Dev nD) (t : Fin (cfg0 a).N) : (dats m a 0 c).after 2 t = iblk m a c 2 t := by dsimp only [dats]; rfl
theorem after_3 (c : Dev nD) (t : Fin (cfg0 a).N) : (dats m a 0 c).after 3 t = iblk m a c 3 t := by dsimp only [dats]; rfl
theorem after_4 (c : Dev nD) (t : Fin (cfg0 a).N) : (dats m a 0 c).after 4 t = iblk m a c 4 t := by dsimp only [dats]; rfl
theorem after_5 (c : Dev nD) (t : Fin (cfg0 a).N) : (dats m a 0 c).after 5 t = outAt m a c t := by dsimp only [dats]; rfl

theorem before_0 (c : Dev nD) (t : Fin (cfg0 a).N) (d) : (dats m a 0 c).before 0 t d = iblk m a c 0 t :=
  ((dats m a 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dats m a 0 c).before 1 t d = iblk m a c 1 t :=
  ((dats m a 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 a).N) (d) : (dats m a 0 c).before 2 t d = iblk m a c 2 t :=
  ((dats m a 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 a).N) (d) : (dats m a 0 c).before 3 t d = iblk m a c 3 t :=
  ((dats m a 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 a).N) (d) : (dats m a 0 c).before 4 t d = iblk m a c 4 t :=
  ((dats m a 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body's obligation -/

/-- Each window's current buffer. -/
abbrev st0 (t : Fin (cfg0 a).N) : Memref sig .tc .vmem S2x1024x256 .bf16 := spec0_0.stage ((cfg0 a).slots t 0)
abbrev st1 (t : Fin (cfg0 a).N) : Memref sig .tc .vmem S1x1024x2048 .f32 := spec0_1.stage ((cfg0 a).slots t 1)
abbrev st2 (t : Fin (cfg0 a).N) : Memref sig .tc .vmem S1x1x2048 .f32 := spec0_2.stage ((cfg0 a).slots t 2)
abbrev st3 (t : Fin (cfg0 a).N) : Memref sig .tc .vmem S1x1024x1024 .f32 := spec0_3.stage ((cfg0 a).slots t 3)
abbrev st4 (t : Fin (cfg0 a).N) : Memref sig .tc .vmem S1x1x1024 .f32 := spec0_4.stage ((cfg0 a).slots t 4)
abbrev st5 (t : Fin (cfg0 a).N) : Memref sig .tc .vmem S2x1024x256 .bf16 := spec0_5.stage ((cfg0 a).slots t 5)

def bodyAt (t : Fin (cfg0 a).N) : Prog (TpuEff nD τ sig (Elt F) Λ₀ .tc) PUnit :=
  cc0_moe_experts (grid0.coords t) (Memref.whole main_v20) (Memref.isWhole_whole _) (Memref.whole main_v37) (Memref.isWhole_whole _)
    (Memref.whole main_v39) (Memref.isWhole_whole _)
    (st0 a t) (hstage0_0 (((cfg0 a).slots t 0).cast nbuf0_0)) (st1 a t) (hstage0_1 (((cfg0 a).slots t 1).cast nbuf0_1))
    (st2 a t) (hstage0_2 (((cfg0 a).slots t 2).cast nbuf0_2)) (st3 a t) (hstage0_3 (((cfg0 a).slots t 3).cast nbuf0_3))
    (st4 a t) (hstage0_4 (((cfg0 a).slots t 4).cast nbuf0_4)) (st5 a t) (hstage0_5 (((cfg0 a).slots t 5).cast nbuf0_5))
    scr1 (Memref.isWhole_whole _) scr2 (Memref.isWhole_whole _)

theorem row_eq (t : Fin (cfg0 a).N) : defs₀ (F := F) .tc (cfg0 a).body ((cfg0 a).bodyArgs t ((cfg0 a).slots t)) = bodyAt a t := by
  unfold defs₀; rw [Defs.onTc_tc]; rfl

def pre (c : Dev nD) (t : Fin (cfg0 a).N) : sProp 𝕄 :=
  iprop((dats m a 0 c).Φ t.castSucc ∗ (dats m a 0 c).owesAt () t.castSucc
    ∗ (∃ d, owns (c : Thread nD τ) (st0 a t) fullShare ((dats m a 0 c).before 0 t d))
    ∗ (∃ d, owns (c : Thread nD τ) (st1 a t) fullShare ((dats m a 0 c).before 1 t d))
    ∗ (∃ d, owns (c : Thread nD τ) (st2 a t) fullShare ((dats m a 0 c).before 2 t d))
    ∗ (∃ d, owns (c : Thread nD τ) (st3 a t) fullShare ((dats m a 0 c).before 3 t d))
    ∗ (∃ d, owns (c : Thread nD τ) (st4 a t) fullShare ((dats m a 0 c).before 4 t d))
    ∗ (∃ d, owns (c : Thread nD τ) (st5 a t) fullShare ((dats m a 0 c).before 5 t d)))

def post (c : Dev nD) (t : Fin (cfg0 a).N) : sProp 𝕄 :=
  iprop((dats m a 0 c).Φ t.succ ∗ (dats m a 0 c).owesAt () t.succ
    ∗ owns (c : Thread nD τ) (st0 a t) fullShare ((dats m a 0 c).after 0 t)
    ∗ owns (c : Thread nD τ) (st1 a t) fullShare ((dats m a 0 c).after 1 t)
    ∗ owns (c : Thread nD τ) (st2 a t) fullShare ((dats m a 0 c).after 2 t)
    ∗ owns (c : Thread nD τ) (st3 a t) fullShare ((dats m a 0 c).after 3 t)
    ∗ owns (c : Thread nD τ) (st4 a t) fullShare ((dats m a 0 c).after 4 t)
    ∗ owns (c : Thread nD τ) (st5 a t) fullShare ((dats m a 0 c).after 5 t))

/-- What the body leaves of the output's buffer, as the loop asks for it. -/
def leaves5 (c : Dev nD) (t : Fin (cfg0 a).N) : sProp 𝕄 :=
  match (cfg0 a).idle 5 ((cfg0 a).grid.coords t) with
  | true =>
    match ((cfg0 a).win 5).flush t with
    | false => iprop(∃ d, owns (c : Thread nD τ) (st5 a t) fullShare ((dats m a 0 c).before 5 t d))
    | true => owns (c : Thread nD τ) (st5 a t) fullShare ((dats m a 0 c).after 5 t)
  | false => owns (c : Thread nD τ) (st5 a t) fullShare ((dats m a 0 c).after 5 t)

def posted (c : Dev nD) (t : Fin (cfg0 a).N) : sProp 𝕄 :=
  iprop((dats m a 0 c).Φ t.succ ∗ (dats m a 0 c).owesAt () t.succ
    ∗ owns (c : Thread nD τ) (st0 a t) fullShare ((dats m a 0 c).after 0 t)
    ∗ owns (c : Thread nD τ) (st1 a t) fullShare ((dats m a 0 c).after 1 t)
    ∗ owns (c : Thread nD τ) (st2 a t) fullShare ((dats m a 0 c).after 2 t)
    ∗ owns (c : Thread nD τ) (st3 a t) fullShare ((dats m a 0 c).after 3 t)
    ∗ owns (c : Thread nD τ) (st4 a t) fullShare ((dats m a 0 c).after 4 t)
    ∗ leaves5 m a c t)

theorem only (t s : Fin (cfg0 a).N) (h : s.val + 1 = t.val + 1) : s = t := Fin.ext (by omega)

set_option maxHeartbeats 3200000 in
theorem sound_body (hg : Good a) (c : Dev nD) (t : Fin (cfg0 a).N) :
    pre m a c t ⊢ wp frame (wpE (defs₀ (F := F)) Variants.none c none) Set.univ (bodyAt a t) (fun _ => post m a c t) := by
  unfold pre post bodyAt
  simp only [before_0, before_1, before_2, before_3, before_4]
  rw [show (dats m a 0 c).owesAt () t.succ = (dats m a 0 c).owesAt () t.castSucc from rfl, after_0, after_1, after_2, after_3, after_4, after_5,
    show (dats m a 0 c).Φ t.succ = inv m a c (t.val + 1) from rfl, show (dats m a 0 c).Φ t.castSucc = inv m a c t.val from rfl]
  unfold inv tables
  by_cases hl : live a t
  · have h3 : ¬k0_cond3 (cntT a (here (grid0.coords t))) = 1#1 := cond3_of_cond2 hl
    have ho : outAt m a c t = worked (cntT a (here (grid0.coords t))) (iblk m a c 0 t) (firstAt m a c t) (iblk m a c 2 t) (secondAt m a c t) (iblk m a c 4 t) :=
      if_pos hl
    rw [ho]
    by_cases hk : loads (grid0.coords t) (cntT a (here (grid0.coords t))) (blkT a (here (grid0.coords t))) (blkT a (prior (grid0.coords t))) = 1#1
    · iintro ⟨⟨⟨HB, HC, HU⟩, ⟨%w, %w', HS, HT, -⟩, Hg⟩, Ho, ⟨%d0, H0⟩, ⟨%d1, H1⟩, ⟨%d2, H2⟩, ⟨%d3, H3⟩, ⟨%d4, H4⟩, ⟨%d5, H5⟩⟩
      iapply (body_load c (grid0.coords t) _ _ _ _ _ _ _ _ _ _ _ _ _ _ _ _ _ _ _ _ _ _ fullShare.right (blkT a) (cntT a) hk hl h3
        (iblk m a c 0 t) (iblk m a c 1 t) (iblk m a c 2 t) (iblk m a c 3 t) (iblk m a c 4 t) Set.univ _)
      isplitl [HB]; · iexact HB
      isplitl [HC]; · iexact HC
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      isplitl [HT]; · iexists _; iexact HT
      iintro ⟨HB, HC, H0, H1, H2, H3, H4, H5, HS, HT⟩
      isplitl [HB HC HU HS HT Hg]
      · isplitl [HB HC HU]
        · isplitl [HB]; · iexact HB
          isplitl [HC]; · iexact HC
          iexact HU
        isplitl [HS HT]
        · iexists _, _
          isplitl [HS]; · iexact HS
          isplitl [HT]; · iexact HT
          ipureintro
          intro s hs _
          rw [only a t s hs]
          exact ⟨rfl, rfl⟩
        iexact Hg
      isplitl [Ho]; · iexact Ho
      isplitl [H0]; · iexact H0
      isplitl [H1]; · iexact H1
      isplitl [H2]; · iexact H2
      isplitl [H3]; · iexact H3
      isplitl [H4]; · iexact H4
      iexact H5
    · have h0 : t.val ≠ 0 := fun h => hk ((loads_iff _ _ _ _).mpr ⟨hl, .inl ((coord_val t).trans h)⟩)
      have he : blkT a (here (grid0.coords t)) = blkT a (here (grid0.coords (back t))) := by
        by_contra hne
        exact hk ((loads_iff _ _ _ _).mpr ⟨hl, .inr (by rw [prior_eq t h0]; exact hne)⟩)
      have hb := hg.chain t h0 hl he
      iintro ⟨⟨⟨HB, HC, HU⟩, ⟨%w, %w', HS, HT, %hw⟩, Hg⟩, Ho, ⟨%d0, H0⟩, ⟨%d1, H1⟩, ⟨%d2, H2⟩, ⟨%d3, H3⟩, ⟨%d4, H4⟩, ⟨%d5, H5⟩⟩
      obtain ⟨e1, e2⟩ := hw (back t) (by show t.val - 1 + 1 = t.val; omega) hb
      have e1' : w = firstAt m a c t := e1.trans (firstAt_same m a c (back t) t he.symm)
      have e2' : w' = secondAt m a c t := e2.trans (secondAt_same m a c (back t) t he.symm)
      subst e1' e2'
      iapply (body_ready c (grid0.coords t) _ _ _ _ _ _ _ _ _ _ _ _ _ _ _ _ _ _ _ _ _ _ fullShare.right (blkT a) (cntT a) hk hl h3
        (iblk m a c 0 t) (iblk m a c 2 t) (iblk m a c 4 t) (firstAt m a c t) (secondAt m a c t) Set.univ _)
      isplitl [HB]; · iexact HB
      isplitl [HC]; · iexact HC
      isplitl [H0]; · iexact H0
      isplitl [H2]; · iexact H2
      isplitl [H4]; · iexact H4
      isplitl [H5]; · iexists _; iexact H5
      isplitl [HS]; · iexact HS
      isplitl [HT]; · iexact HT
      iintro ⟨HB, HC, H0, H2, H4, H5, HS, HT⟩
      isplitl [HB HC HU HS HT Hg]
      · isplitl [HB HC HU]
        · isplitl [HB]; · iexact HB
          isplitl [HC]; · iexact HC
          iexact HU
        isplitl [HS HT]
        · iexists _, _
          isplitl [HS]; · iexact HS
          isplitl [HT]; · iexact HT
          ipureintro
          intro s hs _
          rw [only a t s hs]
          exact ⟨rfl, rfl⟩
        iexact Hg
      isplitl [Ho]; · iexact Ho
      isplitl [H0]; · iexact H0
      isplitl [H1]; · iexact H1
      isplitl [H2]; · iexact H2
      isplitl [H3]; · iexact H3
      isplitl [H4]; · iexact H4
      iexact H5
  · have ho : outAt m a c t = k0_pay4 := if_neg hl
    rw [ho]
    iintro ⟨⟨⟨HB, HC, HU⟩, ⟨%w, %w', HS, HT, -⟩, Hg⟩, Ho, ⟨%d0, H0⟩, ⟨%d1, H1⟩, ⟨%d2, H2⟩, ⟨%d3, H3⟩, ⟨%d4, H4⟩, ⟨%d5, H5⟩⟩
    iapply (body_dead c (grid0.coords t) _ _ _ _ _ _ _ _ _ _ _ _ _ _ _ _ _ _ _ _ _ _ fullShare.right (blkT a) (cntT a)
      (fun h => hl ((loads_iff _ _ _ _).mp h).1) hl (hg.rows t hl) Set.univ _)
    isplitl [HB]; · iexact HB
    isplitl [HC]; · iexact HC
    isplitl [H5]; · iexists _; iexact H5
    iintro ⟨HB, HC, H5⟩
    isplitl [HB HC HU HS HT Hg]
    · isplitl [HB HC HU]
      · isplitl [HB]; · iexact HB
        isplitl [HC]; · iexact HC
        iexact HU
      isplitl [HS HT]
      · iexists _, _
        isplitl [HS]; · iexact HS
        isplitl [HT]; · iexact HT
        ipureintro
        intro s hs hs'
        rw [only a t s hs] at hs'
        exact absurd hs' hl
      iexact Hg
    isplitl [Ho]; · iexact Ho
    isplitl [H0]; · iexact H0
    isplitl [H1]; · iexact H1
    isplitl [H2]; · iexact H2
    isplitl [H3]; · iexact H3
    isplitl [H4]; · iexact H4
    iexact H5

theorem idle_bits (pf : pre0.Contents (Elt F)) (i : grid0.Coords) :
    idle0 pf 5 i = (!(k0_cond2 (pf.atD 1 (k0_off1 i)) == 1#1) && !(k0_cond3 (pf.atD 1 (k0_off1 i)) == 1#1)) := rfl

theorem idle_of (i : grid0.Coords) : (cfg0 a).idle 5 i = idle0 a.1 5 i := rfl

theorem count_at (i : grid0.Coords) : Pipeline.Prefetch.Contents.atD a.1 1 (k0_off1 i) = cntT a (here i) := by
  unfold Pipeline.Prefetch.Contents.atD
  rw [dif_pos (fun x => by have := k0_off1_inb i x; rw [one_word x] at this; exact this)]
  rfl

theorem bits_off {n : BitVec 32} (h : k0_cond2 n = 1#1 ∨ k0_cond3 n = 1#1) :
    (!(k0_cond2 n == 1#1) && !(k0_cond3 n == 1#1)) = false := by
  rcases h with h | h
  · rw [h]; rfl
  · rw [h, Bool.and_comm]; rfl

theorem never_idle (hg : Good a) (t : Fin (cfg0 a).N) : (cfg0 a).idle 5 ((cfg0 a).grid.coords t) = false := by
  refine (idle_of a _).trans ((idle_bits a.1 _).trans ?_)
  refine (congrArg (fun n => (!(k0_cond2 n == 1#1) && !(k0_cond3 n == 1#1))) (count_at a (grid0.coords t))).trans ?_
  refine bits_off ?_
  by_cases hl : live a t
  · exact .inl hl
  · exact .inr (hg.rows t hl)

theorem row_done (hg : Good a) (c : Dev nD) (t : Fin (cfg0 a).N) : post m a c t ⊢ posted m a c t := by
  unfold post posted leaves5
  rw [never_idle a hg t]

set_option maxHeartbeats 3200000 in
theorem obligation (hg : Good a) (c : Dev nD) : BodyObligation (dats (F := F) m a 0 c) (defs₀ (F := F)) Variants.none () Set.univ := fun t => by
  rw [bigSep_W0, bigSep_W0, row_eq]
  exact triple_restated (triple_restated (sound_body m a hg c t) rfl .rfl fun _ => row_done m a hg c t) rfl .rfl fun _ => .rfl

theorem inv_in (c : Dev nD) : (iprop(Pipeline.ΦA spec0 c ∗ Pipeline.ΦT pre0 a.1 c) : sProp 𝕄) ⊢ (dats m a 0 c).Φ 0 := by
  rw [show (dats m a 0 c).Φ 0 = inv m a c 0 from rfl, any_eq, tables_eq]
  unfold inv
  iintro ⟨⟨⟨⟨%w, HS⟩, ⟨%w', HT⟩⟩, Hg⟩, Hb⟩
  isplitl [Hb]; · iexact Hb
  isplitl [HS HT]
  · iexists _, _
    isplitl [HS]; · iexact HS
    isplitl [HT]; · iexact HT
    ipureintro
    intro t ht
    exact absurd ht (Nat.succ_ne_zero _)
  iexact Hg

theorem inv_out (c : Dev nD) : (dats m a 0 c).Φ (Fin.last (cfg0 a).N) ⊢ Pipeline.ΦA spec0 c := by
  rw [show (dats m a 0 c).Φ (Fin.last (cfg0 a).N) = inv m a c (cfg0 a).N from rfl, any_eq]
  unfold inv
  iintro ⟨-, ⟨%w, %w', HS, HT, -⟩, Hg⟩
  isplitl [HS HT]
  · isplitl [HS]; · iexists _; iexact HS
    iexists _; iexact HT
  iexact Hg

/-! ## The run -/

set_option backward.isDefEq.respectTransparency.types false in
/-- Every execution ends, with the call's arrays at what the proof data computes and every counter at zero. -/
theorem run_call (hg : Good a) (hpf : ∀ c k, V m c (pre0.ref k) = a.1 k) : θ_run defs (onTc (τ := τ) (main (F := F))) (s₀ m ρ)
    (fun r => (Pipeline.FramePost (Pipeline.pin pcfgs (fun _ => a)) (dats m a) 0 (V m)) r ∧ r.2.sem = fun _ => 0) :=
  Pipeline.θ_run_frameP_track (Q' := _) pcfgs (fun _ => a) (dats m a) (0 : Fin 1) launch0 defs₀ Variants.none m ρ main
    (hbody := fun c => (obligation m a hg c).loose) (hshare := fun c => (dats m a 0 c).share_full fun _ => rfl)
    (howed := fun _ _ => rfl) (V := V m) (hmain := hmain m Variants.none) (hA := A_eq m a) (hpf := hpf) (hin := inv_in m a) (hout := inv_out m a)

/-- Every execution ends with the result at what the proof data computes, the arguments unchanged and every counter at zero. -/
theorem run_arrays (hg : Good a) (hpf : ∀ c k, V m c (pre0.ref k) = a.1 k) :
    θ_run defs (onTc (τ := τ) (main (F := F))) ⟨m, fun _ => 0, ρ⟩ (fun r => (∀ c : Dev nD,
      r.2.mem ((c.tc : Thread nD τ).loc main_v42) = (dats m a 0 c).arrAt 5 (cfg0 a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 5,
      ((h.1 c).1 0).trans (((dats m a 0 c).arrAt_in 0 rfl _).trans ((A_eq m a c 0).trans (V_arg0 m c))),
      ((h.1 c).2 main_arg1 (Pipeline.mem_restRefs_of main_arg1 (by decide) (by decide : ∀ w : Fin 6, (spec0 w).arr.view.ref ≠ main_arg1))).trans (V_arg1 m c),
      ((h.1 c).1 1).trans (((dats m a 0 c).arrAt_in 1 rfl _).trans ((A_eq m a c 1).trans (V_arg2 m c))),
      ((h.1 c).2 main_arg3 (Pipeline.mem_restRefs_of main_arg3 (by decide) (by decide : ∀ w : Fin 6, (spec0 w).arr.view.ref ≠ main_arg3))).trans (V_arg3 m c),
      ((h.1 c).1 3).trans (((dats m a 0 c).arrAt_in 3 rfl _).trans ((A_eq m a c 3).trans (V_arg4 m c))),
      ((h.1 c).2 main_arg5 (Pipeline.mem_restRefs_of main_arg5 (by decide) (by decide : ∀ w : Fin 6, (spec0 w).arr.view.ref ≠ main_arg5))).trans (V_arg5 m c)⟩, h.2⟩)
    (run_call m ρ a hg hpf)

end Cert.Proof.Expert

end
-- ==== Proof.Chosen.lean ====
/-
  The tables the experts' call is given, as terms of the counts, and what the call needs of them.
-/
module

public import proofs.«01_k».proof.Proof.Rounds
public import proofs.«01_k».proof.Proof.Counts

@[expose] public section

set_option maxRecDepth 16384

noncomputable section

namespace Cert.Proof.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Plan (Counted Sound expertOf rowsOf inUse all32)

variable {F : FTy → Type} [FloatOps F] [Named F]

variable (m : (ℓ : Loc nD τ sig) → Buf (Elt F) ℓ)

/-- The counts and 511. -/
def raised (c : IVec S32 32) : IVec S32 32 := subi (addi c (all32 512#32)) (all32 1#32)

/-- The counts. -/
abbrev countsOf (c : Dev nD) : IVec S32 32 := m ((c : Thread nD τ).loc main_arg1)

set_option maxHeartbeats 2000000 in
theorem V_expert (c : Dev nD) : V m c main_v20 = expertOf (raised (countsOf m c)) := by
  unfold V
  simp only [hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq,
    List.flatten_cons, List.flatten_nil, List.append_nil, List.cons_append, List.nil_append]
  after_results_simp <;> rfl

set_option maxHeartbeats 2000000 in
theorem V_rows (c : Dev nD) : V m c main_v37 = rowsOf (raised (countsOf m c)) (countsOf m c) := by
  unfold V
  simp only [hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq,
    List.flatten_cons, List.flatten_nil, List.append_nil, List.cons_append, List.nil_append]
  after_results_simp <;> rfl

set_option maxHeartbeats 2000000 in
theorem V_used (c : Dev nD) : V m c main_v39 = inUse (raised (countsOf m c)) := by
  unfold V
  simp only [hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq,
    List.flatten_cons, List.flatten_nil, List.append_nil, List.cons_append, List.nil_append]
  after_results_simp <;> rfl

/-! ## The tables, once for all devices -/

/-- The counts of the first device. -/
abbrev theCounts : IVec S32 32 := countsOf m ⟨0, Nat.one_pos⟩

theorem dev_eq (c : Dev nD) : c = ⟨0, Nat.one_pos⟩ := Fin.ext (by have := c.isLt; change c.val < 1 at this; change c.val = 0; omega)

/-- The three tables, at their shapes. -/
def blkOf (pf : pre0.Contents (Elt F)) : IVec S288 32 := pf 0
def cntOf (pf : pre0.Contents (Elt F)) : IVec S288 32 := pf 1
def useOf (pf : pre0.Contents (Elt F)) : IVec S1 32 := pf 2

/-- What the call's tables hold. -/
def plan : pre0.Contents (Elt F) := fun
  | ⟨0, _⟩ => (expertOf (raised (theCounts m)) : IVec S288 32)
  | ⟨1, _⟩ => (rowsOf (raised (theCounts m)) (theCounts m) : IVec S288 32)
  | ⟨2, _⟩ => (inUse (raised (theCounts m)) : IVec S1 32)
  | ⟨_ + 3, h⟩ => absurd h (Nat.not_lt.2 (Nat.le_add_left _ _))

theorem plan_ref (c : Dev nD) : ∀ k, V m c (pre0.ref k) = plan m k := by
  obtain rfl := dev_eq c
  intro k
  match k with
  | ⟨0, _⟩ => exact V_expert m _
  | ⟨1, _⟩ => exact V_rows m _
  | ⟨2, _⟩ => exact V_used m _

theorem raised_ap {c : IVec S32 32} {f : Nat → Nat} (hf : Counted c f) (i : Fin 32) : raised c (ValueIdx.ix1 i) = BitVec.ofNat 32 (f i.val + 511) := by
  show (c (ValueIdx.ix1 i) + all32 512#32 (ValueIdx.ix1 i)) - all32 1#32 (ValueIdx.ix1 i) = _
  rw [Plan.all32_at, Plan.all32_at, hf.1 i]
  apply BitVec.eq_of_toNat_eq
  simp only [BitVec.toNat_sub, BitVec.toNat_add, BitVec.toNat_ofNat]
  omega

theorem plan_sound {f : Nat → Nat} (hf : Counted (theCounts m) f) :
    Sound (blkOf (plan m)) (cntOf (plan m)) (useOf (plan m)) :=
  Plan.sound hf (raised_ap hf)

section

variable {pf : pre0.Contents (Elt F)} (hs : Sound (blkOf pf) (cntOf pf) (useOf pf))

theorem one_idx (i : S1.Idx) : i = ValueIdx.ix1 (0 : Fin 1) := funext fun a => Fin.ext (match a with
  | ⟨0, _⟩ => by have := (i 0).isLt; change (i 0).val < 1 at this; change (i 0).val = 0; omega)

theorem idx288 (i : S288.Idx) : i = ValueIdx.ix1 (i 0 : Fin 288) := idx_ext rfl

theorem transform_0 (i : grid0.Coords) :
    cc0_transform_0 inb_S1_S1_0 numel1_S1 pf i = ![0, (IntOp.minsi (BitVec.ofNat 32 (i 0).val) (IntOp.subi (useOf pf (ValueIdx.ix1 (0 : Fin 1))) 1#32)).toNat, 0] := by
  unfold cc0_transform_0
  refine congrArg (fun v : BitVec 32 => (![0, (IntOp.minsi (BitVec.ofNat 32 (i 0).val) (IntOp.subi v 1#32)).toNat, 0] : Fin 3 → Nat)) (congrArg (useOf pf) (one_idx _))
theorem transform_2 (i : grid0.Coords) :
    cc0_transform_2 k0_off1_inb numel1_S1 pf i = ![(blkOf pf (here i)).toNat, 0, 0] := by
  unfold cc0_transform_2
  refine congrArg (fun v : BitVec 32 => (![v.toNat, 0, 0] : Fin 3 → Nat)) (congrArg (blkOf pf) (idx_ext ?_))
  rfl
theorem transform_4 (i : grid0.Coords) :
    cc0_transform_4 k0_off1_inb numel1_S1 pf i = ![(blkOf pf (here i)).toNat, 0, 0] := by
  unfold cc0_transform_4
  refine congrArg (fun v : BitVec 32 => (![v.toNat, 0, 0] : Fin 3 → Nat)) (congrArg (blkOf pf) (idx_ext ?_))
  rfl

theorem fits3 {k n0 n1 n2 : Nat} {idx : Fin 3 → Nat} (e : idx = ![k, 0, 0]) (h : k < n0) (a : Fin 3) :
    (idx a + 1) * (![1, n1, n2] : Fin 3 → Nat) a ≤ (![n0, n1, n2] : Fin 3 → Nat) a := by
  subst e
  match a with
  | ⟨0, _⟩ => show (k + 1) * 1 ≤ n0; omega
  | ⟨1, _⟩ => show (0 + 1) * n1 ≤ n1; omega
  | ⟨2, _⟩ => show (0 + 1) * n2 ≤ n2; omega

theorem here_ix (t : Fin grid0.N) : here (grid0.coords t) = ValueIdx.ix1 (⟨t.val, lt_of_lt_of_eq t.isLt (by decide +kernel)⟩ : Fin 288) :=
  idx_ext (here_val t)

include hs

theorem expert_lt (i : S288.Idx) : (blkOf pf i).toNat < 32 := by
  obtain ⟨b, hb⟩ := hs.expert (i 0)
  have e : blkOf pf i = BitVec.ofNat 32 b.val := (congrArg (blkOf pf) (idx288 i)).trans hb
  rw [e, BitVec.toNat_ofNat]
  have := b.isLt
  omega

/-- The block whose rows a point reads: its own, or the last one in use. -/
theorem input_idx (i : grid0.Coords) : ∃ g : Nat, 1 ≤ g ∧ g ≤ 288 ∧ (∀ t : Fin 288, cntOf pf (ValueIdx.ix1 t) ≠ 0#32 → t.val < g) ∧
    cc0_transform_0 inb_S1_S1_0 numel1_S1 pf i = ![0, min (i 0).val (g - 1), 0] := by
  obtain ⟨g, h1, h2, hg, hl⟩ := hs.used
  refine ⟨g, h1, h2, hl, ?_⟩
  rw [transform_0 i]
  have hi : (i 0).val < 288 := (i 0).isLt
  have e : (IntOp.minsi (BitVec.ofNat 32 (i 0).val) (IntOp.subi (useOf pf (ValueIdx.ix1 (0 : Fin 1))) 1#32)).toNat = min (i 0).val (g - 1) := by
    rw [show useOf pf (ValueIdx.ix1 (0 : Fin 1)) = BitVec.ofNat 32 g from hg, show IntOp.subi (BitVec.ofNat 32 g) 1#32 = BitVec.ofNat 32 (g - 1) from StableHlo.Predicate.sub_one_ofNat g h1 (by omega),
      WordArith.toNat_minsi_of_lt _ _ (by rw [BitVec.toNat_ofNat]; omega) (by rw [BitVec.toNat_ofNat]; omega),
      BitVec.toNat_ofNat, BitVec.toNat_ofNat, Nat.mod_eq_of_lt (by omega), Nat.mod_eq_of_lt (by omega)]
  rw [e]

theorem fits (i : grid0.Coords) (a : Fin 3) : (cc0_transform_0 inb_S1_S1_0 numel1_S1 pf i a + 1) * S2x1024x256.size a ≤ S2x294912x256.size a := by
  obtain ⟨g, h1, h2, -, e⟩ := input_idx hs i
  rw [e]
  match a with
  | ⟨0, _⟩ => show (0 + 1) * 2 ≤ 2; omega
  | ⟨1, _⟩ => show (min (i 0).val (g - 1) + 1) * 1024 ≤ 294912; omega
  | ⟨2, _⟩ => show (0 + 1) * 256 ≤ 256; omega

/-- Every block the tables ask for lies in its array. -/
theorem admitted : ok0 pf :=
  ⟨fun i => ⟨fits hs i, .inr (Affine.block_words_dvd (of_decide_eq_true rfl) (by decide))⟩,
    fun i => ⟨fits3 (transform_1 pf i) (expert_lt hs _), .inl rfl⟩,
    fun i => ⟨fits3 (transform_2 i) (expert_lt hs _), .inl rfl⟩,
    fun i => ⟨fits3 (transform_3 pf i) (expert_lt hs _), .inl rfl⟩,
    fun i => ⟨fits3 (transform_4 i) (expert_lt hs _), .inl rfl⟩⟩

theorem live_or (t : Fin 288) : Iff (k0_cond2 (cntOf pf (ValueIdx.ix1 t)) = 1#1) (cntOf pf (ValueIdx.ix1 t) ≠ 0#32) := by
  obtain ⟨k, hk, e⟩ := hs.rows t
  rw [e, cond2_iff]
  constructor
  · intro h h0
    rw [h0] at h
    exact absurd h (by decide)
  · intro h
    have hk0 : k ≠ 0 := by rintro rfl; exact h rfl
    rw [BitVec.slt_iff_toInt_lt, BitVec.toInt_eq_toNat_cond, BitVec.toInt_eq_toNat_cond]
    simp only [BitVec.toNat_ofNat]
    rw [Nat.mod_eq_of_lt (by omega : k < 2 ^ 32)]
    split <;> split <;> omega

theorem live_iff (t : Fin grid0.N) : Iff (live (⟨pf, admitted hs⟩ : (pcfg0 (F := F)).Adm) t) (cntOf pf (ValueIdx.ix1 (⟨t.val, lt_of_lt_of_eq t.isLt (by decide +kernel)⟩ : Fin 288)) ≠ 0#32) := by
  rw [← live_or hs]
  exact Iff.of_eq (congrArg (fun i => k0_cond2 (cntOf pf i) = 1#1) (here_ix t))

theorem good : Good (⟨pf, admitted hs⟩ : (pcfg0 (F := F)).Adm) where
  rows t h := by
    rw [live_iff hs, not_not] at h
    refine (congrArg (fun i => k0_cond3 (cntOf pf i)) (here_ix t)).trans ?_
    rw [cond3_iff, h]
    rfl
  chain t ht h e := by
    rw [live_iff hs] at h ⊢
    refine hs.chain _ _ ?_ h ?_
    · show t.val - 1 + 1 = t.val
      omega
    · exact ((congrArg (blkOf pf) (here_ix t)).symm.trans e).trans (congrArg (blkOf pf) (here_ix (back t)))

/-- A block with rows reads its own. -/
theorem own_rows (t : Fin grid0.N) (h : live (⟨pf, admitted hs⟩ : (pcfg0 (F := F)).Adm) t) :
    cc0_transform_0 inb_S1_S1_0 numel1_S1 pf (grid0.coords t) = ![0, t.val, 0] := by
  obtain ⟨g, h1, h2, hl, e⟩ := input_idx hs (grid0.coords t)
  rw [e, coord_val]
  have := hl _ ((live_iff hs t).mp h)
  have hm : min t.val (g - 1) = t.val := by
    change t.val < g at this
    omega
  rw [hm]

end

end Cert.Proof.Expert

end
-- ==== Proof.Scores.lean ====
/-
  One row through an expert's two layers, over the extended reals: the row times the first weights, the gated activation of the
  columns, and the activation times the second weights.
-/
module

public import Idealize.ShloMosaic.Lib.Pointwise
public import proofs.«01_k».proof.Kernel3Ideal

@[expose] public section

noncomputable section

namespace Cert.Proof.Scores

open Idealize.ShloMosaic

abbrev seven : EReal := Ideal.ofBits FTy.f32 0x40E00000#32
abbrev minusSeven : EReal := Ideal.ofBits FTy.f32 0xC0E00000#32
abbrev slope : EReal := Ideal.ofBits FTy.f32 0x3FD9DB23#32

/-- The first layer at a column. -/
def layer {n : Nat} (X : Fin 1024 → EReal) (W : Fin 1024 → Fin n → EReal) (B : Fin n → EReal) (k : Fin n) : EReal :=
  ∑ i, X i * W i k + B k

/-- The activation: a gate, its share by the logistic function, and the second half's column. -/
def gated (g l : EReal) : EReal :=
  g * Ideal.div 1 (1 + Ideal.exp (-(slope * g))) * (min seven (max minusSeven l) + 1)

/-- The activation of a row's columns. -/
def active (H : Fin 2048 → EReal) (k : Fin 1024) : EReal :=
  gated (min (H ⟨k.val, by omega⟩) seven) (H ⟨1024 + k.val, by omega⟩)

/-- The row through both layers. -/
def score (X : Fin 1024 → EReal) (W : Fin 1024 → Fin 2048 → EReal) (B : Fin 2048 → EReal) (W' : Fin 1024 → Fin 1024 → EReal)
    (B' : Fin 1024 → EReal) (k : Fin 1024) : EReal :=
  layer (active (layer X W B)) W' B' k

/-- Two raised to the product with `-1 / log 2` is the exponential of the negation, at the ends too. -/
theorem exp2_scaled (y : EReal) : Ideal.exp2 (y * ((-((Real.log 2)⁻¹) : ℝ) : EReal)) = Ideal.exp (-y) := by
  have hl : 0 < Real.log 2 := Real.log_pos (by norm_num)
  have hn : -((Real.log 2)⁻¹) < 0 := neg_neg_of_pos (inv_pos.mpr hl)
  induction y with
  | bot => rw [EReal.bot_mul_coe_of_neg hn]; rfl
  | top => rw [EReal.top_mul_coe_of_neg hn]; rfl
  | coe r =>
    rw [← EReal.coe_mul, ← EReal.coe_neg, Ideal.exp2_coe, Ideal.exp_coe]
    refine congrArg _ ?_
    show (2 : ℝ) ^ (r * -((Real.log 2)⁻¹)) = _
    rw [Real.rpow_def_of_pos (by norm_num)]
    refine congrArg _ ?_
    field_simp

end Cert.Proof.Scores

end
-- ==== Proof.Layer.lean ====
/-
  What the experts' call computes for one block of rows over the reals: the payloads of its body read at a row and a column.
-/
module

public import proofs.«01_k».proof.Proof.Expert
public import proofs.«01_k».proof.Proof.Scores

@[expose] public section

set_option maxRecDepth 16384

noncomputable section

namespace Cert.Proof.Expert

open Cert.Kernel3Ideal Cert.Kernel3Ideal.Gen
open Idealize.ShloMosaic Idealize.ShloMosaic.TcCoe Idealize.ShloMosaic.Tactic
open Idealize.SL.Sem

open Cert.Proof.Scores

/-- Where a row's column lies: which of the two planes, which of the row's two halves, which column there. -/
def rowAt (n : BitVec 32) (x0 x1 : Vec Ideal S1x1024x256 .bf16) (s : Fin 512) (k : Fin 1024) : EReal :=
  Scalar.select (IntOp.cmpi CmpIPredicate.slt (BitVec.ofNat 32 s.val) n)
    ((if k.val / 256 % 2 = 0 then x0 else x1) (ix3 (0 : Fin 1) (⟨2 * s.val + k.val / 512, by omega⟩ : Fin 1024) (⟨k.val % 256, by omega⟩ : Fin 256)))
    0

theorem quarter (n : BitVec 32) (x0 x1 y : Vec Ideal S1x1024x256 .bf16) (s : Fin 512) (k : Fin 1024) (r : Fin 1024) (q : Fin 256)
    (hy : (if k.val / 256 % 2 = 0 then x0 else x1) = y) (hr : r.val = 2 * s.val + k.val / 512) (hq : q.val = k.val % 256) :
    Scalar.select (IntOp.cmpi CmpIPredicate.slt (BitVec.ofNat 32 s.val) n) (y (ix3 (0 : Fin 1) r q)) 0 = rowAt n x0 x1 s k := by
  have er : r = ⟨2 * s.val + k.val / 512, by omega⟩ := Fin.ext hr
  have eq : q = ⟨k.val % 256, by omega⟩ := Fin.ext hq
  rw [er, eq, ← hy]
  rfl

set_option maxHeartbeats 1000000 in
theorem pay5_at (n : BitVec 32) (x0 x1 : Vec Ideal S1x1024x256 .bf16) (w : Vec Ideal S1024x2048 .bf16) (b : Vec Ideal S1x1x2048 .f32)
    (s : Fin 512) (k : Fin 2048) : k0_pay5 (F := Ideal) n x0 x1 w b (ix2 s k)
      = layer (rowAt n x0 x1 s) (fun i k => w (ix2 i k)) (fun k => b (ix3 (0 : Fin 1) (0 : Fin 1) k)) k := by
  pointwise [k0_pay5]
  unfold layer
  refine congrArg (· + b (ix3 (0 : Fin 1) (0 : Fin 1) k)) (Finset.sum_congr rfl fun i _ => congrArg (· * w (ix2 i k)) ?_)
  have hi := i.isLt
  split
  · refine quarter n x0 x1 x0 s i _ _ (if_pos ?_) ?_ ?_ <;> (try dsimp only) <;> omega
  split
  · refine quarter n x0 x1 x1 s i _ _ (if_neg ?_) ?_ ?_ <;> (try dsimp only) <;> omega
  split
  · refine quarter n x0 x1 x0 s i _ _ (if_pos ?_) ?_ ?_ <;> (try dsimp only) <;> omega
  · refine quarter n x0 x1 x1 s i _ _ (if_neg ?_) ?_ ?_ <;> (try dsimp only) <;> omega

theorem pay6_at (n : BitVec 32) (x0 x1 : Vec Ideal S1x1024x256 .bf16) (w : Vec Ideal S1024x2048 .bf16) (b : Vec Ideal S1x1x2048 .f32)
    (s : Fin 512) (k : Fin 1024) : k0_pay6 (F := Ideal) n x0 x1 w b (ix2 s k)
      = min (layer (rowAt n x0 x1 s) (fun i k => w (ix2 i k)) (fun k => b (ix3 (0 : Fin 1) (0 : Fin 1) k)) ⟨k.val, by omega⟩) seven := by
  rw [← pay5_at]
  pointwise [k0_pay6]

theorem pay7_at (n : BitVec 32) (x0 x1 : Vec Ideal S1x1024x256 .bf16) (w : Vec Ideal S1024x2048 .bf16) (b : Vec Ideal S1x1x2048 .f32)
    (s : Fin 512) (k : Fin 1024) : k0_pay7 (F := Ideal) n x0 x1 w b (ix2 s k)
      = layer (rowAt n x0 x1 s) (fun i k => w (ix2 i k)) (fun k => b (ix3 (0 : Fin 1) (0 : Fin 1) k)) ⟨1024 + k.val, by omega⟩ := by
  rw [← pay5_at]
  pointwise [k0_pay7]

theorem named_eq : Named.named (F := Ideal) κ "neg_log2_e" (φ := .f32) 3216550459#32 = ((-((Real.log 2)⁻¹) : ℝ) : EReal) :=
  IdealRules.named_const.ideal_named_scalar κ "neg_log2_e" _ _ rfl

set_option maxHeartbeats 1000000 in
theorem pay8_at (g l : Vec Ideal S512x1024 .f32) (w : Vec Ideal S1024x1024 .bf16) (b : Vec Ideal S1x1x1024 .f32)
    (s : Fin 512) (k : Fin 1024) : k0_pay8 (F := Ideal) g l (Scalar.ofBits .f32 0xC0E00000#32) (Scalar.ofBits .f32 0x40E00000#32) w b (ix2 s k)
      = layer (fun i => gated (g (ix2 s i)) (l (ix2 s i))) (fun i k => w (ix2 i k)) (fun k => b (ix3 (0 : Fin 1) (0 : Fin 1) k)) k := by
  pointwise [k0_pay8]
  unfold layer
  refine congrArg (· + b (ix3 (0 : Fin 1) (0 : Fin 1) k)) (Finset.sum_congr rfl fun i _ => congrArg (· * w (ix2 i k)) ?_)
  show g (ix2 s i) * Ideal.div 1 (1 + Ideal.exp2 (slope * g (ix2 s i) * Named.named (F := Ideal) κ "neg_log2_e" (φ := .f32) 3216550459#32))
    * (min seven (max minusSeven (l (ix2 s i))) + 1) = gated (g (ix2 s i)) (l (ix2 s i))
  rw [named_eq, exp2_scaled]
  rfl

/-- The second layer's result at a row of the block and a column. -/
def doneAt (n : BitVec 32) (x0 x1 : Vec Ideal S1x1024x256 .bf16) (w : Vec Ideal S1024x2048 .bf16) (b : Vec Ideal S1x1x2048 .f32)
    (w' : Vec Ideal S1024x1024 .bf16) (b' : Vec Ideal S1x1x1024 .f32) (s : Fin 512) (k : Fin 1024) : EReal :=
  score (rowAt n x0 x1 s) (fun i k => w (ix2 i k)) (fun k => b (ix3 (0 : Fin 1) (0 : Fin 1) k)) (fun i k => w' (ix2 i k)) (fun k => b' (ix3 (0 : Fin 1) (0 : Fin 1) k)) k

theorem second_at (n : BitVec 32) (x0 x1 : Vec Ideal S1x1024x256 .bf16) (w : Vec Ideal S1024x2048 .bf16) (b : Vec Ideal S1x1x2048 .f32)
    (w' : Vec Ideal S1024x1024 .bf16) (b' : Vec Ideal S1x1x1024 .f32) (s : Fin 512) (k : Fin 1024) :
    k0_pay8 (F := Ideal) (k0_pay6 n x0 x1 w b) (k0_pay7 n x0 x1 w b) (Scalar.ofBits .f32 0xC0E00000#32) (Scalar.ofBits .f32 0x40E00000#32) w' b' (ix2 s k)
      = doneAt n x0 x1 w b w' b' s k := by
  rw [pay8_at]
  unfold doneAt score
  refine congrArg (fun f => layer f (fun i k => w' (ix2 i k)) (fun k => b' (ix3 (0 : Fin 1) (0 : Fin 1) k)) k) (funext fun i => ?_)
  rw [pay6_at, pay7_at]
  rfl

theorem low_at (g l : Vec Ideal S512x1024 .f32) (c1 c2 : Ideal .f32) (w : Vec Ideal S1024x1024 .bf16) (b : Vec Ideal S1x1x1024 .f32)
    (r : Fin 1024) (q : Fin 256) : k0_pay11 (F := Ideal) g l c1 c2 w b (ix3 (0 : Fin 1) r q)
      = k0_pay8 g l c1 c2 w b (ix2 (⟨r.val / 2, by omega⟩ : Fin 512) (⟨r.val % 2 * 512 + q.val, by omega⟩ : Fin 1024)) := by
  pointwise [k0_pay11, k0_pay9, k0_pay10]
  split
  · refine congrArg (fun k : Fin 1024 => k0_pay8 g l c1 c2 w b (ix2 (⟨r.val / 2, by omega⟩ : Fin 512) k)) (Fin.ext ?_)
    show q.val = r.val % 2 * 512 + q.val
    omega
  · refine congrArg (fun k : Fin 1024 => k0_pay8 g l c1 c2 w b (ix2 (⟨r.val / 2, by omega⟩ : Fin 512) k)) (Fin.ext ?_)
    show 512 + q.val = r.val % 2 * 512 + q.val
    omega

theorem high_at (g l : Vec Ideal S512x1024 .f32) (c1 c2 : Ideal .f32) (w : Vec Ideal S1024x1024 .bf16) (b : Vec Ideal S1x1x1024 .f32)
    (r : Fin 1024) (q : Fin 256) : k0_pay3 (F := Ideal) (k0_pay12 g l c1 c2 w b) (k0_pay13 g l c1 c2 w b) (ix3 (0 : Fin 1) r q)
      = k0_pay8 g l c1 c2 w b (ix2 (⟨r.val / 2, by omega⟩ : Fin 512) (⟨r.val % 2 * 512 + 256 + q.val, by omega⟩ : Fin 1024)) := by
  pointwise [k0_pay3, k0_pay12, k0_pay13, k0_pay9, k0_pay10]
  split
  · refine congrArg (fun k : Fin 1024 => k0_pay8 g l c1 c2 w b (ix2 (⟨r.val / 2, by omega⟩ : Fin 512) k)) (Fin.ext ?_)
    show 256 + q.val = r.val % 2 * 512 + 256 + q.val
    omega
  · refine congrArg (fun k : Fin 1024 => k0_pay8 g l c1 c2 w b (ix2 (⟨r.val / 2, by omega⟩ : Fin 512) k)) (Fin.ext ?_)
    show 512 + (256 + q.val) = r.val % 2 * 512 + 256 + q.val
    omega

/-- What the body writes for a block with rows, at a plane, a row and a column. -/
theorem worked_at (n : BitVec 32) (x : Vec Ideal S2x1024x256 .bf16) (w : Vec Ideal S1024x2048 .bf16) (b : Vec Ideal S1x1x2048 .f32)
    (w' : Vec Ideal S1024x1024 .bf16) (b' : Vec Ideal S1x1x1024 .f32) (p : Fin 2) (r : Fin 1024) (q : Fin 256) :
    worked n x w b w' b' (ix3 p r q)
      = doneAt n (plane 0 x) (plane 1 x) w b w' b' (⟨r.val / 2, by omega⟩ : Fin 512) (⟨r.val % 2 * 512 + p.val * 256 + q.val, by omega⟩ : Fin 1024) := by
  unfold worked planes
  split
  · rename_i h
    change p.val = 0 at h
    refine (low_at _ _ _ _ _ _ r q).trans ((second_at _ _ _ _ _ _ _ _ _).trans ?_)
    refine congrArg (doneAt n (plane 0 x) (plane 1 x) w b w' b' _) (Fin.ext ?_)
    show r.val % 2 * 512 + q.val = r.val % 2 * 512 + p.val * 256 + q.val
    omega
  · rename_i h
    change ¬p.val = 0 at h
    refine (high_at _ _ _ _ _ _ r q).trans ((second_at _ _ _ _ _ _ _ _ _).trans ?_)
    refine congrArg (doneAt n (plane 0 x) (plane 1 x) w b w' b' _) (Fin.ext ?_)
    show r.val % 2 * 512 + 256 + q.val = r.val % 2 * 512 + p.val * 256 + q.val
    omega

end Cert.Proof.Expert

end
-- ==== Proof.Blocks.lean ====
/-
  The experts' call over the reals: the array it leaves, read at a plane, a row and a column, as a term of the arguments.
-/
module

public import proofs.«01_k».proof.Proof.Chosen
public import proofs.«01_k».proof.Proof.Layer

@[expose] public section

set_option maxRecDepth 16384

noncomputable section

namespace Cert.Proof.Expert

open Cert.Kernel3Ideal Cert.Kernel3Ideal.Gen
open Idealize.ShloMosaic Idealize.ShloMosaic.TcCoe Idealize.ShloMosaic.Tactic
open Idealize.SL.Sem
open Idealize.ShloMosaic.Pipeline (Dat Cfg Window cellOf)
open Cert.Proof.Plan (Counted Sound)
open Cert.Proof.Scores

variable (m : (ℓ : Loc nD τ sig) → Buf (Elt Ideal) ℓ) (a : (pcfg0 (F := Ideal)).Adm)

theorem points : grid0.N = 288 := by decide +kernel

theorem transform_5 (t : Fin grid0.N) : cc0_transform_5 (grid0.coords t) = ![0, t.val, 0] := by
  unfold cc0_transform_5
  have ht := lt_of_lt_of_eq t.isLt points
  have e : (BitVec.ofNat 32 ((grid0.coords t) 0).val).toNat = t.val := by
    rw [coord_val, BitVec.toNat_ofNat]
    omega
  exact congrArg (fun k : Nat => (![0, k, 0] : Fin 3 → Nat)) e

theorem flush_5 (t : Fin (cfg0 a).N) : ((cfg0 a).win 5).flush t = true := by
  unfold Window.flush
  rw [Bool.and_eq_true, Bool.or_eq_true, decide_eq_true_eq, decide_eq_true_eq]
  refine ⟨rfl, ?_⟩
  by_cases h : t.val + 1 = (cfg0 a).grid.N
  · exact .inl h
  refine .inr ⟨lt_of_le_of_ne t.isLt h, fun e => ?_⟩
  have e' := (transform_5 _).symm.trans ((show cc0_transform_5 (grid0.coords ⟨t.val + 1, lt_of_le_of_ne t.isLt h⟩) = cc0_transform_5 (grid0.coords t) from e).trans (transform_5 t))
  have := congrFun e' 1
  change t.val + 1 = t.val at this
  omega

/-! ## The output, by its blocks -/

/-- The point that writes an index of the output. -/
def opt (i : S2x294912x256.Idx) : Fin (cfg0 a).N :=
  ⟨(i 1).val / 1024, by
    have h1 : (i 1).val < 294912 := (i 1).isLt
    rw [show (cfg0 a).N = 288 from points]; omega⟩
/-- The index's place in that point's block. -/
def oloc (i : S2x294912x256.Idx) : S2x1024x256.Idx := fun x => match x with
  | ⟨0, _⟩ => i 0
  | ⟨1, _⟩ => ⟨(i 1).val % 1024, Nat.mod_lt _ (by decide)⟩
  | ⟨2, _⟩ => i 2

def outArr (c : Dev nD) : Buf (Elt Ideal) ((c : Thread nD τ).loc main_v42) := fun i => outAt m a c (opt a i) (oloc i)

/-- Where an index of a point's block lies in the output. -/
def emb5 (t : Fin (cfg0 a).N) (y : S2x1024x256.Idx) : S2x294912x256.Idx := (((cfg0 a).win 5).blk t).view.emb y

theorem out_place (t : Fin (cfg0 a).N) (y : S2x1024x256.Idx) (x : Fin 3) :
    (emb5 a t y x).val = (![0, t.val, 0] : Fin 3 → Nat) x * S2x1024x256.size x + 1 * (y x).val :=
  congrArg (fun k : Fin 3 → Nat => k x * S2x1024x256.size x + 1 * (y x).val) (transform_5 t)

theorem out_flushed (c : Dev nD) (t : Fin (cfg0 a).N) :
    (dats m a 0 c).flushed 5 t = (((cfg0 a).win 5).blk t).view.read (Elt Ideal) (outArr m a c) := by
  show ((cfg0 a).win 5).cut (grid0.coords t) ((dats m a 0 c).after 5 t) = _
  rw [after_5]
  refine funext fun (y : S2x1024x256.Idx) => ?_
  have h0 : (y 0).val < 2 := (y 0).isLt
  have h1 : (y 1).val < 1024 := (y 1).isLt
  have h2 : (y 2).val < 256 := (y 2).isLt
  have b0 : (emb5 a t y 0).val = 0 * 2 + 1 * (y 0).val := out_place a t y 0
  have b1 : (emb5 a t y 1).val = t.val * 1024 + 1 * (y 1).val := out_place a t y 1
  have b2 : (emb5 a t y 2).val = 0 * 256 + 1 * (y 2).val := out_place a t y 2
  have hp : opt a (emb5 a t y) = t := Fin.ext (by
    show (emb5 a t y 1).val / 1024 = t.val
    rw [b1]; omega)
  have hl : oloc (emb5 a t y) = y := by
    funext x; apply Fin.ext
    match x with
    | ⟨0, _⟩ => show (emb5 a t y 0).val = (y 0).val; rw [b0]; omega
    | ⟨1, _⟩ => show (emb5 a t y 1).val % 1024 = (y 1).val; rw [b1]; omega
    | ⟨2, _⟩ => show (emb5 a t y 2).val = (y 2).val; rw [b2]; omega
  show outAt m a c t y = outAt m a c (opt a (emb5 a t y)) (oloc (emb5 a t y))
  rw [hp, hl]

theorem within (off size : Fin 3 → Nat) (inb) (i : S2x294912x256.Idx) (h : ∀ x : Fin 3, off x ≤ (i x).val ∧ (i x).val < off x + size x) :
    i ∈ ((View.whole main_v42).slice (Rect.unit (s := S2x294912x256) off size inb)).set := by
  have e : ((View.whole main_v42).slice (Rect.unit (s := S2x294912x256) off size inb)).set = (Rect.unit (s := S2x294912x256) off size inb).set :=
    View.set_slice_whole main_v42 _
  exact e ▸ Rect.mem_set_unit.mpr h

theorem out_final (c : Dev nD) : (dats m a 0 c).arrAt 5 (cfg0 a).N = outArr m a c :=
  (dats m a 0 c).arrAt_eq_of_cover 5 _ (fun t _ => out_flushed m a c t) (fun (i : S2x294912x256.Idx) => by
    have h0 : (i 0).val < 2 := (i 0).isLt
    have h1 : (i 1).val < 294912 := (i 1).isLt
    have h2 : (i 2).val < 256 := (i 2).isLt
    refine ⟨opt a i, flush_5 a _, ?_⟩
    have hx : ∀ x : Fin 3, cc0_transform_5 (grid0.coords (opt a i)) x = (![0, (opt a i).val, 0] : Fin 3 → Nat) x := fun x => congrFun (transform_5 _) x
    have hv : (opt a i).val = (i 1).val / 1024 := rfl
    refine within _ _ _ i fun x => ?_
    match x with
    | ⟨0, _⟩ =>
      show cc0_transform_5 (grid0.coords (opt a i)) 0 * 2 ≤ (i 0).val ∧ (i 0).val < cc0_transform_5 (grid0.coords (opt a i)) 0 * 2 + 2
      rw [hx]; show 0 * 2 ≤ _ ∧ _ < 0 * 2 + 2; omega
    | ⟨1, _⟩ =>
      show cc0_transform_5 (grid0.coords (opt a i)) 1 * 1024 ≤ (i 1).val ∧ (i 1).val < cc0_transform_5 (grid0.coords (opt a i)) 1 * 1024 + 1024
      rw [hx]; show (opt a i).val * 1024 ≤ _ ∧ _ < (opt a i).val * 1024 + 1024; omega
    | ⟨2, _⟩ =>
      show cc0_transform_5 (grid0.coords (opt a i)) 2 * 256 ≤ (i 2).val ∧ (i 2).val < cc0_transform_5 (grid0.coords (opt a i)) 2 * 256 + 256
      rw [hx]; show 0 * 256 ≤ _ ∧ _ < 0 * 256 + 256; omega)

/-! ## The blocks read, for any array -/

theorem read_0 (g : Vec Ideal S2x294912x256 .bf16) (t : Fin (cfg0 a).N) (ht : t.val < 288)
    (e : cc0_transform_0 inb_S1_S1_0 numel1_S1 a.1 (grid0.coords t) = ![0, t.val, 0]) (p : Fin 2) (r : Fin 1024) (q : Fin 256) :
    ((((cfg0 a).win 0).blk t).view.read (Elt Ideal) g : Vec Ideal S2x1024x256 .bf16) (ix3 p r q) = g (ix3 p (⟨t.val * 1024 + r.val, by omega⟩ : Fin 294912) q) := by
  refine congrArg g (funext fun x => Fin.ext ?_)
  refine (congrArg (fun k : Fin 3 → Nat => k x * S2x1024x256.size x + 1 * ((ix3 p r q : S2x1024x256.Idx) x).val) e).trans ?_
  match x with
  | ⟨0, _⟩ => show 0 * 2 + 1 * p.val = p.val; omega
  | ⟨1, _⟩ => show t.val * 1024 + 1 * r.val = t.val * 1024 + r.val; omega
  | ⟨2, _⟩ => show 0 * 256 + 1 * q.val = q.val; omega

theorem read_1 (g : Vec Ideal S32x1024x2048 .f32) (t : Fin (cfg0 a).N) (E : Fin 32)
    (e : cc0_transform_1 k0_off1_inb numel1_S1 a.1 (grid0.coords t) = ![E.val, 0, 0]) (i : Fin 1024) (k : Fin 2048) :
    ((((cfg0 a).win 1).blk t).view.read (Elt Ideal) g : Vec Ideal S1x1024x2048 .f32) (ix3 (0 : Fin 1) i k) = g (ix3 E i k) := by
  refine congrArg g (funext fun x => Fin.ext ?_)
  refine (congrArg (fun z : Fin 3 → Nat => z x * S1x1024x2048.size x + 1 * ((ix3 (0 : Fin 1) i k : S1x1024x2048.Idx) x).val) e).trans ?_
  match x with
  | ⟨0, _⟩ => show E.val * 1 + 1 * 0 = E.val; omega
  | ⟨1, _⟩ => show 0 * 1024 + 1 * i.val = i.val; omega
  | ⟨2, _⟩ => show 0 * 2048 + 1 * k.val = k.val; omega

theorem read_2 (g : Vec Ideal S32x1x2048 .f32) (t : Fin (cfg0 a).N) (E : Fin 32)
    (e : cc0_transform_2 k0_off1_inb numel1_S1 a.1 (grid0.coords t) = ![E.val, 0, 0]) (k : Fin 2048) :
    ((((cfg0 a).win 2).blk t).view.read (Elt Ideal) g : Vec Ideal S1x1x2048 .f32) (ix3 (0 : Fin 1) (0 : Fin 1) k) = g (ix3 E (0 : Fin 1) k) := by
  refine congrArg g (funext fun x => Fin.ext ?_)
  refine (congrArg (fun z : Fin 3 → Nat => z x * S1x1x2048.size x + 1 * ((ix3 (0 : Fin 1) (0 : Fin 1) k : S1x1x2048.Idx) x).val) e).trans ?_
  match x with
  | ⟨0, _⟩ => show E.val * 1 + 1 * 0 = E.val; omega
  | ⟨1, _⟩ => show 0 * 1 + 1 * 0 = 0; omega
  | ⟨2, _⟩ => show 0 * 2048 + 1 * k.val = k.val; omega

theorem read_3 (g : Vec Ideal S32x1024x1024 .f32) (t : Fin (cfg0 a).N) (E : Fin 32)
    (e : cc0_transform_3 k0_off1_inb numel1_S1 a.1 (grid0.coords t) = ![E.val, 0, 0]) (i : Fin 1024) (k : Fin 1024) :
    ((((cfg0 a).win 3).blk t).view.read (Elt Ideal) g : Vec Ideal S1x1024x1024 .f32) (ix3 (0 : Fin 1) i k) = g (ix3 E i k) := by
  refine congrArg g (funext fun x => Fin.ext ?_)
  refine (congrArg (fun z : Fin 3 → Nat => z x * S1x1024x1024.size x + 1 * ((ix3 (0 : Fin 1) i k : S1x1024x1024.Idx) x).val) e).trans ?_
  match x with
  | ⟨0, _⟩ => show E.val * 1 + 1 * 0 = E.val; omega
  | ⟨1, _⟩ => show 0 * 1024 + 1 * i.val = i.val; omega
  | ⟨2, _⟩ => show 0 * 1024 + 1 * k.val = k.val; omega

theorem read_4 (g : Vec Ideal S32x1x1024 .f32) (t : Fin (cfg0 a).N) (E : Fin 32)
    (e : cc0_transform_4 k0_off1_inb numel1_S1 a.1 (grid0.coords t) = ![E.val, 0, 0]) (k : Fin 1024) :
    ((((cfg0 a).win 4).blk t).view.read (Elt Ideal) g : Vec Ideal S1x1x1024 .f32) (ix3 (0 : Fin 1) (0 : Fin 1) k) = g (ix3 E (0 : Fin 1) k) := by
  refine congrArg g (funext fun x => Fin.ext ?_)
  refine (congrArg (fun z : Fin 3 → Nat => z x * S1x1x1024.size x + 1 * ((ix3 (0 : Fin 1) (0 : Fin 1) k : S1x1x1024.Idx) x).val) e).trans ?_
  match x with
  | ⟨0, _⟩ => show E.val * 1 + 1 * 0 = E.val; omega
  | ⟨1, _⟩ => show 0 * 1 + 1 * 0 = 0; omega
  | ⟨2, _⟩ => show 0 * 1024 + 1 * k.val = k.val; omega

theorem kept_1 (y : Vec Ideal S1x1024x2048 .f32) (i : Fin 1024) (k : Fin 2048) : k0_pay1 (F := Ideal) y (ix2 i k) = y (ix3 (0 : Fin 1) i k) := by
  pointwise [k0_pay1]

theorem kept_2 (y : Vec Ideal S1x1024x1024 .f32) (i : Fin 1024) (k : Fin 1024) : k0_pay2 (F := Ideal) y (ix2 i k) = y (ix3 (0 : Fin 1) i k) := by
  pointwise [k0_pay2]

theorem empty_at (i : S2x1024x256.Idx) : k0_pay4 (F := Ideal) i = (0 : EReal) := Ideal.ofBits_zero_bf16

/-! ## The biases as the call is given them -/

set_option maxHeartbeats 2000000 in
theorem V_first (c : Dev nD) : V m c main_v40 = broadcastInDim S32x1x2048 ![0, 2] bcast_S32x2048_S32x1x2048_0_2 (m ((c : Thread nD τ).loc main_arg3)) := by
  unfold V
  simp only [hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq,
    List.flatten_cons, List.flatten_nil, List.append_nil, List.cons_append, List.nil_append]
  after_results_simp <;> rfl

set_option maxHeartbeats 2000000 in
theorem V_second (c : Dev nD) : V m c main_v41 = broadcastInDim S32x1x1024 ![0, 2] bcast_S32x1024_S32x1x1024_0_2 (m ((c : Thread nD τ).loc main_arg5)) := by
  unfold V
  simp only [hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq,
    List.flatten_cons, List.flatten_nil, List.append_nil, List.cons_append, List.nil_append]
  after_results_simp <;> rfl

theorem spread_first (y : Vec Ideal S32x2048 .f32) (E : Fin 32) (k : Fin 2048) :
    broadcastInDim S32x1x2048 ![0, 2] bcast_S32x2048_S32x1x2048_0_2 y (ix3 E (0 : Fin 1) k) = y (ix2 E k) := by
  pointwise []

theorem spread_second (y : Vec Ideal S32x1024 .f32) (E : Fin 32) (k : Fin 1024) :
    broadcastInDim S32x1x1024 ![0, 2] bcast_S32x1024_S32x1x1024_0_2 y (ix3 E (0 : Fin 1) k) = y (ix2 E k) := by
  pointwise []

end Cert.Proof.Expert

end
-- ==== Proof.Moe.lean ====
/-
  The experts' reference over the reals, in its steps, each read at a block, a row and a column.
-/
module

public import proofs.«01_k».proof.Proof.Tables
public import proofs.«01_k».proof.Proof.Scores
public import proofs.«01_k».proof.Proof.Gen.Reference3Ideal

@[expose] public section

set_option maxRecDepth 16384

noncomputable section

namespace Cert.Proof.Moe

open Cert.Reference3Ideal Cert.Reference3Ideal.Gen
open Idealize.ShloMosaic Idealize.ShloMosaic.TcCoe Idealize.ShloMosaic.Tactic
open Idealize.SL.Sem

/-- The rows by block, zero from a block's count on. -/
def rowsRef (x : Vec Ideal S2x294912x256 .bf16) (n : IVec S288 32) : Vec Ideal S288x512x1024 .f32 :=
  select (broadcastInDim S288x512x1024 ![0, 1, 2] bcast_S288x512x1_S288x512x1024_0_1_2
      (broadcastInDim S288x512x1 ![0, 1] bcast_S288x512_S288x512x1_0_1
        (cmpi .slt (broadcastInDim S288x512 ![0, 1] bcast_S1x512_S288x512_0_1 (broadcastInDim S1x512 ![1] bcast_S512_S1x512_1 (iotaInDim S512 32 0)))
          (broadcastInDim S288x512 ![0, 1] bcast_S288x1_S288x512_0_1 (broadcastInDim S288x1 ![0] bcast_S288_S288x1_0 n)))))
    (extf (F := Ideal) .f32 (shapeCast _ (transpose S288x512x2x2x256 [1, 2, 3, 0, 4]
      (shapeCast _ x shapeCasts_S2x294912x256_S2x288x512x2x256) transposes_S2x288x512x2x256_S288x512x2x2x256_1_2_3_0_4)
      shapeCasts_S288x512x2x2x256_S288x512x1024) bitsLt_bf16_f32)
    (broadcastInDim S288x512x1024 ![] bcast_S_S288x512x1024 (id (constant (F := Ideal) S_ .f32 0x00000000#32)))

/-- The first layer. -/
def firstRef (x : Vec Ideal S288x512x1024 .f32) (w : Vec Ideal S288x1024x2048 .f32) (b : Vec Ideal S288x2048 .f32) : Vec Ideal S288x512x2048 .f32 :=
  addf (Host.dotGeneral (F := Ideal) (φ₁ := .f32) (φ₂ := .f32) dot_S288x512x1024_S288x1024x2048_S288x512x2048_2_1_1_2_0_0 none
      (x : FVec Ideal S288x512x1024 .f32) (w : FVec Ideal S288x1024x2048 .f32))
    (broadcastInDim S288x512x2048 ![0, 1, 2] bcast_S288x1x2048_S288x512x2048_0_1_2 (broadcastInDim S288x1x2048 ![0, 2] bcast_S288x2048_S288x1x2048_0_2 b))

/-- A constant in every place. -/
abbrev filled (v : BitVec 32) : Vec Ideal S288x512x1024 .f32 :=
  broadcastInDim S288x512x1024 ![] bcast_S_S288x512x1024 (constant (F := Ideal) S_ .f32 v)

/-- The gated activation of the first layer's columns, gate columns first. -/
def gateRef (h : Vec Ideal S288x512x2048 .f32) : Vec Ideal S288x512x1024 .f32 :=
  mulf (mulf (minimumf (extractStridedSlice S288x512x1024 ![0, 0, 0] h slices_S288x512x2048_S288x512x1024_0_0_0) (filled 0x40E00000#32))
      (Host.divf (filled 0x3F800000#32) (addf (filled 0x3F800000#32) (Host.exp (Host.negf (mulf (filled 0x3FD9DB23#32)
        (minimumf (extractStridedSlice S288x512x1024 ![0, 0, 0] h slices_S288x512x2048_S288x512x1024_0_0_0) (filled 0x40E00000#32))))))))
    (addf (minimumf (broadcastInDim S288x512x1024 ![] bcast_S_S288x512x1024 (id (constant (F := Ideal) S_ .f32 0x40E00000#32)))
        (maximumf (broadcastInDim S288x512x1024 ![] bcast_S_S288x512x1024 (id (constant (F := Ideal) S_ .f32 0xC0E00000#32)))
          (extractStridedSlice S288x512x1024 ![0, 0, 1024] h slices_S288x512x2048_S288x512x1024_0_0_1024)))
      (filled 0x3F800000#32))

/-- The second layer. -/
def secondRef (x : Vec Ideal S288x512x1024 .f32) (w : Vec Ideal S288x1024x1024 .f32) (b : Vec Ideal S288x1024 .f32) : Vec Ideal S288x512x1024 .f32 :=
  addf (Host.dotGeneral (F := Ideal) (φ₁ := .f32) (φ₂ := .f32) dot_S288x512x1024_S288x1024x1024_S288x512x1024_2_1_1_2_0_0 none
      (x : FVec Ideal S288x512x1024 .f32) (w : FVec Ideal S288x1024x1024 .f32))
    (broadcastInDim S288x512x1024 ![0, 1, 2] bcast_S288x1x1024_S288x512x1024_0_1_2 (broadcastInDim S288x1x1024 ![0, 2] bcast_S288x1024_S288x1x1024_0_2 b))

/-- Blocks without rows at zero, and the result's layout. -/
def placedRef (n : IVec S288 32) (y : Vec Ideal S288x512x1024 .f32) : Vec Ideal S2x294912x256 .bf16 :=
  shapeCast _ (transpose S2x288x512x2x256 [3, 0, 1, 2, 4] (shapeCast _ (truncf (F := Ideal) .bf16
    (select (broadcastInDim S288x512x1024 ![0, 1, 2] bcast_S288x1x1_S288x512x1024_0_1_2 (broadcastInDim S288x1x1 ![0] bcast_S288_S288x1x1_0
        (cmpi .sgt n (broadcastInDim S288 ![] bcast_S_S288 (constantI S_ 32 0#32)))))
      y (broadcastInDim S288x512x1024 ![] bcast_S_S288x512x1024 (id (constant (F := Ideal) S_ .f32 0x00000000#32))))
    bitsLt_bf16_f32) shapeCasts_S288x512x1024_S288x512x2x2x256) transposes_S288x512x2x2x256_S2x288x512x2x256_3_0_1_2_4)
    shapeCasts_S2x288x512x2x256_S2x294912x256

open Cert.Proof.Scores

theorem nought : (id (constant (F := Ideal) S_ .f32 0#32) ix0 : EReal) = 0 := Ideal.ofBits_zero_f32

theorem rowsRef_at (x : Vec Ideal S2x294912x256 .bf16) (n : IVec S288 32) (t : Fin 288) (s : Fin 512) (k : Fin 1024) :
    rowsRef x n (ix3 t s k) = Scalar.select (IntOp.cmpi CmpIPredicate.slt (BitVec.ofNat 32 s.val) (n (ix1 t)))
      (x (ix3 (⟨k.val / 256 % 2, by omega⟩ : Fin 2) (⟨t.val * 1024 + s.val * 2 + k.val / 512, by omega⟩ : Fin 294912) (⟨k.val % 256, by omega⟩ : Fin 256)))
      0 := by
  pointwise [rowsRef]
  exact congrArg _ nought

theorem firstRef_at (x : Vec Ideal S288x512x1024 .f32) (w : Vec Ideal S288x1024x2048 .f32) (b : Vec Ideal S288x2048 .f32) (t : Fin 288) (s : Fin 512) (k : Fin 2048) :
    firstRef x w b (ix3 t s k) = layer (fun i => x (ix3 t s i)) (fun i k => w (ix3 t i k)) (fun k => b (ix2 t k)) k := by
  pointwise [firstRef]
  rfl

theorem gateRef_at (h : Vec Ideal S288x512x2048 .f32) (t : Fin 288) (s : Fin 512) (k : Fin 1024) :
    gateRef h (ix3 t s k) = active (fun k => h (ix3 t s k)) k := by
  pointwise [gateRef]
  rfl

theorem secondRef_at (x : Vec Ideal S288x512x1024 .f32) (w : Vec Ideal S288x1024x1024 .f32) (b : Vec Ideal S288x1024 .f32) (t : Fin 288) (s : Fin 512) (k : Fin 1024) :
    secondRef x w b (ix3 t s k) = layer (fun i => x (ix3 t s i)) (fun i k => w (ix3 t i k)) (fun k => b (ix2 t k)) k := by
  pointwise [secondRef]
  rfl

theorem placedRef_at (n : IVec S288 32) (y : Vec Ideal S288x512x1024 .f32) (p : Fin 2) (r : Fin 294912) (q : Fin 256) :
    placedRef n y (ix3 p r q) = Scalar.select (IntOp.cmpi CmpIPredicate.sgt (n (ix1 (⟨r.val / 1024, by omega⟩ : Fin 288))) 0#32)
      (y (ix3 (⟨r.val / 1024, by omega⟩ : Fin 288) (⟨r.val / 2 % 512, by omega⟩ : Fin 512) (⟨r.val % 2 * 512 + p.val * 256 + q.val, by omega⟩ : Fin 1024)))
      0 := by
  pointwise [placedRef]
  exact congrArg _ nought

end Cert.Proof.Moe

end
-- ==== Proof.Slabs.lean ====
/-
  The experts' weights and biases taken block by block: where a block's index names an expert, the block has that expert's.
-/
module

public import proofs.«01_k».proof.Proof.Moe
public import Idealize.ShloMosaic.Lib.Routing.Ops
public import proofs.«01_k».proof.Proof.Gen.Reference3Ideal.Run

@[expose] public section

set_option maxRecDepth 16384

noncomputable section

namespace Cert.Proof.Moe

open Cert.Reference3Ideal Cert.Reference3Ideal.Gen
open Idealize.ShloMosaic Idealize.ShloMosaic.TcCoe Idealize.ShloMosaic.Tactic
open Idealize.SL.Sem
open Cert.Proof.Plan (expertOf rowsOf asIndex all32)

variable {α : Type}

theorem word_start {b : Nat} (h : b < 32) : min ((BitVec.ofNat 32 b).toInt).toNat 31 = b := by
  rw [StableHlo.Predicate.toInt_ofNat_small _ (by omega)]
  omega

theorem slab_wide (x : S32x1024x2048.Idx → α) (idx : IVec S288x1 32) (t : Fin 288) (i : Fin 1024) (k : Fin 2048) (b : Fin 32)
    (hb : idx (ix2 t (0 : Fin 1)) = BitVec.ofNat 32 b.val) :
    Host.gather gather_S32x1024x2048_S288x1_S288x1024x2048_12_0_n_n_0_1_110242048 x idx (ix3 t i k) = x (ix3 b i k) := by
  have hs : gather_S32x1024x2048_S288x1_S288x1024x2048_12_0_n_n_0_1_110242048.siIdx (ix3 t i k) ⟨0, Nat.one_pos⟩ = ix2 t (0 : Fin 1) := by
    funext a
    match a with
    | ⟨0, _⟩ => rfl
    | ⟨1, _⟩ => rfl
  have key : min ((idx (gather_S32x1024x2048_S288x1_S288x1024x2048_12_0_n_n_0_1_110242048.siIdx (ix3 t i k) ⟨0, Nat.one_pos⟩)).toInt).toNat 31 = b.val := by
    rw [hs, hb]
    exact word_start b.isLt
  unfold Host.gather
  refine congrArg x (funext fun a => Fin.ext ?_)
  match a with
  | ⟨0, _⟩ =>
    exact key
  | ⟨1, _⟩ => exact Nat.zero_add _
  | ⟨2, _⟩ => exact Nat.zero_add _

theorem slab_square (x : S32x1024x1024.Idx → α) (idx : IVec S288x1 32) (t : Fin 288) (i : Fin 1024) (k : Fin 1024) (b : Fin 32)
    (hb : idx (ix2 t (0 : Fin 1)) = BitVec.ofNat 32 b.val) :
    Host.gather gather_S32x1024x1024_S288x1_S288x1024x1024_12_0_n_n_0_1_110241024 x idx (ix3 t i k) = x (ix3 b i k) := by
  have hs : gather_S32x1024x1024_S288x1_S288x1024x1024_12_0_n_n_0_1_110241024.siIdx (ix3 t i k) ⟨0, Nat.one_pos⟩ = ix2 t (0 : Fin 1) := by
    funext a
    match a with
    | ⟨0, _⟩ => rfl
    | ⟨1, _⟩ => rfl
  have key : min ((idx (gather_S32x1024x1024_S288x1_S288x1024x1024_12_0_n_n_0_1_110241024.siIdx (ix3 t i k) ⟨0, Nat.one_pos⟩)).toInt).toNat 31 = b.val := by
    rw [hs, hb]
    exact word_start b.isLt
  unfold Host.gather
  refine congrArg x (funext fun a => Fin.ext ?_)
  match a with
  | ⟨0, _⟩ =>
    exact key
  | ⟨1, _⟩ => exact Nat.zero_add _
  | ⟨2, _⟩ => exact Nat.zero_add _

theorem line_wide (x : S32x2048.Idx → α) (idx : IVec S288x1 32) (t : Fin 288) (k : Fin 2048) (b : Fin 32)
    (hb : idx (ix2 t (0 : Fin 1)) = BitVec.ofNat 32 b.val) :
    Host.gather gather_S32x2048_S288x1_S288x2048_1_0_n_n_0_1_12048 x idx (ix2 t k) = x (ix2 b k) :=
  Routing.gather_row gather_S32x2048_S288x1_S288x2048_1_0_n_n_0_1_12048 rfl rfl rfl rfl rfl x idx t k b hb (by decide)

theorem line_square (x : S32x1024.Idx → α) (idx : IVec S288x1 32) (t : Fin 288) (k : Fin 1024) (b : Fin 32)
    (hb : idx (ix2 t (0 : Fin 1)) = BitVec.ofNat 32 b.val) :
    Host.gather gather_S32x1024_S288x1_S288x1024_1_0_n_n_0_1_11024 x idx (ix2 t k) = x (ix2 b k) :=
  Routing.gather_row gather_S32x1024_S288x1_S288x1024_1_0_n_n_0_1_11024 rfl rfl rfl rfl rfl x idx t k b hb (by decide)

/-! ## The reference as its steps -/

/-- The counts and 511. -/
def lifted (c : IVec S32 32) : IVec S32 32 := addi c (all32 511#32)

/-- The reference's result. -/
def moeRef (x : Vec Ideal S2x294912x256 .bf16) (c : IVec S32 32) (w : Vec Ideal S32x1024x2048 .f32) (b : Vec Ideal S32x2048 .f32)
    (w' : Vec Ideal S32x1024x1024 .f32) (b' : Vec Ideal S32x1024 .f32) : Vec Ideal S2x294912x256 .bf16 :=
  placedRef (rowsOf (lifted c) c) (secondRef (gateRef (firstRef (rowsRef x (rowsOf (lifted c) c))
      (Host.gather gather_S32x1024x2048_S288x1_S288x1024x2048_12_0_n_n_0_1_110242048 w (asIndex (expertOf (lifted c))))
      (Host.gather gather_S32x2048_S288x1_S288x2048_1_0_n_n_0_1_12048 b (asIndex (expertOf (lifted c))))))
    (Host.gather gather_S32x1024x1024_S288x1_S288x1024x1024_12_0_n_n_0_1_110241024 w' (asIndex (expertOf (lifted c))))
    (Host.gather gather_S32x1024_S288x1_S288x1024_1_0_n_n_0_1_11024 b' (asIndex (expertOf (lifted c)))))

variable (m : (ℓ : Loc nD τ sig) → Buf (Elt Ideal) ℓ)

set_option maxHeartbeats 4000000 in
theorem res_eq (c : Dev nD) : Value.res_main_v108 (F := Ideal) m c
    = moeRef (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v108
  rfl

end Cert.Proof.Moe

end
-- ==== Proof.Agree.lean ====
/-
  The experts' call and its reference leave the same array over the reals.
-/
module

public import proofs.«01_k».proof.Proof.Blocks
public import proofs.«01_k».proof.Proof.Slabs

@[expose] public section

set_option maxRecDepth 16384

noncomputable section

namespace Cert.Proof.Expert

open Cert.Kernel3Ideal Cert.Kernel3Ideal.Gen
open Idealize.ShloMosaic Idealize.ShloMosaic.TcCoe Idealize.ShloMosaic.Tactic
open Idealize.SL.Sem
open Cert.Proof.Plan (Counted Sound expertOf rowsOf inUse all32 asIndex)
open Cert.Proof.Scores

/-! ## What both sides compute at a place -/

/-- A row of the block `t`, zero from the block's count `n` on. -/
def rowOf (x : Vec Ideal S2x294912x256 .bf16) (n : BitVec 32) (t : Fin 288) (s : Fin 512) (k : Fin 1024) : EReal :=
  Scalar.select (IntOp.cmpi CmpIPredicate.slt (BitVec.ofNat 32 s.val) n)
    (x (ix3 (⟨k.val / 256 % 2, by omega⟩ : Fin 2) (⟨t.val * 1024 + s.val * 2 + k.val / 512, by omega⟩ : Fin 294912) (⟨k.val % 256, by omega⟩ : Fin 256)))
    0

/-- The expert `E`'s two layers of that row. -/
def placeAt (x : Vec Ideal S2x294912x256 .bf16) (w : Vec Ideal S32x1024x2048 .f32) (b : Vec Ideal S32x2048 .f32)
    (w' : Vec Ideal S32x1024x1024 .f32) (b' : Vec Ideal S32x1024 .f32) (n : BitVec 32) (E : Fin 32) (t : Fin 288) (s : Fin 512) (k : Fin 1024) : EReal :=
  score (rowOf x n t s) (fun i k => w (ix3 E i k)) (fun k => b (ix2 E k)) (fun i k => w' (ix3 E i k)) (fun k => b' (ix2 E k)) k

/-! ## The reference -/

theorem ref_at (x : Vec Ideal S2x294912x256 .bf16) (c : IVec S32 32) (w : Vec Ideal S32x1024x2048 .f32) (b : Vec Ideal S32x2048 .f32)
    (w' : Vec Ideal S32x1024x1024 .f32) (b' : Vec Ideal S32x1024 .f32) (p : Fin 2) (r : Fin 294912) (q : Fin 256) (t : Fin 288) (ht : t.val = r.val / 1024) (E : Fin 32)
    (hE : expertOf (Moe.lifted c) (ix1 t) = BitVec.ofNat 32 E.val) :
    Moe.moeRef x c w b w' b' (ix3 p r q) = Scalar.select (IntOp.cmpi CmpIPredicate.sgt (rowsOf (Moe.lifted c) c (ix1 t)) 0#32)
      (placeAt x w b w' b' (rowsOf (Moe.lifted c) c (ix1 t)) E t (⟨r.val / 2 % 512, by omega⟩ : Fin 512) (⟨r.val % 2 * 512 + p.val * 256 + q.val, by omega⟩ : Fin 1024)) 0 := by
  have ht' : (⟨r.val / 1024, by omega⟩ : Fin 288) = t := Fin.ext ht.symm
  have hi := Plan.index_ap (expertOf (Moe.lifted c)) t E.isLt hE
  unfold Moe.moeRef
  generalize asIndex (expertOf (Moe.lifted c)) = idx at hi ⊢
  generalize rowsOf (Moe.lifted c) c = n
  rw [Moe.placedRef_at, ht', Moe.secondRef_at]
  refine congrArg (fun z : EReal => Scalar.select _ z 0) ?_
  unfold placeAt score
  refine congrArg₂ (fun f g => f g) (congrArg₂ (fun f g => f g) (congrArg₂ layer (funext fun i => ?_) (funext fun i => funext fun k => ?_)) (funext fun k => ?_)) rfl
  · rw [Moe.gateRef_at]
    refine congrArg (fun f => active f i) (funext fun k => ?_)
    rw [Moe.firstRef_at]
    refine congrArg₂ (fun f g => f g) (congrArg₂ (fun f g => f g) (congrArg₂ layer (funext fun i => ?_) (funext fun i => funext fun k => ?_)) (funext fun k => ?_)) rfl
    · rw [Moe.rowsRef_at]
      rfl
    · exact Moe.slab_wide w idx _ i k E hi
    · exact Moe.line_wide b idx _ k E hi
  · exact Moe.slab_square w' idx _ i k E hi
  · exact Moe.line_square b' idx _ k E hi

/-! ## The kernel -/

section

variable (m : (ℓ : Loc nD τ sig) → Buf (Elt Ideal) ℓ) {pf : pre0.Contents (Elt Ideal)} (hs : Sound (blkOf pf) (cntOf pf) (useOf pf))

/-- The tables as the run takes them. -/
abbrev given : (pcfg0 (F := Ideal)).Adm := ⟨pf, admitted hs⟩

theorem rows_same (x : Vec Ideal S2x1024x256 .bf16) (g : Vec Ideal S2x294912x256 .bf16) (n : BitVec 32) (t : Fin 288)
    (h : ∀ (p : Fin 2) (r : Fin 1024) (q : Fin 256), x (ix3 p r q) = g (ix3 p (⟨t.val * 1024 + r.val, by omega⟩ : Fin 294912) q)) (s : Fin 512) (k : Fin 1024) :
    rowAt n (plane 0 x) (plane 1 x) s k = rowOf g n t s k := by
  unfold rowAt rowOf
  refine congrArg (fun z : EReal => Scalar.select _ z 0) ?_
  have hr : (⟨t.val * 1024 + (2 * s.val + k.val / 512), by omega⟩ : Fin 294912) = ⟨t.val * 1024 + s.val * 2 + k.val / 512, by omega⟩ :=
    Fin.ext (by show t.val * 1024 + (2 * s.val + k.val / 512) = t.val * 1024 + s.val * 2 + k.val / 512; omega)
  split
  · rename_i h0
    refine (h 0 _ _).trans (congrArg₂ (fun (p : Fin 2) (u : Fin 294912) => g (ix3 p u (⟨k.val % 256, by omega⟩ : Fin 256))) (Fin.ext ?_) hr)
    show 0 = k.val / 256 % 2
    omega
  · rename_i h0
    refine (h 1 _ _).trans (congrArg₂ (fun (p : Fin 2) (u : Fin 294912) => g (ix3 p u (⟨k.val % 256, by omega⟩ : Fin 256))) (Fin.ext ?_) hr)
    show 1 = k.val / 256 % 2
    omega

theorem done_same (x : Vec Ideal S2x1024x256 .bf16) (w : Vec Ideal S1024x2048 .bf16) (b : Vec Ideal S1x1x2048 .f32) (w' : Vec Ideal S1024x1024 .bf16) (b' : Vec Ideal S1x1x1024 .f32)
    (gx : Vec Ideal S2x294912x256 .bf16) (gw : Vec Ideal S32x1024x2048 .f32) (gb : Vec Ideal S32x2048 .f32)
    (gw' : Vec Ideal S32x1024x1024 .f32) (gb' : Vec Ideal S32x1024 .f32) (n : BitVec 32) (E : Fin 32) (t : Fin 288)
    (h : ∀ (p : Fin 2) (r : Fin 1024) (q : Fin 256), x (ix3 p r q) = gx (ix3 p (⟨t.val * 1024 + r.val, by omega⟩ : Fin 294912) q))
    (hw : ∀ (i : Fin 1024) (k : Fin 2048), w (ix2 i k) = gw (ix3 E i k)) (hb : ∀ k : Fin 2048, b (ix3 (0 : Fin 1) (0 : Fin 1) k) = gb (ix2 E k))
    (hw' : ∀ (i : Fin 1024) (k : Fin 1024), w' (ix2 i k) = gw' (ix3 E i k)) (hb' : ∀ k : Fin 1024, b' (ix3 (0 : Fin 1) (0 : Fin 1) k) = gb' (ix2 E k))
    (s : Fin 512) (k : Fin 1024) : doneAt n (plane 0 x) (plane 1 x) w b w' b' s k = placeAt gx gw gb gw' gb' n E t s k := by
  unfold doneAt placeAt
  rw [show rowAt n (plane 0 x) (plane 1 x) s = rowOf gx n t s from funext fun k => rows_same x gx n t h s k,
    show (fun (i : Fin 1024) (k : Fin 2048) => w (ix2 i k)) = fun i k => gw (ix3 E i k) from funext fun i => funext fun k => hw i k,
    show (fun k : Fin 2048 => b (ix3 (0 : Fin 1) (0 : Fin 1) k)) = fun k => gb (ix2 E k) from funext hb,
    show (fun (i : Fin 1024) (k : Fin 1024) => w' (ix2 i k)) = fun i k => gw' (ix3 E i k) from funext fun i => funext fun k => hw' i k,
    show (fun k : Fin 1024 => b' (ix3 (0 : Fin 1) (0 : Fin 1) k)) = fun k => gb' (ix2 E k) from funext hb']

theorem index_of (v : BitVec 32) (E : Fin 32) (h : v = BitVec.ofNat 32 E.val) : (![v.toNat, 0, 0] : Fin 3 → Nat) = ![E.val, 0, 0] := by
  rw [h, BitVec.toNat_ofNat, Nat.mod_eq_of_lt (by omega)]

theorem blk_here (t : Fin grid0.N) (t' : Fin 288) (h : t'.val = t.val) : blkOf pf (here (grid0.coords t)) = blkOf pf (ValueIdx.ix1 t') :=
  (congrArg (blkOf pf) (here_ix t)).trans (congrArg (fun u : Fin 288 => blkOf pf (ValueIdx.ix1 u)) (Fin.ext h.symm))
theorem cnt_here (t : Fin grid0.N) (t' : Fin 288) (h : t'.val = t.val) : cntOf pf (here (grid0.coords t)) = cntOf pf (ValueIdx.ix1 t') :=
  (congrArg (cntOf pf) (here_ix t)).trans (congrArg (fun u : Fin 288 => cntOf pf (ValueIdx.ix1 u)) (Fin.ext h.symm))

/-- A block with rows, at a place. -/
theorem live_at (c : Dev nD) (t : Fin (cfg0 (given hs)).N) (t' : Fin 288) (h : t'.val = t.val) (hl : live (given hs) t) (E : Fin 32)
    (hE : blkOf pf (ValueIdx.ix1 t') = BitVec.ofNat 32 E.val) (p : Fin 2) (r : Fin 1024) (q : Fin 256) :
    outAt m (given hs) c t (ix3 p r q) = placeAt (m ((c : Thread nD τ).loc main_arg0)) (m ((c : Thread nD τ).loc main_arg2)) (m ((c : Thread nD τ).loc main_arg3))
      (m ((c : Thread nD τ).loc main_arg4)) (m ((c : Thread nD τ).loc main_arg5)) (cntOf pf (ValueIdx.ix1 t')) E t'
      (⟨r.val / 2, by omega⟩ : Fin 512) (⟨r.val % 2 * 512 + p.val * 256 + q.val, by omega⟩ : Fin 1024) := by
  have hb : blkOf pf (here (grid0.coords t)) = BitVec.ofNat 32 E.val := (blk_here t t' h).trans hE
  have h0 : t.val < 288 := h ▸ t'.isLt
  have ht : t' = ⟨t.val, h0⟩ := Fin.ext h
  have hn : cntT (given hs) (here (grid0.coords t)) = cntOf pf (ValueIdx.ix1 t') := cnt_here t t' h
  unfold outAt
  rw [if_pos hl, hn]
  refine (worked_at _ _ _ _ _ _ p r q).trans ?_
  refine done_same _ _ _ _ _ _ _ _ _ _ _ E t' (fun p r q => ?_) (fun i k => ?_) (fun k => ?_) (fun i k => ?_) (fun k => ?_) _ _
  · rw [ht, ← V_arg0 m c]
    exact read_0 (given hs) (V m c main_arg0) t h0 (own_rows hs t hl) p r q
  · rw [← V_arg2 m c]
    exact (kept_1 _ i k).trans (read_1 (given hs) (V m c main_arg2) t E ((transform_1 pf _).trans (index_of _ E hb)) i k)
  · refine (read_2 (given hs) (V m c main_v40) t E ((transform_2 _).trans (index_of _ E hb)) k).trans ?_
    rw [V_first]
    exact spread_first _ E k
  · rw [← V_arg4 m c]
    exact (kept_2 _ i k).trans (read_3 (given hs) (V m c main_arg4) t E ((transform_3 pf _).trans (index_of _ E hb)) i k)
  · refine (read_4 (given hs) (V m c main_v41) t E ((transform_4 _).trans (index_of _ E hb)) k).trans ?_
    rw [V_second]
    exact spread_second _ E k

theorem more_iff (n : BitVec 32) : Iff (IntOp.cmpi CmpIPredicate.sgt n 0#32 = 1#1) (k0_cond2 n = 1#1) := by
  rw [cond2_iff]
  exact StableHlo.Predicate.ofBool_eq_one_iff _

theorem out_at (c : Dev nD) (p : Fin 2) (r : Fin 294912) (q : Fin 256) (t : Fin 288) (ht : t.val = r.val / 1024) (E : Fin 32)
    (hE : blkOf pf (ValueIdx.ix1 t) = BitVec.ofNat 32 E.val) :
    outArr m (given hs) c (ix3 p r q) = Scalar.select (IntOp.cmpi CmpIPredicate.sgt (cntOf pf (ValueIdx.ix1 t)) 0#32)
      (placeAt (m ((c : Thread nD τ).loc main_arg0)) (m ((c : Thread nD τ).loc main_arg2)) (m ((c : Thread nD τ).loc main_arg3))
      (m ((c : Thread nD τ).loc main_arg4)) (m ((c : Thread nD τ).loc main_arg5)) (cntOf pf (ValueIdx.ix1 t)) E t (⟨r.val / 2 % 512, by omega⟩ : Fin 512) (⟨r.val % 2 * 512 + p.val * 256 + q.val, by omega⟩ : Fin 1024)) 0 := by
  have hp : t.val = (opt (given hs) (ix3 p r q)).val := ht
  have hloc : oloc (ix3 p r q) = ix3 p (⟨r.val % 1024, Nat.mod_lt _ (by decide)⟩ : Fin 1024) q := by
    funext x
    match x with
    | ⟨0, _⟩ => rfl
    | ⟨1, _⟩ => rfl
    | ⟨2, _⟩ => rfl
  have hc : cntT (given hs) (here (grid0.coords (opt (given hs) (ix3 p r q)))) = cntOf pf (ValueIdx.ix1 t) := cnt_here _ t hp
  unfold outArr
  rw [hloc]
  by_cases hl : live (given hs) (opt (given hs) (ix3 p r q))
  · have h1 : IntOp.cmpi CmpIPredicate.sgt (cntOf pf (ValueIdx.ix1 t)) 0#32 = 1#1 := (more_iff _).mpr (hc ▸ hl)
    rw [h1, live_at m hs c _ t hp hl E hE]
    refine Eq.trans ?_ (if_pos rfl).symm
    refine congrArg₂ (fun s k => placeAt _ _ _ _ _ _ E t s k) (Fin.ext ?_) (Fin.ext ?_)
    · show r.val % 1024 / 2 = r.val / 2 % 512
      omega
    · show r.val % 1024 % 2 * 512 + p.val * 256 + q.val = r.val % 2 * 512 + p.val * 256 + q.val
      omega
  · have h1 : ¬IntOp.cmpi CmpIPredicate.sgt (cntOf pf (ValueIdx.ix1 t)) 0#32 = 1#1 := fun h => hl (by rw [live, hc]; exact (more_iff _).mp h)
    have e : outAt m (given hs) c (opt (given hs) (ix3 p r q)) = k0_pay4 (F := Ideal) := by
      unfold outAt
      exact if_neg hl
    rw [e]
    exact (empty_at _).trans (if_neg h1).symm

end

/-! ## The two sides -/

theorem raised_at (c : IVec S32 32) (j : Fin 32) : raised c (ValueIdx.ix1 j) = Moe.lifted c (ValueIdx.ix1 j) := by
  show (c (ValueIdx.ix1 j) + all32 512#32 (ValueIdx.ix1 j)) - all32 1#32 (ValueIdx.ix1 j) = c (ValueIdx.ix1 j) + all32 511#32 (ValueIdx.ix1 j)
  rw [Plan.all32_at, Plan.all32_at, Plan.all32_at]
  apply BitVec.eq_of_toNat_eq
  simp only [BitVec.toNat_sub, BitVec.toNat_add, BitVec.toNat_ofNat]
  omega

theorem raised_eq (c : IVec S32 32) : raised c = Moe.lifted c := by
  funext i
  have ei : i = ValueIdx.ix1 (i 0 : Fin 32) := funext fun x => Fin.ext (match x with | ⟨0, _⟩ => rfl)
  exact (congrArg (raised c) ei).trans ((raised_at c _).trans (congrArg (Moe.lifted c) ei.symm))

variable (m : (ℓ : Loc nD τ sig) → Buf (Elt Ideal) ℓ)

theorem moe_agrees {f : Nat → Nat} (hf : Counted (theCounts m) f) (c : Dev nD) :
    Moe.moeRef (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      = outArr m (given (plan_sound m hf)) c := by
  obtain rfl := dev_eq c
  funext i
  obtain ⟨p, r, q, rfl⟩ : ∃ (p : Fin 2) (r : Fin 294912) (q : Fin 256), i = ix3 p r q := ⟨i 0, i 1, i 2, eq_ix3 i⟩
  obtain ⟨E, hE⟩ := (plan_sound m hf).expert (⟨r.val / 1024, by omega⟩ : Fin 288)
  have e1 : blkOf (plan m) = expertOf (Moe.lifted (theCounts m)) := congrArg expertOf (raised_eq _)
  have e2 : cntOf (plan m) = rowsOf (Moe.lifted (theCounts m)) (theCounts m) := congrArg (fun u => rowsOf u (theCounts m)) (raised_eq _)
  refine (ref_at _ _ _ _ _ _ p r q _ rfl E ((congrFun e1 _).symm.trans hE)).trans ?_
  refine Eq.trans ?_ (out_at m (plan_sound m hf) _ p r q _ rfl E hE).symm
  rw [e2]
  rfl

end Cert.Proof.Expert

end
-- ==== Proof.Decode.lean ====
/-
  A bfloat16 number is the float32 number whose upper half it is, over the extended reals too.
-/
module

public import Idealize.ShloMosaic.PureOps.Ideal

@[expose] public section

noncomputable section

namespace Cert.Proof.Weighed

open Idealize.ShloMosaic

theorem widened (b : BitVec 16) (w : BitVec 32) (h : w.toNat = b.toNat * 65536) : Ideal.ofBits .bf16 b = Ideal.ofBits .f32 w := by
  show Ideal.ieee 8 7 b = Ideal.ieee 8 23 w
  have hb : b.toNat < 65536 := b.isLt
  have e1 : w.extractLsb' (8 + 23) 1 = b.extractLsb' (8 + 7) 1 := by
    apply BitVec.eq_of_toNat_eq
    simp only [BitVec.extractLsb'_toNat, Nat.shiftRight_eq_div_pow, h]
    omega
  have e2 : w.extractLsb' 23 8 = b.extractLsb' 7 8 := by
    apply BitVec.eq_of_toNat_eq
    simp only [BitVec.extractLsb'_toNat, Nat.shiftRight_eq_div_pow, h]
    omega
  have e3 : (w.extractLsb' 0 23).toNat = (b.extractLsb' 0 7).toNat * 65536 := by
    simp only [BitVec.extractLsb'_toNat, Nat.shiftRight_eq_div_pow, h]
    omega
  unfold Ideal.ieee
  simp only [e1, e2, e3]
  generalize (b.extractLsb' 0 7).toNat = f
  generalize (b.extractLsb' 7 8).toNat = x
  have hz : (f * 65536 = 0) ↔ (f = 0) := ⟨fun h => by omega, fun h => by omega⟩
  simp only [hz]
  have p1 : (2 : ℝ) ^ (1 - (2 ^ (8 - 1) - 1) - ((7 : ℕ) : ℤ) : ℤ) = (65536 : ℝ) * (2 : ℝ) ^ (1 - (2 ^ (8 - 1) - 1) - ((23 : ℕ) : ℤ) : ℤ) := by
    norm_num
  have p2 : (2 : ℝ) ^ ((x : ℤ) - (2 ^ (8 - 1) - 1) - ((7 : ℕ) : ℤ) : ℤ) = (65536 : ℝ) * (2 : ℝ) ^ ((x : ℤ) - (2 ^ (8 - 1) - 1) - ((23 : ℕ) : ℤ) : ℤ) := by
    rw [show (65536 : ℝ) = (2 : ℝ) ^ (16 : ℤ) by norm_num, ← zpow_add₀ (by norm_num)]
    refine congrArg _ ?_
    norm_num
    omega
  split_ifs <;> first
    | rfl
    | (refine congrArg _ ?_; rw [p1]; push_cast; ring)
    | (refine congrArg _ ?_; rw [p2]; push_cast; ring)

theorem low_half (w : BitVec 32) : Ideal.ofBits .bf16 (w.extractLsb' 0 16) = Ideal.ofBits .f32 (w <<< 16) :=
  widened _ _ (by
    have := w.isLt
    simp only [BitVec.extractLsb'_toNat, BitVec.toNat_shiftLeft, Nat.shiftRight_eq_div_pow, Nat.shiftLeft_eq]
    omega)

theorem mask_bit : ∀ i : Fin 32, (4294901760#32 : BitVec 32)[i.val] = decide (16 ≤ i.val) := by decide

theorem high_half (w : BitVec 32) : Ideal.ofBits .bf16 (w.extractLsb' 16 16) = Ideal.ofBits .f32 (w &&& 4294901760#32) :=
  widened _ _ (by
    have hw := w.isLt
    have e : w &&& 4294901760#32 = (w >>> 16) <<< 16 := by
      ext i hi
      simp only [BitVec.getElem_and, BitVec.getElem_shiftLeft, BitVec.getElem_ushiftRight]
      rw [mask_bit ⟨i, hi⟩]
      by_cases h : 16 ≤ i
      · have e : 16 + (i - 16) = i := by omega
        simp [h, e, Nat.not_lt.mpr h, hi]
      · simp [h, Nat.lt_of_not_le h]
    rw [e]
    simp only [BitVec.extractLsb'_toNat, BitVec.toNat_shiftLeft, BitVec.toNat_ushiftRight, Nat.shiftRight_eq_div_pow, Nat.shiftLeft_eq]
    omega)

end Cert.Proof.Weighed

end
-- ==== Proof.Weighed.lean ====
/-
  The weighted sum of the expert rows and the final norm over the extended reals: the call's body and the reference read at a row
  and a column.
-/
module

public import proofs.«01_k».proof.Proof.Decode
public import proofs.«01_k».proof.Proof.Gen.Kernel4Ideal.Value
public import proofs.«01_k».proof.Proof.Gen.Reference4Ideal.Run
public import Idealize.ShloMosaic.Lib.Pointwise
public import Idealize.ShloMosaic.Lib.BitcastConvert

@[expose] public section

set_option maxRecDepth 16384

noncomputable section

namespace Cert.Proof.Weighed

open Idealize.ShloMosaic Idealize.ShloMosaic.TcCoe Idealize.ShloMosaic.Tactic
open Idealize.SL.Sem

/-- A row's column, from the word it lies in: the lower half for the first 512 columns, the upper half for the others. -/
def part (w : BitVec 32) (k : Fin 1024) : EReal :=
  if k.val < 512 then Ideal.ofBits .f32 (w <<< 16) else Ideal.ofBits .f32 (w &&& 4294901760#32)

/-- The residual row with four rows added under their gates. -/
def stream (H : Fin 1024 → EReal) (G : Fin 4 → EReal) (Y : Fin 4 → Fin 1024 → EReal) (k : Fin 1024) : EReal :=
  H k + (G 0 * Y 0 k + G 1 * Y 1 k + G 2 * Y 2 k + G 3 * Y 3 k)

/-- A row under the norm. -/
def normed (S : Fin 1024 → EReal) (g : Fin 1024 → EReal) (k : Fin 1024) : EReal :=
  S k * Ideal.rsqrt (Ideal.div (∑ i, S i * S i) (Ideal.ofBits .f32 1149239296#32) + Ideal.ofBits .f32 925353388#32) * g k

section

open Cert.Kernel4Ideal Cert.Kernel4Ideal.Gen

/-- A row's columns from its two planes of words. -/
def cols (u v : Vec Ideal S1x1x1024x256 .i32) (s : Fin 1024) (k : Fin 1024) : EReal :=
  part ((if k.val / 256 % 2 = 0 then u else v) (ix4 (0 : Fin 1) (0 : Fin 1) s (⟨k.val % 256, by omega⟩ : Fin 256))) k

theorem low_col (u v y : Vec Ideal S1x1x1024x256 .i32) (s k : Fin 1024) (q : Fin 256)
    (hk : k.val < 512) (hy : (if k.val / 256 % 2 = 0 then u else v) = y) (hq : q.val = k.val % 256) :
    Ideal.ofBits .f32 ((y (ix4 (0 : Fin 1) (0 : Fin 1) s q)) <<< 16) = cols u v s k := by
  unfold cols part
  rw [if_pos hk, hy, show q = ⟨k.val % 256, by omega⟩ from Fin.ext hq]

theorem high_col (u v y : Vec Ideal S1x1x1024x256 .i32) (s k : Fin 1024) (q : Fin 256)
    (hk : ¬k.val < 512) (hy : (if k.val / 256 % 2 = 0 then u else v) = y) (hq : q.val = k.val % 256) :
    Ideal.ofBits .f32 ((y (ix4 (0 : Fin 1) (0 : Fin 1) s q)) &&& 4294901760#32) = cols u v s k := by
  unfold cols part
  rw [if_neg hk, hy, show q = ⟨k.val % 256, by omega⟩ from Fin.ext hq]

theorem shifted (w : BitVec 32) : IntOp.shli ArithUnit.vector w 16#32 = w <<< 16 := rfl

/-- The four quarters laid beside each other are the row's columns. -/
theorem quarters (u v : Vec Ideal S1x1x1024x256 .i32) (s k : Fin 1024) :
    (if h : k.val < 256 then Ideal.ofBits FTy.f32 (IntOp.shli ArithUnit.vector (u (ix4 (0 : Fin 1) (0 : Fin 1) s (⟨k.val, h⟩ : Fin 256))) 16#32)
      else if h : k.val - 256 < 256 then
          Ideal.ofBits FTy.f32 (IntOp.shli ArithUnit.vector (v (ix4 (0 : Fin 1) (0 : Fin 1) s (⟨k.val - 256, h⟩ : Fin 256))) 16#32)
        else if h : k.val - 256 - 256 < 256 then
            Ideal.ofBits FTy.f32 (IntOp.andi (u (ix4 (0 : Fin 1) (0 : Fin 1) s (⟨k.val - 256 - 256, h⟩ : Fin 256))) 4294901760#32)
          else Ideal.ofBits FTy.f32 (IntOp.andi (v (ix4 (0 : Fin 1) (0 : Fin 1) s (⟨k.val - 256 - 256 - 256, by omega⟩ : Fin 256))) 4294901760#32))
      = cols u v s k := by
  have hk := k.isLt
  split
  · exact low_col u v u s k _ (by omega) (if_pos (by omega)) (show k.val = _ by omega)
  · split
    · exact low_col u v v s k _ (by omega) (if_neg (by omega)) (show k.val - 256 = _ by omega)
    · split
      · exact high_col u v u s k _ (by omega) (if_pos (by omega)) (show k.val - 256 - 256 = _ by omega)
      · exact high_col u v v s k _ (by omega) (if_neg (by omega)) (show k.val - 256 - 256 - 256 = _ by omega)

theorem pay2_at (g : Vec Ideal S1024x128 .f32) (u v : Vec Ideal S1x1x1024x256 .i32) (s k : Fin 1024) :
    k0_pay2 g u v (ix2 s k) = g (ix2 s (0 : Fin 128)) * cols u v s k := by
  pointwise [k0_pay2]
  exact congrArg (_ * ·) (quarters u v s k)

theorem pay8_at (g : Vec Ideal S1024x128 .f32) (a : FVec Ideal S1024x1024 .f32) (u v u' v' : Vec Ideal S1x1x1024x256 .i32) (s k : Fin 1024) :
    k0_pay8 g a (k0_pay4 u) (k0_pay5 u) (k0_pay6 v) (k0_pay7 v) u' v' (ix2 s k)
      = a (ix2 s k) + g (ix2 s (1 : Fin 128)) * cols u v s k + g (ix2 s (2 : Fin 128)) * cols u' v' s k := by
  pointwise [k0_pay8, k0_pay4, k0_pay5, k0_pay6, k0_pay7, k0_pay3]
  rw [quarters u v s k, quarters u' v' s k]

/-- The residual row with the sum of the four rows, as the body has it. -/
def merged (g : Vec Ideal S1024x128 .f32) (a : FVec Ideal S1024x1024 .f32) (u v : Vec Ideal S1x1x1024x256 .i32) (h : Vec Ideal S1024x1024 .f32) (s k : Fin 1024) : EReal :=
  h (ix2 s k) + (a (ix2 s k) + g (ix2 s (3 : Fin 128)) * cols u v s k)

theorem pay1_at (g : Vec Ideal S1024x128 .f32) (a : FVec Ideal S1024x1024 .f32) (u v : Vec Ideal S1x1x1024x256 .i32) (h : Vec Ideal S1024x1024 .f32)
    (n : Vec Ideal S1x1024 .f32) (s k : Fin 1024) :
    k0_pay1 g a (k0_pay10 u) (k0_pay11 u) v h n (ix2 s k) = normed (merged g a u v h s) (fun i => n (ix2 (0 : Fin 1) i)) k := by
  pointwise [k0_pay1, k0_pay10, k0_pay11, k0_pay9]
  simp only [quarters]
  rfl

end

section

open Cert.Reference4Ideal Cert.Reference4Ideal.Gen

/-- The four expert rows of each token, as the reference takes them out of the words. -/
def rowsRef (y : IVec S4x2x32768x256 32) : Vec Ideal S4x32768x1024 .f32 :=
  extf .f32 (s := S4x32768x1024) (shapeCast S4x32768x1024 (transpose S4x32768x2x2x256 [0, 2, 4, 1, 3] (bitcastToFloat (F := Ideal) .bf16 (Host.bitcastConvertNarrow S4x2x32768x256x2 16 y splits_S4x2x32768x256_w32_S4x2x32768x256x2_w16)) transposes_S4x2x32768x256x2_S4x32768x2x2x256_0_2_4_1_3) shapeCasts_S4x32768x2x2x256_S4x32768x1024 ) bitsLt_bf16_f32

theorem rowsRef_at (y : IVec S4x2x32768x256 32) (j : Fin 4) (r : Fin 32768) (k : Fin 1024) :
    rowsRef y (ix3 j r k) = part (y (ix4 j (⟨k.val / 256 % 2, by omega⟩ : Fin 2) r (⟨k.val % 256, by omega⟩ : Fin 256))) k := by
  pointwise [rowsRef]
  have e : splits_S4x2x32768x256_w32_S4x2x32768x256x2_w16.drop (ix5 j (⟨k.val / 256 % 2, by omega⟩ : Fin 2) r (⟨k.val % 256, by omega⟩ : Fin 256) (⟨k.val / 512, by omega⟩ : Fin 2))
      = ix4 j (⟨k.val / 256 % 2, by omega⟩ : Fin 2) r (⟨k.val % 256, by omega⟩ : Fin 256) := by
    funext x; apply Fin.ext
    match x with
    | ⟨0, _⟩ => rfl
    | ⟨1, _⟩ => rfl
    | ⟨2, _⟩ => rfl
    | ⟨3, _⟩ => rfl
  rw [e]
  unfold part
  have hk := k.isLt
  split
  · rw [show k.val / 512 * 16 = 0 by omega]; exact low_half _
  · rw [show k.val / 512 * 16 = 16 by omega]; exact high_half _

/-- The residual stream with the four rows added. -/
def streamRef (h : Vec Ideal S32768x1024 .f32) (g : Vec Ideal S32768x128 .f32) (y : Vec Ideal S4x32768x1024 .f32) : Vec Ideal S32768x1024 .f32 :=
  addf h (Host.reduceAdd (mulf y (broadcastInDim S4x32768x1024 ![0, 1, 2] bcast_S4x32768x1_S4x32768x1024_0_1_2 (broadcastInDim S4x32768x1 ![0, 1] bcast_S4x32768_S4x32768x1_0_1 (transpose S4x32768 [1, 0] (extractStridedSlice S32768x4 ![0, 0] g slices_S32768x128_S32768x4_0_0) transposes_S32768x4_S4x32768_1_0)))) (constant (F := Ideal) S_ .f32 0x00000000#32) reducesTo_S4x32768x1024_S32768x1024_d0 h_S_)

theorem streamRef_at (h : Vec Ideal S32768x1024 .f32) (g : Vec Ideal S32768x128 .f32) (y : Vec Ideal S4x32768x1024 .f32) (r : Fin 32768) (k : Fin 1024) :
    streamRef h g y (ix2 r k) = stream (fun i => h (ix2 r i)) (fun j => g (ix2 r (⟨j.val, by omega⟩ : Fin 128))) (fun j i => y (ix3 j r i)) k := by
  pointwise [streamRef]
  rw [Fin.sum_univ_four]
  unfold stream
  simp only [mul_comm (y _)]

/-- The rows under the norm. -/
def normRef (x : Vec Ideal S32768x1024 .f32) (g : Vec Ideal S1024 .f32) : Vec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x3727C5AC#32)))))) (broadcastInDim S32768x1024 ![0, 1] bcast_S1x1024_S32768x1024_0_1 (broadcastInDim S1x1024 ![1] bcast_S1024_S1x1024_1 g))

theorem normRef_at (x : Vec Ideal S32768x1024 .f32) (g : Vec Ideal S1024 .f32) (r : Fin 32768) (k : Fin 1024) :
    normRef x g (ix2 r k) = normed (fun i => x (ix2 r i)) (fun i => g (ix1 i)) k := by
  pointwise [normRef]
  rfl

/-- The reference's result. -/
def layerRef (h : Vec Ideal S32768x1024 .f32) (g : Vec Ideal S32768x128 .f32) (y : IVec S4x2x32768x256 32) (n : Vec Ideal S1024 .f32) (p : Vec Ideal S65536x1024 .f32) : Vec Ideal S65536x1024 .f32 :=
  concatenate S65536x1024 0 [⟨S32768x1024, extractStridedSlice S32768x1024 ![0, 0] p slices_S65536x1024_S32768x1024_0_0⟩, ⟨S32768x1024, normRef (streamRef h g (rowsRef y)) n⟩] concatenates_S32768x1024_S32768x1024_S65536x1024_d0

theorem layerRef_at (h : Vec Ideal S32768x1024 .f32) (g : Vec Ideal S32768x128 .f32) (y : IVec S4x2x32768x256 32) (n : Vec Ideal S1024 .f32) (p : Vec Ideal S65536x1024 .f32) (r : Fin 65536) (k : Fin 1024) :
    layerRef h g y n p (ix2 r k) = if h' : r.val < 32768 then p (ix2 r k) else normRef (streamRef h g (rowsRef y)) n (ix2 (⟨r.val - 32768, by omega⟩ : Fin 32768) k) := by
  pointwise [layerRef]

end

end Cert.Proof.Weighed

end
-- ==== Proof.Combine.lean ====
/-
  The weighted-sum call over the extended reals: its result at a row and a column, against the reference's.
-/
module

public import proofs.«01_k».proof.Proof.Weighed

@[expose] public section

set_option maxRecDepth 16384

noncomputable section

namespace Cert.Proof.Weighed

open Cert.Kernel4Ideal Cert.Kernel4Ideal.Gen
open Idealize.ShloMosaic Idealize.ShloMosaic.TcCoe Idealize.ShloMosaic.Tactic
open Idealize.SL.Sem

theorem zero2 : (![0, 0] : Fin 2 → Nat) = fun _ => 0 := funext fun a => by fin_cases a <;> rfl

/-- One plane of a block of words. -/
def plane (y : Vec Ideal S4x2x1024x256 .i32) (k : Fin 4) (p : Fin 2) : Vec Ideal S1x1x1024x256 .i32 :=
  fun i => y (ix4 k p (i 2) (i 3))

/-- What the body computes of its blocks. -/
def body (h : Vec Ideal S1024x1024 .f32) (g : Vec Ideal S1024x128 .f32) (y : Vec Ideal S4x2x1024x256 .i32) (n : Vec Ideal S1x1024 .f32) : Vec Ideal S1024x1024 .f32 :=
  k0_pay1 g (k0_pay8 g (k0_pay2 g (plane y 0 0) (plane y 0 1)) (k0_pay4 (plane y 1 0)) (k0_pay5 (plane y 1 0)) (k0_pay6 (plane y 1 1)) (k0_pay7 (plane y 1 1)) (plane y 2 0) (plane y 2 1))
    (k0_pay10 (plane y 3 0)) (k0_pay11 (plane y 3 0)) (plane y 3 1) h n

theorem ld_plane (y : Vec Ideal S4x2x1024x256 .i32) (k : Fin 4) (p : Fin 2)
    (inb : ∀ a, (![k.val, p.val, 0, 0] : Fin 4 → Nat) a + S1x1x1024x256.size a ≤ S4x2x1024x256.size a) :
    View.ld (Val := Elt Ideal) y (Rect.unit ![k.val, p.val, 0, 0] S1x1x1024x256.size inb) = plane y k p := by
  funext i
  refine congrArg y ?_
  funext x; apply Fin.ext
  match x with
  | ⟨0, _⟩ => show k.val + 1 * (i 0).val = k.val; have : (i 0).val < 1 := (i 0).isLt; omega
  | ⟨1, _⟩ => show p.val + 1 * (i 1).val = p.val; have : (i 1).val < 1 := (i 1).isLt; omega
  | ⟨2, _⟩ => show 0 + 1 * (i 2).val = (i 2).val; omega
  | ⟨3, _⟩ => show 0 + 1 * (i 3).val = (i 3).val; omega

theorem out_eq (c : Dev nD) (i : grid0.Coords) (arg1 : Memref sig .tc .vmem S1024x1024 .f32) (h1 : arg1.IsWhole) (arg2 : Memref sig .tc .vmem S1024x128 .f32) (h2 : arg2.IsWhole) (arg3 : Memref sig .tc .vmem S4x2x1024x256 .i32) (h3 : arg3.IsWhole) (arg4 : Memref sig .tc .vmem S1x1024 .f32) (h4 : arg4.IsWhole) (arg6 : Memref sig .tc .vmem S1024x1024 .f32) (h6 : arg6.IsWhole)
    (x0 : Vec Ideal S1024x1024 .f32) (x1 : Vec Ideal S1024x128 .f32) (x2 : Vec Ideal S4x2x1024x256 .i32) (x3 : Vec Ideal S1x1024 .f32) :
    out0_A_4 c i arg1 h1 arg2 h2 arg3 h3 arg4 h4 arg6 h6 x0 x1 x2 x3 = body x0 x1 x2 x3 := by
  unfold out0_A_4
  rw [View.read_writes_eq_canon _ _ _ (cover0_A_4 c i arg1 h1 arg2 h2 arg3 h3 arg4 h4 arg6 h6 x0 x1 x2 x3)]
  unfold kernelRun0_A
  dsimp only
  rw [View.canon_unit_zero zero2]
  sl_unfold_words
  simp only [View.readAt_eq_ld, h1.read_unread, h2.read_unread, h3.read_unread, h4.read_unread,
    View.ld_unit_zero (S := S1024x1024) zero2, View.ld_unit_zero (S := S1024x128) zero2, View.ld_unit_zero (S := S1x1024) zero2]
  unfold body
  rw [← ld_plane x2 0 0 inb_S4x2x1024x256_S1x1x1024x256_0_0_0_0, ← ld_plane x2 0 1 inb_S4x2x1024x256_S1x1x1024x256_0_1_0_0,
    ← ld_plane x2 1 0 inb_S4x2x1024x256_S1x1x1024x256_1_0_0_0, ← ld_plane x2 1 1 inb_S4x2x1024x256_S1x1x1024x256_1_1_0_0,
    ← ld_plane x2 2 0 inb_S4x2x1024x256_S1x1x1024x256_2_0_0_0, ← ld_plane x2 2 1 inb_S4x2x1024x256_S1x1x1024x256_2_1_0_0,
    ← ld_plane x2 3 0 inb_S4x2x1024x256_S1x1x1024x256_3_0_0_0, ← ld_plane x2 3 1 inb_S4x2x1024x256_S1x1x1024x256_3_1_0_0]
  rfl

/-- A row's columns from a block of words. -/
def wordCols (y : Fin 2 → Fin 256 → BitVec 32) (k : Fin 1024) : EReal :=
  part (y (⟨k.val / 256 % 2, by omega⟩ : Fin 2) (⟨k.val % 256, by omega⟩ : Fin 256)) k

theorem cols_plane (y : Vec Ideal S4x2x1024x256 .i32) (j : Fin 4) (s k : Fin 1024) :
    cols (plane y j 0) (plane y j 1) s k = wordCols (fun p q => y (ix4 j p s q)) k := by
  unfold cols wordCols
  refine congrArg (part · k) ?_
  split
  · rename_i h
    rw [show (⟨k.val / 256 % 2, by omega⟩ : Fin 2) = 0 from Fin.ext h]; rfl
  · rename_i h
    rw [show (⟨k.val / 256 % 2, by omega⟩ : Fin 2) = 1 from Fin.ext (show k.val / 256 % 2 = 1 by omega)]; rfl

/-- The body's result at a row and a column. -/
theorem body_at (h : Vec Ideal S1024x1024 .f32) (g : Vec Ideal S1024x128 .f32) (y : Vec Ideal S4x2x1024x256 .i32) (n : Vec Ideal S1x1024 .f32) (s k : Fin 1024) :
    body h g y n (ix2 s k) = normed (stream (fun i => h (ix2 s i)) (fun j => g (ix2 s (⟨j.val, by omega⟩ : Fin 128)))
      (fun j => wordCols (fun p q => y (ix4 j p s q)))) (fun i => n (ix2 (0 : Fin 1) i)) k := by
  unfold body
  refine (pay1_at _ _ _ _ _ _ s k).trans ?_
  refine congrArg (normed · _ k) (funext fun i => ?_)
  unfold merged
  rw [pay8_at, pay2_at, cols_plane, cols_plane, cols_plane, cols_plane]
  rfl

variable (m : (ℓ : Loc nD τ sig) → Buf (Elt Ideal) ℓ)

/-! ## The arrays and the blocks -/

theorem V_g (c : Dev nD) : V m c main_v0 =
    broadcastInDim S1x1024 ![1] bcast_S1024_S1x1024_1 (m ((c : Thread nD τ).loc main_arg3)) := by
  unfold V
  after_results_simp <;> (try dsimp only [Matrix.cons_val]) <;> (try after_results_simp) <;> rfl

theorem V_out (c : Dev nD) : V m c main_v1 = m ((c : Thread nD τ).loc main_arg4) := by
  unfold V
  after_results_simp <;> (try dsimp only [Matrix.cons_val]) <;> (try after_results_simp) <;> rfl

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 4) = 0 ∧ win0_2.index t (1 : Fin 4) = 0 ∧ win0_2.index t (2 : Fin 4) = t.val ∧ win0_2.index t (3 : Fin 4) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 32 + t.val ∧ win0_4.index t (1 : Fin 2) = 0 :=
  (by decide +kernel : ∀ t : Fin grid0.N, _)

theorem block_h (c : Dev nD) (t : Fin cfg0.N) (s k : Fin 1024) (r : Fin 32768) (hr : r.val = t.val * 1024 + s.val) :
    (iblk m c 0 t : Vec Ideal S1024x1024 .f32) (ix2 s k) = (m ((c : Thread nD τ).loc main_arg0) : Vec Ideal S32768x1024 .f32) (ix2 r k) := by
  rw [← V_main_arg0 m c]
  refine congrArg (V m c main_arg0 : Vec Ideal S32768x1024 .f32) (?_ : ((cfg0.win 0).blk t).view.emb (ix2 s k) = ix2 r k)
  obtain ⟨e0, e1⟩ := index_0 t
  funext x; apply Fin.ext
  match x with
  | ⟨0, _⟩ => show win0_0.index t (0 : Fin 2) * 1024 + 1 * s.val = r.val; omega
  | ⟨1, _⟩ => show win0_0.index t (1 : Fin 2) * 1024 + 1 * k.val = k.val; omega

theorem block_gates (c : Dev nD) (t : Fin cfg0.N) (s : Fin 1024) (k : Fin 128) (r : Fin 32768) (hr : r.val = t.val * 1024 + s.val) :
    (iblk m c 1 t : Vec Ideal S1024x128 .f32) (ix2 s k) = (m ((c : Thread nD τ).loc main_arg1) : Vec Ideal S32768x128 .f32) (ix2 r k) := by
  rw [← V_main_arg1 m c]
  refine congrArg (V m c main_arg1 : Vec Ideal S32768x128 .f32) (?_ : ((cfg0.win 1).blk t).view.emb (ix2 s k) = ix2 r k)
  obtain ⟨e0, e1⟩ := index_1 t
  funext x; apply Fin.ext
  match x with
  | ⟨0, _⟩ => show win0_1.index t (0 : Fin 2) * 1024 + 1 * s.val = r.val; omega
  | ⟨1, _⟩ => show win0_1.index t (1 : Fin 2) * 128 + 1 * k.val = k.val; omega

theorem block_words (c : Dev nD) (t : Fin cfg0.N) (j : Fin 4) (p : Fin 2) (s : Fin 1024) (q : Fin 256) (r : Fin 32768) (hr : r.val = t.val * 1024 + s.val) :
    (iblk m c 2 t : Vec Ideal S4x2x1024x256 .i32) (ix4 j p s q) = (m ((c : Thread nD τ).loc main_arg2) : Vec Ideal S4x2x32768x256 .i32) (ix4 j p r q) := by
  rw [← V_main_arg2 m c]
  refine congrArg (V m c main_arg2 : Vec Ideal S4x2x32768x256 .i32) (?_ : ((cfg0.win 2).blk t).view.emb (ix4 j p s q) = ix4 j p r q)
  obtain ⟨e0, e1, e2, e3⟩ := index_2 t
  funext x; apply Fin.ext
  match x with
  | ⟨0, _⟩ => show win0_2.index t (0 : Fin 4) * 4 + 1 * j.val = j.val; omega
  | ⟨1, _⟩ => show win0_2.index t (1 : Fin 4) * 2 + 1 * p.val = p.val; omega
  | ⟨2, _⟩ => show win0_2.index t (2 : Fin 4) * 1024 + 1 * s.val = r.val; omega
  | ⟨3, _⟩ => show win0_2.index t (3 : Fin 4) * 256 + 1 * q.val = q.val; omega

theorem block_scale (c : Dev nD) (t : Fin cfg0.N) (k : Fin 1024) :
    (iblk m c 3 t : Vec Ideal S1x1024 .f32) (ix2 0 k) = (m ((c : Thread nD τ).loc main_arg3) : Vec Ideal S1024 .f32) (ix1 k) := by
  have h1 : (iblk m c 3 t : Vec Ideal S1x1024 .f32) (ix2 0 k) = (V m c main_v0 : Vec Ideal S1x1024 .f32) (ix2 0 k) := by
    refine congrArg (V m c main_v0 : Vec Ideal S1x1024 .f32) (?_ : ((cfg0.win 3).blk t).view.emb (ix2 0 k) = ix2 0 k)
    obtain ⟨e0, e1⟩ := index_3 t
    funext x; apply Fin.ext
    match x with
    | ⟨0, _⟩ => show win0_3.index t (0 : Fin 2) * 1 + 1 * 0 = 0; omega
    | ⟨1, _⟩ => show win0_3.index t (1 : Fin 2) * 1024 + 1 * k.val = k.val; omega
  rw [h1, V_g]
  pointwise []

/-! ## The result -/

/-- The result, by its shape. -/
def outArr (c : Dev nD) : Vec Ideal S65536x1024 .f32 := (dats m 0 c).arrAt 4 cfg0.N

theorem not_covered (t : Fin cfg0.N) (x : S1024x1024.Idx) (r : Fin 65536) (k : Fin 1024) (hr : r.val < 32768)
    (hx : ((cfg0.win 4).blk t).view.emb x = ix2 r k) : False := by
  obtain ⟨e0, e1⟩ := index_4 t
  have : win0_4.index t (0 : Fin 2) * 1024 + 1 * (x 0).val = r.val := congrArg (fun i : S65536x1024.Idx => (i 0).val) hx
  omega

/-- A row of the first group is as it was given. -/
theorem out_kept (c : Dev nD) (r : Fin 65536) (k : Fin 1024) (hr : r.val < 32768) :
    outArr m c (ix2 r k) = (m ((c : Thread nD τ).loc main_arg4) : Vec Ideal S65536x1024 .f32) (ix2 r k) := by
  have h := Value.entry4 m c (ix2 r k) fun t _ hm => by
    obtain ⟨x, hx⟩ := View.exists_emb_of_mem_set _ hm
    exact not_covered t x r k hr hx
  exact h.trans (congrFun (V_out m c) _)

/-- A row of the second group is what the body computes of its blocks. -/
theorem out_written (c : Dev nD) (r : Fin 65536) (k : Fin 1024) (t : Fin cfg0.N) (s : Fin 1024) (hr : r.val = 32768 + t.val * 1024 + s.val) :
    outArr m c (ix2 r k) = body (iblk m c 0 t) (iblk m c 1 t) (iblk m c 2 t) (iblk m c 3 t) (ix2 s k) := by
  have h := (Value.blocks4 m c t (flush0_4 t)).trans (Value.flushed4_A m c t)
  rw [out_eq] at h
  have e : outArr m c (ix2 r k) = ((cfg0.win 4).blk t).view.read (Elt Ideal) ((dats m 0 c).arrAt 4 cfg0.N) (ix2 s k) := by
    refine congrArg (outArr m c) (?_ : ix2 r k = ((cfg0.win 4).blk t).view.emb (ix2 s k))
    obtain ⟨e0, e1⟩ := index_4 t
    funext x; apply Fin.ext
    match x with
    | ⟨0, _⟩ => show r.val = win0_4.index t (0 : Fin 2) * 1024 + 1 * s.val; omega
    | ⟨1, _⟩ => show k.val = win0_4.index t (1 : Fin 2) * 1024 + 1 * k.val; omega
  exact e.trans (congrFun h _)

/-- The call's result is the reference's. -/
theorem out_ref (c : Dev nD) : outArr m c = layerRef (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  obtain ⟨r, k, rfl⟩ : ∃ (r : Fin 65536) (k : Fin 1024), i = ix2 r k := ⟨i 0, i 1, eq_ix2 i⟩
  refine Eq.trans ?_ (layerRef_at _ _ _ _ _ r k).symm
  split
  · rename_i h
    exact out_kept m c r k h
  · rename_i h
    have hN : cfg0.N = 32 := by decide
    rw [out_written m c r k ⟨(r.val - 32768) / 1024, by omega⟩ (⟨(r.val - 32768) % 1024, by omega⟩ : Fin 1024) (by show r.val = 32768 + (r.val - 32768) / 1024 * 1024 + (r.val - 32768) % 1024; omega),
      body_at, normRef_at]
    have hr : (⟨r.val - 32768, by omega⟩ : Fin 32768).val = (r.val - 32768) / 1024 * 1024 + (r.val - 32768) % 1024 := by
      show r.val - 32768 = _; omega
    refine congrArg₂ (fun S g => normed S g k) (funext fun i => ?_) (funext fun i => block_scale m c _ i)
    refine Eq.trans ?_ (streamRef_at _ _ _ _ i).symm
    refine congr (congr (congr (congrArg stream (funext fun i => ?_)) (funext fun j => ?_)) (funext fun j => funext fun i => ?_)) rfl
    · exact block_h m c _ _ i _ hr
    · exact block_gates m c _ _ _ _ hr
    · refine Eq.trans ?_ (rowsRef_at _ j _ i).symm
      unfold wordCols
      exact congrArg (part · i) (block_words m c _ j _ _ _ _ hr)

end Cert.Proof.Weighed

end
-- ==== Proof.lean ====
/-
  The certificate's claims. The gather: both printings of the kernel leave in the output the table's rows the list names
  (`Launch`), and the reference's composed term is that same array where every word names a row (`Lookup`). The projection:
  the call's outputs (`Arrays`) and the reference's (`Ref`) are at each row and column the same sum over a row's entries. The
  experts: the tables follow from the counts (`Tables`), the call runs at them (`Rounds`, and `RoundsW` over bits), and its
  output and the reference's are at each place the same two layers of one row (`Agree`). The weighted sum: the
  call's body and the reference are at each row and column one norm of one sum (`Weighed`), so the results agree (`Combine`).
-/
module

public import proofs.«01_k».proof.Defs
public import proofs.«01_k».proof.Proof.Gen.Kernel3
public import proofs.«01_k».proof.Proof.Gen.Kernel3Ideal
public import proofs.«01_k».proof.Proof.Gen.Kernel3.Skeleton
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Pre_routed
public import proofs.«01_k».proof.Proof.Gen.Kernel3Ideal.Launch
public import proofs.«01_k».proof.Proof.Gen.Kernel3.Launch
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal.Run
public import proofs.«01_k».proof.Proof.Project
public import proofs.«01_k».proof.Proof.Same
public import proofs.«01_k».proof.Proof.Ref
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Gen.Pre_idx_in_table
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Launch
public import proofs.«01_k».proof.Proof.Lookup
public import proofs.«01_k».proof.Proof.ChosenW
public import proofs.«01_k».proof.Proof.Agree
public import proofs.«01_k».proof.Proof.Combine
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem
open Cert.Proof.Fetch (PreOK run_main out gathered lookup QC)

/-- The precondition's word at one element says the list's word is a row of the table. -/
theorem word_ok (v : BitVec 32) (e : IntOp.andi (IntOp.cmpi .sge v 0#32) (IntOp.cmpi .slt v 294912#32) = 1#1) : v.toNat < 294912 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem pre_word {F : FTy → Type} [FloatOps F] (t : Cert.Pre_idx_in_table.S294912x256.Idx → BitVec 32) (ix : Cert.Pre_idx_in_table.S1x262144.Idx → BitVec 32)
    (h : Cert.Pre_idx_in_table.fn (F := F) t ix = fun _ => 1#1) (j : Cert.Pre_idx_in_table.S1x262144.Idx) : (ix j).toNat < 294912 := by
  have e := congrFun h j
  simp only [Cert.Pre_idx_in_table.fn, andi, cmpi, broadcastInDim, constantI] at e
  exact word_ok _ e

theorem ok_ideal (m : (ℓ : Loc Cert.KernelIdeal.nD Cert.KernelIdeal.τ Cert.KernelIdeal.sig) → Buf (Elt Ideal) ℓ) (h : Cert.Pre_KernelIdeal m) :
    PreOK (F := Ideal) m := fun d j => pre_word (F := Ideal) _ _ (h d) j

theorem ok_bits (m : (ℓ : Loc Cert.Kernel.nD Cert.Kernel.τ Cert.Kernel.sig) → Buf (Elt Bits) ℓ) (h : Cert.Pre_Kernel m) :
    PreOK (F := Bits) m := fun d j => pre_word (F := Bits) _ _ (h d) j

/-- The kernel's run over bits: its program is the one `Launch` runs, under its own names. -/
theorem run_bits (m : (ℓ : Loc Cert.Kernel.nD Cert.Kernel.τ Cert.Kernel.sig) → Buf (Elt Bits) ℓ) (g : Dev Cert.Kernel.nD → PrngReg) (h : PreOK (F := Bits) m) :
    θ_run (Cert.Kernel.defs (F := Bits)) (Cert.Kernel.threads (F := Bits)) ⟨m, fun _ => 0, g⟩ (QC (F := Bits) m) :=
  run_main (F := Bits) m g h

theorem frame_Kernel : Cert.quiescent_Kernel := fun m g h =>
  (θ_run Cert.Kernel.defs _ _).mono (fun _ hr => ⟨fun c => ⟨(hr.1 c).2.1, (hr.1 c).1⟩, hr.2⟩) (run_bits m g (ok_bits m h))

theorem frame_KernelIdeal : Cert.quiescent_KernelIdeal := fun m g h =>
  (θ_run Cert.KernelIdeal.defs _ _).mono (fun _ hr => ⟨fun c => ⟨(hr.1 c).2.1, (hr.1 c).1⟩, hr.2⟩) (run_main (F := Ideal) m g (ok_ideal m h))

theorem frame_ReferenceIdeal : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run (F := Ideal) m g)

theorem frame_Reference : Cert.quiescent_Reference := fun m g _ =>
  (θ_run Cert.Reference.defs _ _).mono (fun r hr => ⟨fun c => (hr c).2, sem_eq_zero_of_no_sems (by decide) r.2⟩)
    (Cert.Reference.Value.run (F := Bits) m g)

theorem equal_ideal : Cert.algebraic_KernelIdeal_ReferenceIdeal := by
  intro m g m' g' h hargs
  have hok := ok_ideal m h
  refine ⟨fun c => out (F := Ideal) m c, (θ_run Cert.KernelIdeal.defs _ _).mono (fun _ hr c => ⟨(hr.1 c).2.2, (hr.1 c).2.1, (hr.1 c).1⟩) (run_main (F := Ideal) m g hok),
    (θ_run Cert.ReferenceIdeal.defs _ _).mono (fun _ hr c => ⟨(hr c).1.trans ?_, (hr c).2⟩) (Cert.ReferenceIdeal.Value.run (F := Ideal) m' g')⟩
  rw [(hargs c).1, (hargs c).2]
  exact lookup _ rfl rfl rfl rfl rfl _ _ _ _ _ (hok c)

theorem equal_bits : Cert.bitexact_Kernel_Reference := by
  intro m g m' g' h hargs
  have hok := ok_bits m h
  refine ⟨fun c => out (F := Bits) m c, (θ_run Cert.Kernel.defs _ _).mono (fun _ hr c => ⟨(hr.1 c).2.2, (hr.1 c).2.1, (hr.1 c).1⟩) (run_bits m g hok),
    (θ_run Cert.Reference.defs _ _).mono (fun _ hr c => ⟨(hr c).1.trans ?_, (hr c).2⟩) (Cert.Reference.Value.run (F := Bits) m' g')⟩
  rw [(hargs c).1, (hargs c).2]
  exact lookup _ rfl rfl rfl rfl rfl _ _ _ _ _ (hok c)

/-- The projection over bits: its program is the one `Project` runs, under its own names. -/
theorem frame_Kernel2 : Cert.quiescent_Kernel2 := fun m g _ => by
  have h := Project.run_frame (F := Bits) m g
  rw [defs_same] at h
  exact h

theorem frame_Kernel2Ideal : Cert.quiescent_Kernel2Ideal := fun m g _ => Project.run_frame (F := Ideal) m g

theorem frame_Reference2Ideal : Cert.quiescent_Reference2Ideal := fun m g _ =>
  (θ_run Cert.Reference2Ideal.defs _ _).mono (fun r hr => ⟨fun c => (hr c).2.2, sem_eq_zero_of_no_sems (by decide) r.2⟩)
    (Cert.Reference2Ideal.Value.run (F := Ideal) m g)

theorem equal_project : Cert.algebraic_Kernel2Ideal_Reference2Ideal := fun m g m' g' _ hargs =>
  ⟨fun c => Project.wideOut m c, fun c => Project.narrowOut m c, Project.run_arrays (F := Ideal) m g,
    (θ_run Cert.Reference2Ideal.defs _ _).mono (fun r hr c => by
      obtain ⟨h0, h1, hq⟩ := hr c
      rw [(hargs c).1, (hargs c).2.1, (hargs c).2.2] at h0 h1
      exact ⟨h0.trans (Project.wide_agrees m c), h1.trans (Project.narrow_agrees m c), hq⟩) (Project.run_ref m' g')⟩

theorem frame_Kernel3Ideal : Cert.quiescent_Kernel3Ideal := fun m g h =>
  (θ_run Cert.Kernel3Ideal.defs _ _).mono (fun _ hr => ⟨fun c => (hr.1 c).2, hr.2⟩)
    (Expert.run_arrays m g (Expert.given (Expert.plan_sound m (Plan.counted _ _ _ _ _ _ (h ⟨0, Nat.one_pos⟩))))
      (Expert.good (Expert.plan_sound m (Plan.counted _ _ _ _ _ _ (h ⟨0, Nat.one_pos⟩)))) (Expert.plan_ref m))

theorem frame_Kernel3 : Cert.quiescent_Kernel3 := fun m g h =>
  (θ_run Cert.Kernel3.defs _ _).mono (fun _ hr => ⟨fun c => (hr.1 c).2, hr.2⟩)
    (Worded.run_arrays m g ⟨Worded.plan m, Worded.admitted (Worded.plan_sound m (Plan.counted _ _ _ _ _ _ (h ⟨0, Nat.one_pos⟩)))⟩
      (Worded.good (Worded.plan_sound m (Plan.counted _ _ _ _ _ _ (h ⟨0, Nat.one_pos⟩)))) (Worded.plan_ref m))

theorem frame_Reference3Ideal : Cert.quiescent_Reference3Ideal := fun m g _ =>
  (θ_run Cert.Reference3Ideal.defs _ _).mono (fun r hr => ⟨fun c => (hr c).2, sem_eq_zero_of_no_sems (by decide) r.2⟩)
    (Cert.Reference3Ideal.Value.run (F := Ideal) m g)

open Cert.Kernel3Ideal IdealRules.bf16_pair in
/-- What the idealization changed in the experts' call: words that hold two bfloat16 numbers, and the constant of the exponential. -/
theorem same_experts : Cert.preserves_Kernel3_Kernel3Ideal :=
  ⟨statement S1x1024x256 S1x512x256, selectZeroStatement S512x256, statement S1024x256 S512x256,
    IdealRules.named_const.statement κ "neg_log2_e" _ _ _ rfl, packStatement S512x512⟩

theorem equal_experts : Cert.algebraic_Kernel3Ideal_Reference3Ideal := by
  intro m g m' g' h hargs
  have hf := Plan.counted _ _ _ _ _ _ (h ⟨0, Nat.one_pos⟩)
  refine ⟨fun c => Expert.outArr m (Expert.given (Expert.plan_sound m hf)) c,
    (θ_run Cert.Kernel3Ideal.defs _ _).mono (fun _ hr c => ⟨(hr.1 c).1.trans (Expert.out_final m _ c), (hr.1 c).2⟩)
      (Expert.run_arrays m g (Expert.given (Expert.plan_sound m hf)) (Expert.good (Expert.plan_sound m hf)) (Expert.plan_ref m)),
    (θ_run Cert.Reference3Ideal.defs _ _).mono (fun _ hr c => ⟨(hr c).1.trans ?_, (hr c).2⟩) (Cert.Reference3Ideal.Value.run (F := Ideal) m' g')⟩
  refine (Moe.res_eq m' c).trans ?_
  obtain ⟨e0, e1, e2, e3, e4, e5⟩ := hargs c
  rw [e0, e1, e2, e3, e4, e5]
  exact Expert.moe_agrees m hf c

theorem frame_Kernel4 : Cert.quiescent_Kernel4 := fun m g _ => Cert.Kernel4.Gen.frame m g

theorem frame_Kernel4Ideal : Cert.quiescent_Kernel4Ideal := fun m g _ => Cert.Kernel4Ideal.Gen.frame m g

theorem frame_Reference4Ideal : Cert.quiescent_Reference4Ideal := fun m g _ =>
  (θ_run Cert.Reference4Ideal.defs _ _).mono (fun r hr => ⟨fun c => (hr c).2, sem_eq_zero_of_no_sems (by decide) r.2⟩)
    (Cert.Reference4Ideal.Value.run (F := Ideal) m g)

theorem equal_combine : Cert.algebraic_Kernel4Ideal_Reference4Ideal := by
  intro m g m' g' _ hargs
  refine ⟨fun c => Weighed.outArr m c, Cert.Kernel4Ideal.Value.run_blocks (F := Ideal) m g,
    (θ_run Cert.Reference4Ideal.defs _ _).mono (fun _ hr c => ⟨(hr c).1.trans ?_, (hr c).2⟩) (Cert.Reference4Ideal.Value.run (F := Ideal) m' g')⟩
  refine Eq.trans ?_ (Weighed.out_ref m c).symm
  obtain ⟨e0, e1, e2, e3, e4⟩ := hargs c
  rw [e0, e1, e2, e3, e4]
  rfl

theorem claim : Cert.Claim := ⟨Cert.Kernel.Gen.facts, Cert.KernelIdeal.Gen.facts, Cert.ReferenceIdeal.Gen.facts, Cert.Reference.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Pre_idx_in_table.Gen.facts, Cert.Pre_routed.Gen.facts,
  frame_Kernel, frame_KernelIdeal, frame_ReferenceIdeal, fun m g _ => frame_ReferenceIdeal m g trivial, frame_Reference,
  frame_Kernel2, frame_Kernel2Ideal, frame_Reference2Ideal, frame_Kernel3, frame_Kernel3Ideal, frame_Reference3Ideal,
  fun m g _ => frame_Reference3Ideal m g trivial, frame_Kernel4, frame_Kernel4Ideal, frame_Reference4Ideal, trivial, equal_ideal, equal_bits, trivial, equal_project, same_experts, equal_experts, trivial, equal_combine⟩

end Cert.Proof

end
